-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S16384x200 : Shape := ⟨2, ![16384, 200]⟩
abbrev S100000 : Shape := ⟨1, ![100000]⟩
abbrev S_ : Shape := ⟨0, ![]⟩

class Facts : Prop where
  bcast_S_S16384x200 : S_.BroadcastsInDim S16384x200 (![] : Fin 0 → Fin S16384x200.rank)
  reducesTo_S16384x200_S_d0_1 : S16384x200.ReducesTo [0, 1] S_
  h_S_ : 0 < S_.numel

variable [Facts]

def fn {F : FTy → Type} [FloatOps F] (main_arg0 : IVec S16384x200 32) (main_arg1 : FVec F S100000 .f32) : IVec S_ 1 :=
  let main_c : IVec S_ 32 := constantI S_ 32 0#32
  let main_v0 : IVec S16384x200 32 := broadcastInDim S16384x200 ![] bcast_S_S16384x200 main_c
  let main_v1 : IVec S16384x200 1 := cmpi .sge main_arg0 main_v0
  let main_c_0 : IVec S_ 32 := constantI S_ 32 100000#32
  let main_v2 : IVec S16384x200 32 := broadcastInDim S16384x200 ![] bcast_S_S16384x200 main_c_0
  let main_v3 : IVec S16384x200 1 := cmpi .slt main_arg0 main_v2
  let main_v4 : IVec S16384x200 1 := andi main_v1 main_v3
  let main_c_1 : IVec S_ 1 := constantI S_ 1 1#1
  let main_v5 : IVec S_ 1 := (fun x v => Host.reduce IntOp.andi x v reducesTo_S16384x200_S_d0_1 h_S_) main_v4 main_c_1
  main_v5
-- ==== Kernel.lean ====
abbrev S16384x200 : Shape := ⟨2, ![16384, 200]⟩
abbrev S100000 : Shape := ⟨1, ![100000]⟩
abbrev S32x100000 : Shape := ⟨2, ![32, 100000]⟩
abbrev S32x200 : Shape := ⟨2, ![32, 200]⟩
abbrev S_ : Shape := ⟨0, ![]⟩
abbrev S16 : Shape := ⟨1, ![16]⟩
abbrev S1x16 : Shape := ⟨2, ![1, 16]⟩
abbrev S1x100000 : Shape := ⟨2, ![1, 100000]⟩
abbrev S1x1 : Shape := ⟨2, ![1, 1]⟩
abbrev S1x1x100000 : Shape := ⟨3, ![1, 1, 100000]⟩
abbrev S1 : Shape := ⟨1, ![1]⟩
abbrev S1x1x1 : Shape := ⟨3, ![1, 1, 1]⟩

abbrev nBuf : Table → Nat
  | .hbm => 6
  | .local .tc .vmem => 2
  | .local .tc .smem => 1
  | .local .scVector .vmem => 3
  | _ => 0

abbrev bufTy : (tb : Table) → Fin (nBuf tb) → BufTy
  | .hbm, ⟨0, _⟩ => ⟨S16384x200, .i32⟩
  | .hbm, ⟨1, _⟩ => ⟨S100000, .f32⟩
  | .hbm, ⟨2, _⟩ => ⟨S32x100000, .i32⟩
  | .hbm, ⟨3, _⟩ => ⟨S1x100000, .f32⟩
  | .hbm, ⟨4, _⟩ => ⟨S1x1, .f32⟩
  | .hbm, ⟨5, _⟩ => ⟨S_, .f32⟩
  | .local .tc .vmem, ⟨0, _⟩ => ⟨S32x100000, .i32⟩
  | .local .tc .vmem, ⟨1, _⟩ => ⟨S1x100000, .f32⟩
  | .local .tc .smem, ⟨0, _⟩ => ⟨S1x1, .f32⟩
  | .local .scVector .vmem, ⟨0, _⟩ => ⟨S100000, .i32⟩
  | .local .scVector .vmem, ⟨1, _⟩ => ⟨S32x200, .i32⟩
  | .local .scVector .vmem, ⟨2, _⟩ => ⟨S32x200, .i32⟩
  | _, _ => ⟨S16384x200, .i32⟩

abbrev bufScoped : (cs : CoreSpace) → Fin (nBuf (.local .tc cs)) → Bool
  | .vmem, ⟨0, _⟩ => true
  | .vmem, ⟨1, _⟩ => true
  | .smem, ⟨0, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => false
  | ⟨1, _⟩ => false
  | ⟨2, _⟩ => false
  | ⟨3, _⟩ => true
  | ⟨4, _⟩ => true
  | ⟨5, _⟩ => true
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_arg0_scv : Ref sig .scVector := ⟨.hbm, 0, rfl⟩
abbrev main_v0_scv : Ref sig .scVector := ⟨.hbm, 2, rfl⟩
abbrev cc1_stg0_0 : Ref sig .tc := ⟨.vmem, 0, rfl⟩
abbrev cc1_stg1_0 : Ref sig .tc := ⟨.vmem, 1, rfl⟩
abbrev cc1_stg2_0 : Ref sig .tc := ⟨.smem, 0, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_sem0_0 : DmaSem sig := 3
abbrev cc1_sem1_0 : DmaSem sig := 4
abbrev cc1_sem2_0 : DmaSem sig := 5
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32_0 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v8 : BitVec 32 := Scalar.addi v2 c0_i32_0
  let c0_i32_1 : BitVec 32 := 0#32
  ![v8.toNat, 0]
@[reducible] def k0_t1_loop : Scf.Loop 32 :=
  let c0_i32_5 : BitVec 32 := 0#32
  let c6250_i32 : BitVec 32 := 6250#32
  let v14 : BitVec 32 := Scalar.addi c0_i32_5 c6250_i32
  let c1_i32_6 : BitVec 32 := 1#32
  ⟨c0_i32_5, v14, c1_i32_6⟩
def k0_off2 (k0_t1 : Fin k0_t1_loop.trips) : Fin 1 → Nat :=
  let c0_i32_133 : BitVec 32 := 0#32
  let c0_i32_5 : BitVec 32 := 0#32
  let c1_i32_6 : BitVec 32 := 1#32
  let arg9 : BitVec 32 := Scf.iv c0_i32_5 c1_i32_6 k0_t1
  let c1_i32_132 : BitVec 32 := 1#32
  let v105 : BitVec 32 := Scalar.muli arg9 c1_i32_132
  let v106 : BitVec 32 := Scalar.addi c0_i32_133 v105
  let c16_i32 : BitVec 32 := 16#32
  let v107 : BitVec 32 := Scalar.muli v106 c16_i32
  let v108 : Index := Scalar.indexCast v107
  ![v108.toNat]
@[reducible] def k0_t2_loop : Scf.Loop 32 :=
  let c0_i32_10 : BitVec 32 := 0#32
  let c32_i32_11 : BitVec 32 := 32#32
  let v17 : BitVec 32 := Scalar.addi c0_i32_10 c32_i32_11
  let c1_i32_12 : BitVec 32 := 1#32
  ⟨c0_i32_10, v17, c1_i32_12⟩
def k0_off3 (k0_t2 : Fin k0_t2_loop.trips) : Fin 2 → Nat :=
  let c0_i32_133 : BitVec 32 := 0#32
  let c0_i32_10 : BitVec 32 := 0#32
  let c1_i32_12 : BitVec 32 := 1#32
  let arg9 : BitVec 32 := Scf.iv c0_i32_10 c1_i32_12 k0_t2
  let c1_i32_132 : BitVec 32 := 1#32
  let v105 : BitVec 32 := Scalar.muli arg9 c1_i32_132
  let v106 : BitVec 32 := Scalar.addi c0_i32_133 v105
  let v107 : Index := Scalar.indexCast v106
  let c0 : Index := 0#32
  ![v107.toNat, 0]

def k0_chk1 (v108 : IVec S16 32) : Prop :=
  (∀ a x, ((![v108] : Fin 1 → IVec S16 32) a x).toNat < S100000.size a)
theorem k0_idx1_inb : ∀ (v108 : IVec S16 32) (k0_hw1 : k0_chk1 v108), ∀ a x, ((![v108] : Fin 1 → IVec S16 32) a x).toNat < S100000.size a := fun v108 k0_hw1 => k0_hw1
def k0_off4 (k0_t2 : Fin k0_t2_loop.trips) : Fin 2 → Nat :=
  let c0_i32_133 : BitVec 32 := 0#32
  let c0_i32_10 : BitVec 32 := 0#32
  let c1_i32_12 : BitVec 32 := 1#32
  let arg9 : BitVec 32 := Scf.iv c0_i32_10 c1_i32_12 k0_t2
  let c1_i32_132 : BitVec 32 := 1#32
  let v105 : BitVec 32 := Scalar.muli arg9 c1_i32_132
  let v106 : BitVec 32 := Scalar.addi c0_i32_133 v105
  let v109 : Index := Scalar.indexCast v106
  let c16 : Index := 16#32
  ![v109.toNat, 16]

def k0_chk2 (v110 : IVec S16 32) : Prop :=
  (∀ a x, ((![v110] : Fin 1 → IVec S16 32) a x).toNat < S100000.size a)
theorem k0_idx2_inb : ∀ (v110 : IVec S16 32) (k0_hw2 : k0_chk2 v110), ∀ a x, ((![v110] : Fin 1 → IVec S16 32) a x).toNat < S100000.size a := fun v110 k0_hw2 => k0_hw2
def k0_off5 (k0_t2 : Fin k0_t2_loop.trips) : Fin 2 → Nat :=
  let c0_i32_133 : BitVec 32 := 0#32
  let c0_i32_10 : BitVec 32 := 0#32
  let c1_i32_12 : BitVec 32 := 1#32
  let arg9 : BitVec 32 := Scf.iv c0_i32_10 c1_i32_12 k0_t2
  let c1_i32_132 : BitVec 32 := 1#32
  let v105 : BitVec 32 := Scalar.muli arg9 c1_i32_132
  let v106 : BitVec 32 := Scalar.addi c0_i32_133 v105
  let v111 : Index := Scalar.indexCast v106
  let c32 : Index := 32#32
  ![v111.toNat, 32]

def k0_chk3 (v112 : IVec S16 32) : Prop :=
  (∀ a x, ((![v112] : Fin 1 → IVec S16 32) a x).toNat < S100000.size a)
theorem k0_idx3_inb : ∀ (v112 : IVec S16 32) (k0_hw3 : k0_chk3 v112), ∀ a x, ((![v112] : Fin 1 → IVec S16 32) a x).toNat < S100000.size a := fun v112 k0_hw3 => k0_hw3
def k0_off6 (k0_t2 : Fin k0_t2_loop.trips) : Fin 2 → Nat :=
  let c0_i32_133 : BitVec 32 := 0#32
  let c0_i32_10 : BitVec 32 := 0#32
  let c1_i32_12 : BitVec 32 := 1#32
  let arg9 : BitVec 32 := Scf.iv c0_i32_10 c1_i32_12 k0_t2
  let c1_i32_132 : BitVec 32 := 1#32
  let v105 : BitVec 32 := Scalar.muli arg9 c1_i32_132
  let v106 : BitVec 32 := Scalar.addi c0_i32_133 v105
  let v113 : Index := Scalar.indexCast v106
  let c48 : Index := 48#32
  ![v113.toNat, 48]

def k0_chk4 (v114 : IVec S16 32) : Prop :=
  (∀ a x, ((![v114] : Fin 1 → IVec S16 32) a x).toNat < S100000.size a)
theorem k0_idx4_inb : ∀ (v114 : IVec S16 32) (k0_hw4 : k0_chk4 v114), ∀ a x, ((![v114] : Fin 1 → IVec S16 32) a x).toNat < S100000.size a := fun v114 k0_hw4 => k0_hw4
def k0_off7 (k0_t2 : Fin k0_t2_loop.trips) : Fin 2 → Nat :=
  let c0_i32_133 : BitVec 32 := 0#32
  let c0_i32_10 : BitVec 32 := 0#32
  let c1_i32_12 : BitVec 32 := 1#32
  let arg9 : BitVec 32 := Scf.iv c0_i32_10 c1_i32_12 k0_t2
  let c1_i32_132 : BitVec 32 := 1#32
  let v105 : BitVec 32 := Scalar.muli arg9 c1_i32_132
  let v106 : BitVec 32 := Scalar.addi c0_i32_133 v105
  let v115 : Index := Scalar.indexCast v106
  let c64 : Index := 64#32
  ![v115.toNat, 64]

def k0_chk5 (v116 : IVec S16 32) : Prop :=
  (∀ a x, ((![v116] : Fin 1 → IVec S16 32) a x).toNat < S100000.size a)
theorem k0_idx5_inb : ∀ (v116 : IVec S16 32) (k0_hw5 : k0_chk5 v116), ∀ a x, ((![v116] : Fin 1 → IVec S16 32) a x).toNat < S100000.size a := fun v116 k0_hw5 => k0_hw5
def k0_off8 (k0_t2 : Fin k0_t2_loop.trips) : Fin 2 → Nat :=
  let c0_i32_133 : BitVec 32 := 0#32
  let c0_i32_10 : BitVec 32 := 0#32
  let c1_i32_12 : BitVec 32 := 1#32
  let arg9 : BitVec 32 := Scf.iv c0_i32_10 c1_i32_12 k0_t2
  let c1_i32_132 : BitVec 32 := 1#32
  let v105 : BitVec 32 := Scalar.muli arg9 c1_i32_132
  let v106 : BitVec 32 := Scalar.addi c0_i32_133 v105
  let v117 : Index := Scalar.indexCast v106
  let c80 : Index := 80#32
  ![v117.toNat, 80]

def k0_chk6 (v118 : IVec S16 32) : Prop :=
  (∀ a x, ((![v118] : Fin 1 → IVec S16 32) a x).toNat < S100000.size a)
theorem k0_idx6_inb : ∀ (v118 : IVec S16 32) (k0_hw6 : k0_chk6 v118), ∀ a x, ((![v118] : Fin 1 → IVec S16 32) a x).toNat < S100000.size a := fun v118 k0_hw6 => k0_hw6
def k0_off9 (k0_t2 : Fin k0_t2_loop.trips) : Fin 2 → Nat :=
  let c0_i32_133 : BitVec 32 := 0#32
  let c0_i32_10 : BitVec 32 := 0#32
  let c1_i32_12 : BitVec 32 := 1#32
  let arg9 : BitVec 32 := Scf.iv c0_i32_10 c1_i32_12 k0_t2
  let c1_i32_132 : BitVec 32 := 1#32
  let v105 : BitVec 32 := Scalar.muli arg9 c1_i32_132
  let v106 : BitVec 32 := Scalar.addi c0_i32_133 v105
  let v119 : Index := Scalar.indexCast v106
  let c96 : Index := 96#32
  ![v119.toNat, 96]

def k0_chk7 (v120 : IVec S16 32) : Prop :=
  (∀ a x, ((![v120] : Fin 1 → IVec S16 32) a x).toNat < S100000.size a)
theorem k0_idx7_inb : ∀ (v120 : IVec S16 32) (k0_hw7 : k0_chk7 v120), ∀ a x, ((![v120] : Fin 1 → IVec S16 32) a x).toNat < S100000.size a := fun v120 k0_hw7 => k0_hw7
def k0_off10 (k0_t2 : Fin k0_t2_loop.trips) : Fin 2 → Nat :=
  let c0_i32_133 : BitVec 32 := 0#32
  let c0_i32_10 : BitVec 32 := 0#32
  let c1_i32_12 : BitVec 32 := 1#32
  let arg9 : BitVec 32 := Scf.iv c0_i32_10 c1_i32_12 k0_t2
  let c1_i32_132 : BitVec 32 := 1#32
  let v105 : BitVec 32 := Scalar.muli arg9 c1_i32_132
  let v106 : BitVec 32 := Scalar.addi c0_i32_133 v105
  let v121 : Index := Scalar.indexCast v106
  let c112 : Index := 112#32
  ![v121.toNat, 112]

def k0_chk8 (v122 : IVec S16 32) : Prop :=
  (∀ a x, ((![v122] : Fin 1 → IVec S16 32) a x).toNat < S100000.size a)
theorem k0_idx8_inb : ∀ (v122 : IVec S16 32) (k0_hw8 : k0_chk8 v122), ∀ a x, ((![v122] : Fin 1 → IVec S16 32) a x).toNat < S100000.size a := fun v122 k0_hw8 => k0_hw8
def k0_off11 (k0_t2 : Fin k0_t2_loop.trips) : Fin 2 → Nat :=
  let c0_i32_133 : BitVec 32 := 0#32
  let c0_i32_10 : BitVec 32 := 0#32
  let c1_i32_12 : BitVec 32 := 1#32
  let arg9 : BitVec 32 := Scf.iv c0_i32_10 c1_i32_12 k0_t2
  let c1_i32_132 : BitVec 32 := 1#32
  let v105 : BitVec 32 := Scalar.muli arg9 c1_i32_132
  let v106 : BitVec 32 := Scalar.addi c0_i32_133 v105
  let v123 : Index := Scalar.indexCast v106
  let c128 : Index := 128#32
  ![v123.toNat, 128]

def k0_chk9 (v124 : IVec S16 32) : Prop :=
  (∀ a x, ((![v124] : Fin 1 → IVec S16 32) a x).toNat < S100000.size a)
theorem k0_idx9_inb : ∀ (v124 : IVec S16 32) (k0_hw9 : k0_chk9 v124), ∀ a x, ((![v124] : Fin 1 → IVec S16 32) a x).toNat < S100000.size a := fun v124 k0_hw9 => k0_hw9
def k0_off12 (k0_t2 : Fin k0_t2_loop.trips) : Fin 2 → Nat :=
  let c0_i32_133 : BitVec 32 := 0#32
  let c0_i32_10 : BitVec 32 := 0#32
  let c1_i32_12 : BitVec 32 := 1#32
  let arg9 : BitVec 32 := Scf.iv c0_i32_10 c1_i32_12 k0_t2
  let c1_i32_132 : BitVec 32 := 1#32
  let v105 : BitVec 32 := Scalar.muli arg9 c1_i32_132
  let v106 : BitVec 32 := Scalar.addi c0_i32_133 v105
  let v125 : Index := Scalar.indexCast v106
  let c144 : Index := 144#32
  ![v125.toNat, 144]

def k0_chk10 (v126 : IVec S16 32) : Prop :=
  (∀ a x, ((![v126] : Fin 1 → IVec S16 32) a x).toNat < S100000.size a)
theorem k0_idx10_inb : ∀ (v126 : IVec S16 32) (k0_hw10 : k0_chk10 v126), ∀ a x, ((![v126] : Fin 1 → IVec S16 32) a x).toNat < S100000.size a := fun v126 k0_hw10 => k0_hw10
def k0_off13 (k0_t2 : Fin k0_t2_loop.trips) : Fin 2 → Nat :=
  let c0_i32_133 : BitVec 32 := 0#32
  let c0_i32_10 : BitVec 32 := 0#32
  let c1_i32_12 : BitVec 32 := 1#32
  let arg9 : BitVec 32 := Scf.iv c0_i32_10 c1_i32_12 k0_t2
  let c1_i32_132 : BitVec 32 := 1#32
  let v105 : BitVec 32 := Scalar.muli arg9 c1_i32_132
  let v106 : BitVec 32 := Scalar.addi c0_i32_133 v105
  let v127 : Index := Scalar.indexCast v106
  let c160 : Index := 160#32
  ![v127.toNat, 160]

def k0_chk11 (v128 : IVec S16 32) : Prop :=
  (∀ a x, ((![v128] : Fin 1 → IVec S16 32) a x).toNat < S100000.size a)
theorem k0_idx11_inb : ∀ (v128 : IVec S16 32) (k0_hw11 : k0_chk11 v128), ∀ a x, ((![v128] : Fin 1 → IVec S16 32) a x).toNat < S100000.size a := fun v128 k0_hw11 => k0_hw11
def k0_off14 (k0_t2 : Fin k0_t2_loop.trips) : Fin 2 → Nat :=
  let c0_i32_133 : BitVec 32 := 0#32
  let c0_i32_10 : BitVec 32 := 0#32
  let c1_i32_12 : BitVec 32 := 1#32
  let arg9 : BitVec 32 := Scf.iv c0_i32_10 c1_i32_12 k0_t2
  let c1_i32_132 : BitVec 32 := 1#32
  let v105 : BitVec 32 := Scalar.muli arg9 c1_i32_132
  let v106 : BitVec 32 := Scalar.addi c0_i32_133 v105
  let v129 : Index := Scalar.indexCast v106
  let c176 : Index := 176#32
  ![v129.toNat, 176]

def k0_chk12 (v130 : IVec S16 32) : Prop :=
  (∀ a x, ((![v130] : Fin 1 → IVec S16 32) a x).toNat < S100000.size a)
theorem k0_idx12_inb : ∀ (v130 : IVec S16 32) (k0_hw12 : k0_chk12 v130), ∀ a x, ((![v130] : Fin 1 → IVec S16 32) a x).toNat < S100000.size a := fun v130 k0_hw12 => k0_hw12
def k0_off15 (k0_t2 : Fin k0_t2_loop.trips) : Fin 2 → Nat :=
  let c0_i32_133 : BitVec 32 := 0#32
  let c0_i32_10 : BitVec 32 := 0#32
  let c1_i32_12 : BitVec 32 := 1#32
  let arg9 : BitVec 32 := Scf.iv c0_i32_10 c1_i32_12 k0_t2
  let c1_i32_132 : BitVec 32 := 1#32
  let v105 : BitVec 32 := Scalar.muli arg9 c1_i32_132
  let v106 : BitVec 32 := Scalar.addi c0_i32_133 v105
  let v131 : Index := Scalar.indexCast v106
  let c184 : Index := 184#32
  ![v131.toNat, 184]

def k0_chk13 (v132 : IVec S16 32) : Prop :=
  (∀ a x, ((![v132] : Fin 1 → IVec S16 32) a x).toNat < S100000.size a)
theorem k0_idx13_inb : ∀ (v132 : IVec S16 32) (k0_hw13 : k0_chk13 v132), ∀ a x, ((![v132] : Fin 1 → IVec S16 32) a x).toNat < S100000.size a := fun v132 k0_hw13 => k0_hw13
@[reducible] def k0_t3_loop : Scf.Loop 32 :=
  let c0_i32_18 : BitVec 32 := 0#32
  let c32_i32_19 : BitVec 32 := 32#32
  let v23 : BitVec 32 := Scalar.addi c0_i32_18 c32_i32_19
  let c1_i32_20 : BitVec 32 := 1#32
  ⟨c0_i32_18, v23, c1_i32_20⟩
def k0_off16 (k0_t3 : Fin k0_t3_loop.trips) : Fin 2 → Nat :=
  let c0_i32_133 : BitVec 32 := 0#32
  let c0_i32_18 : BitVec 32 := 0#32
  let c1_i32_20 : BitVec 32 := 1#32
  let arg9 : BitVec 32 := Scf.iv c0_i32_18 c1_i32_20 k0_t3
  let c1_i32_132 : BitVec 32 := 1#32
  let v105 : BitVec 32 := Scalar.muli arg9 c1_i32_132
  let v106 : BitVec 32 := Scalar.addi c0_i32_133 v105
  let v107 : Index := Scalar.indexCast v106
  let c0 : Index := 0#32
  ![v107.toNat, 0]

def k0_chk14 (v108 : IVec S16 32) : Prop :=
  (∀ a x, ((![v108] : Fin 1 → IVec S16 32) a x).toNat < S100000.size a)
theorem k0_idx14_inb : ∀ (v108 : IVec S16 32) (k0_hw14 : k0_chk14 v108), ∀ a x, ((![v108] : Fin 1 → IVec S16 32) a x).toNat < S100000.size a := fun v108 k0_hw14 => k0_hw14
def k0_off17 (k0_t3 : Fin k0_t3_loop.trips) : Fin 2 → Nat :=
  let c0_i32_133 : BitVec 32 := 0#32
  let c0_i32_18 : BitVec 32 := 0#32
  let c1_i32_20 : BitVec 32 := 1#32
  let arg9 : BitVec 32 := Scf.iv c0_i32_18 c1_i32_20 k0_t3
  let c1_i32_132 : BitVec 32 := 1#32
  let v105 : BitVec 32 := Scalar.muli arg9 c1_i32_132
  let v106 : BitVec 32 := Scalar.addi c0_i32_133 v105
  let v109 : Index := Scalar.indexCast v106
  let c16 : Index := 16#32
  ![v109.toNat, 16]

def k0_chk15 (v110 : IVec S16 32) : Prop :=
  (∀ a x, ((![v110] : Fin 1 → IVec S16 32) a x).toNat < S100000.size a)
theorem k0_idx15_inb : ∀ (v110 : IVec S16 32) (k0_hw15 : k0_chk15 v110), ∀ a x, ((![v110] : Fin 1 → IVec S16 32) a x).toNat < S100000.size a := fun v110 k0_hw15 => k0_hw15
def k0_off18 (k0_t3 : Fin k0_t3_loop.trips) : Fin 2 → Nat :=
  let c0_i32_133 : BitVec 32 := 0#32
  let c0_i32_18 : BitVec 32 := 0#32
  let c1_i32_20 : BitVec 32 := 1#32
  let arg9 : BitVec 32 := Scf.iv c0_i32_18 c1_i32_20 k0_t3
  let c1_i32_132 : BitVec 32 := 1#32
  let v105 : BitVec 32 := Scalar.muli arg9 c1_i32_132
  let v106 : BitVec 32 := Scalar.addi c0_i32_133 v105
  let v111 : Index := Scalar.indexCast v106
  let c32 : Index := 32#32
  ![v111.toNat, 32]

def k0_chk16 (v112 : IVec S16 32) : Prop :=
  (∀ a x, ((![v112] : Fin 1 → IVec S16 32) a x).toNat < S100000.size a)
theorem k0_idx16_inb : ∀ (v112 : IVec S16 32) (k0_hw16 : k0_chk16 v112), ∀ a x, ((![v112] : Fin 1 → IVec S16 32) a x).toNat < S100000.size a := fun v112 k0_hw16 => k0_hw16
def k0_off19 (k0_t3 : Fin k0_t3_loop.trips) : Fin 2 → Nat :=
  let c0_i32_133 : BitVec 32 := 0#32
  let c0_i32_18 : BitVec 32 := 0#32
  let c1_i32_20 : BitVec 32 := 1#32
  let arg9 : BitVec 32 := Scf.iv c0_i32_18 c1_i32_20 k0_t3
  let c1_i32_132 : BitVec 32 := 1#32
  let v105 : BitVec 32 := Scalar.muli arg9 c1_i32_132
  let v106 : BitVec 32 := Scalar.addi c0_i32_133 v105
  let v113 : Index := Scalar.indexCast v106
  let c48 : Index := 48#32
  ![v113.toNat, 48]

def k0_chk17 (v114 : IVec S16 32) : Prop :=
  (∀ a x, ((![v114] : Fin 1 → IVec S16 32) a x).toNat < S100000.size a)
theorem k0_idx17_inb : ∀ (v114 : IVec S16 32) (k0_hw17 : k0_chk17 v114), ∀ a x, ((![v114] : Fin 1 → IVec S16 32) a x).toNat < S100000.size a := fun v114 k0_hw17 => k0_hw17
def k0_off20 (k0_t3 : Fin k0_t3_loop.trips) : Fin 2 → Nat :=
  let c0_i32_133 : BitVec 32 := 0#32
  let c0_i32_18 : BitVec 32 := 0#32
  let c1_i32_20 : BitVec 32 := 1#32
  let arg9 : BitVec 32 := Scf.iv c0_i32_18 c1_i32_20 k0_t3
  let c1_i32_132 : BitVec 32 := 1#32
  let v105 : BitVec 32 := Scalar.muli arg9 c1_i32_132
  let v106 : BitVec 32 := Scalar.addi c0_i32_133 v105
  let v115 : Index := Scalar.indexCast v106
  let c64 : Index := 64#32
  ![v115.toNat, 64]

def k0_chk18 (v116 : IVec S16 32) : Prop :=
  (∀ a x, ((![v116] : Fin 1 → IVec S16 32) a x).toNat < S100000.size a)
theorem k0_idx18_inb : ∀ (v116 : IVec S16 32) (k0_hw18 : k0_chk18 v116), ∀ a x, ((![v116] : Fin 1 → IVec S16 32) a x).toNat < S100000.size a := fun v116 k0_hw18 => k0_hw18
def k0_off21 (k0_t3 : Fin k0_t3_loop.trips) : Fin 2 → Nat :=
  let c0_i32_133 : BitVec 32 := 0#32
  let c0_i32_18 : BitVec 32 := 0#32
  let c1_i32_20 : BitVec 32 := 1#32
  let arg9 : BitVec 32 := Scf.iv c0_i32_18 c1_i32_20 k0_t3
  let c1_i32_132 : BitVec 32 := 1#32
  let v105 : BitVec 32 := Scalar.muli arg9 c1_i32_132
  let v106 : BitVec 32 := Scalar.addi c0_i32_133 v105
  let v117 : Index := Scalar.indexCast v106
  let c80 : Index := 80#32
  ![v117.toNat, 80]

def k0_chk19 (v118 : IVec S16 32) : Prop :=
  (∀ a x, ((![v118] : Fin 1 → IVec S16 32) a x).toNat < S100000.size a)
theorem k0_idx19_inb : ∀ (v118 : IVec S16 32) (k0_hw19 : k0_chk19 v118), ∀ a x, ((![v118] : Fin 1 → IVec S16 32) a x).toNat < S100000.size a := fun v118 k0_hw19 => k0_hw19
def k0_off22 (k0_t3 : Fin k0_t3_loop.trips) : Fin 2 → Nat :=
  let c0_i32_133 : BitVec 32 := 0#32
  let c0_i32_18 : BitVec 32 := 0#32
  let c1_i32_20 : BitVec 32 := 1#32
  let arg9 : BitVec 32 := Scf.iv c0_i32_18 c1_i32_20 k0_t3
  let c1_i32_132 : BitVec 32 := 1#32
  let v105 : BitVec 32 := Scalar.muli arg9 c1_i32_132
  let v106 : BitVec 32 := Scalar.addi c0_i32_133 v105
  let v119 : Index := Scalar.indexCast v106
  let c96 : Index := 96#32
  ![v119.toNat, 96]

def k0_chk20 (v120 : IVec S16 32) : Prop :=
  (∀ a x, ((![v120] : Fin 1 → IVec S16 32) a x).toNat < S100000.size a)
theorem k0_idx20_inb : ∀ (v120 : IVec S16 32) (k0_hw20 : k0_chk20 v120), ∀ a x, ((![v120] : Fin 1 → IVec S16 32) a x).toNat < S100000.size a := fun v120 k0_hw20 => k0_hw20
def k0_off23 (k0_t3 : Fin k0_t3_loop.trips) : Fin 2 → Nat :=
  let c0_i32_133 : BitVec 32 := 0#32
  let c0_i32_18 : BitVec 32 := 0#32
  let c1_i32_20 : BitVec 32 := 1#32
  let arg9 : BitVec 32 := Scf.iv c0_i32_18 c1_i32_20 k0_t3
  let c1_i32_132 : BitVec 32 := 1#32
  let v105 : BitVec 32 := Scalar.muli arg9 c1_i32_132
  let v106 : BitVec 32 := Scalar.addi c0_i32_133 v105
  let v121 : Index := Scalar.indexCast v106
  let c112 : Index := 112#32
  ![v121.toNat, 112]

def k0_chk21 (v122 : IVec S16 32) : Prop :=
  (∀ a x, ((![v122] : Fin 1 → IVec S16 32) a x).toNat < S100000.size a)
theorem k0_idx21_inb : ∀ (v122 : IVec S16 32) (k0_hw21 : k0_chk21 v122), ∀ a x, ((![v122] : Fin 1 → IVec S16 32) a x).toNat < S100000.size a := fun v122 k0_hw21 => k0_hw21
def k0_off24 (k0_t3 : Fin k0_t3_loop.trips) : Fin 2 → Nat :=
  let c0_i32_133 : BitVec 32 := 0#32
  let c0_i32_18 : BitVec 32 := 0#32
  let c1_i32_20 : BitVec 32 := 1#32
  let arg9 : BitVec 32 := Scf.iv c0_i32_18 c1_i32_20 k0_t3
  let c1_i32_132 : BitVec 32 := 1#32
  let v105 : BitVec 32 := Scalar.muli arg9 c1_i32_132
  let v106 : BitVec 32 := Scalar.addi c0_i32_133 v105
  let v123 : Index := Scalar.indexCast v106
  let c128 : Index := 128#32
  ![v123.toNat, 128]

def k0_chk22 (v124 : IVec S16 32) : Prop :=
  (∀ a x, ((![v124] : Fin 1 → IVec S16 32) a x).toNat < S100000.size a)
theorem k0_idx22_inb : ∀ (v124 : IVec S16 32) (k0_hw22 : k0_chk22 v124), ∀ a x, ((![v124] : Fin 1 → IVec S16 32) a x).toNat < S100000.size a := fun v124 k0_hw22 => k0_hw22
def k0_off25 (k0_t3 : Fin k0_t3_loop.trips) : Fin 2 → Nat :=
  let c0_i32_133 : BitVec 32 := 0#32
  let c0_i32_18 : BitVec 32 := 0#32
  let c1_i32_20 : BitVec 32 := 1#32
  let arg9 : BitVec 32 := Scf.iv c0_i32_18 c1_i32_20 k0_t3
  let c1_i32_132 : BitVec 32 := 1#32
  let v105 : BitVec 32 := Scalar.muli arg9 c1_i32_132
  let v106 : BitVec 32 := Scalar.addi c0_i32_133 v105
  let v125 : Index := Scalar.indexCast v106
  let c144 : Index := 144#32
  ![v125.toNat, 144]

def k0_chk23 (v126 : IVec S16 32) : Prop :=
  (∀ a x, ((![v126] : Fin 1 → IVec S16 32) a x).toNat < S100000.size a)
theorem k0_idx23_inb : ∀ (v126 : IVec S16 32) (k0_hw23 : k0_chk23 v126), ∀ a x, ((![v126] : Fin 1 → IVec S16 32) a x).toNat < S100000.size a := fun v126 k0_hw23 => k0_hw23
def k0_off26 (k0_t3 : Fin k0_t3_loop.trips) : Fin 2 → Nat :=
  let c0_i32_133 : BitVec 32 := 0#32
  let c0_i32_18 : BitVec 32 := 0#32
  let c1_i32_20 : BitVec 32 := 1#32
  let arg9 : BitVec 32 := Scf.iv c0_i32_18 c1_i32_20 k0_t3
  let c1_i32_132 : BitVec 32 := 1#32
  let v105 : BitVec 32 := Scalar.muli arg9 c1_i32_132
  let v106 : BitVec 32 := Scalar.addi c0_i32_133 v105
  let v127 : Index := Scalar.indexCast v106
  let c160 : Index := 160#32
  ![v127.toNat, 160]

def k0_chk24 (v128 : IVec S16 32) : Prop :=
  (∀ a x, ((![v128] : Fin 1 → IVec S16 32) a x).toNat < S100000.size a)
theorem k0_idx24_inb : ∀ (v128 : IVec S16 32) (k0_hw24 : k0_chk24 v128), ∀ a x, ((![v128] : Fin 1 → IVec S16 32) a x).toNat < S100000.size a := fun v128 k0_hw24 => k0_hw24
def k0_off27 (k0_t3 : Fin k0_t3_loop.trips) : Fin 2 → Nat :=
  let c0_i32_133 : BitVec 32 := 0#32
  let c0_i32_18 : BitVec 32 := 0#32
  let c1_i32_20 : BitVec 32 := 1#32
  let arg9 : BitVec 32 := Scf.iv c0_i32_18 c1_i32_20 k0_t3
  let c1_i32_132 : BitVec 32 := 1#32
  let v105 : BitVec 32 := Scalar.muli arg9 c1_i32_132
  let v106 : BitVec 32 := Scalar.addi c0_i32_133 v105
  let v129 : Index := Scalar.indexCast v106
  let c176 : Index := 176#32
  ![v129.toNat, 176]

def k0_chk25 (v130 : IVec S16 32) : Prop :=
  (∀ a x, ((![v130] : Fin 1 → IVec S16 32) a x).toNat < S100000.size a)
theorem k0_idx25_inb : ∀ (v130 : IVec S16 32) (k0_hw25 : k0_chk25 v130), ∀ a x, ((![v130] : Fin 1 → IVec S16 32) a x).toNat < S100000.size a := fun v130 k0_hw25 => k0_hw25
def k0_off28 (k0_t3 : Fin k0_t3_loop.trips) : Fin 2 → Nat :=
  let c0_i32_133 : BitVec 32 := 0#32
  let c0_i32_18 : BitVec 32 := 0#32
  let c1_i32_20 : BitVec 32 := 1#32
  let arg9 : BitVec 32 := Scf.iv c0_i32_18 c1_i32_20 k0_t3
  let c1_i32_132 : BitVec 32 := 1#32
  let v105 : BitVec 32 := Scalar.muli arg9 c1_i32_132
  let v106 : BitVec 32 := Scalar.addi c0_i32_133 v105
  let v131 : Index := Scalar.indexCast v106
  let c184 : Index := 184#32
  ![v131.toNat, 184]

def k0_chk26 (v132 : IVec S16 32) : Prop :=
  (∀ a x, ((![v132] : Fin 1 → IVec S16 32) a x).toNat < S100000.size a)
theorem k0_idx26_inb : ∀ (v132 : IVec S16 32) (k0_hw26 : k0_chk26 v132), ∀ a x, ((![v132] : Fin 1 → IVec S16 32) a x).toNat < S100000.size a := fun v132 k0_hw26 => k0_hw26
@[reducible] def k0_t4_loop : Scf.Loop 32 :=
  let c0_i32_26 : BitVec 32 := 0#32
  let c32_i32_27 : BitVec 32 := 32#32
  let v29 : BitVec 32 := Scalar.addi c0_i32_26 c32_i32_27
  let c1_i32_28 : BitVec 32 := 1#32
  ⟨c0_i32_26, v29, c1_i32_28⟩
def k0_off29 (k0_t4 : Fin k0_t4_loop.trips) : Fin 2 → Nat :=
  let c0_i32_133 : BitVec 32 := 0#32
  let c0_i32_26 : BitVec 32 := 0#32
  let c1_i32_28 : BitVec 32 := 1#32
  let arg9 : BitVec 32 := Scf.iv c0_i32_26 c1_i32_28 k0_t4
  let c1_i32_132 : BitVec 32 := 1#32
  let v105 : BitVec 32 := Scalar.muli arg9 c1_i32_132
  let v106 : BitVec 32 := Scalar.addi c0_i32_133 v105
  let v107 : Index := Scalar.indexCast v106
  let c0 : Index := 0#32
  ![v107.toNat, 0]

def k0_chk27 (v108 : IVec S16 32) : Prop :=
  (∀ a x, ((![v108] : Fin 1 → IVec S16 32) a x).toNat < S100000.size a)
theorem k0_idx27_inb : ∀ (v108 : IVec S16 32) (k0_hw27 : k0_chk27 v108), ∀ a x, ((![v108] : Fin 1 → IVec S16 32) a x).toNat < S100000.size a := fun v108 k0_hw27 => k0_hw27
def k0_off30 (k0_t4 : Fin k0_t4_loop.trips) : Fin 2 → Nat :=
  let c0_i32_133 : BitVec 32 := 0#32
  let c0_i32_26 : BitVec 32 := 0#32
  let c1_i32_28 : BitVec 32 := 1#32
  let arg9 : BitVec 32 := Scf.iv c0_i32_26 c1_i32_28 k0_t4
  let c1_i32_132 : BitVec 32 := 1#32
  let v105 : BitVec 32 := Scalar.muli arg9 c1_i32_132
  let v106 : BitVec 32 := Scalar.addi c0_i32_133 v105
  let v109 : Index := Scalar.indexCast v106
  let c16 : Index := 16#32
  ![v109.toNat, 16]

def k0_chk28 (v110 : IVec S16 32) : Prop :=
  (∀ a x, ((![v110] : Fin 1 → IVec S16 32) a x).toNat < S100000.size a)
theorem k0_idx28_inb : ∀ (v110 : IVec S16 32) (k0_hw28 : k0_chk28 v110), ∀ a x, ((![v110] : Fin 1 → IVec S16 32) a x).toNat < S100000.size a := fun v110 k0_hw28 => k0_hw28
def k0_off31 (k0_t4 : Fin k0_t4_loop.trips) : Fin 2 → Nat :=
  let c0_i32_133 : BitVec 32 := 0#32
  let c0_i32_26 : BitVec 32 := 0#32
  let c1_i32_28 : BitVec 32 := 1#32
  let arg9 : BitVec 32 := Scf.iv c0_i32_26 c1_i32_28 k0_t4
  let c1_i32_132 : BitVec 32 := 1#32
  let v105 : BitVec 32 := Scalar.muli arg9 c1_i32_132
  let v106 : BitVec 32 := Scalar.addi c0_i32_133 v105
  let v111 : Index := Scalar.indexCast v106
  let c32 : Index := 32#32
  ![v111.toNat, 32]

def k0_chk29 (v112 : IVec S16 32) : Prop :=
  (∀ a x, ((![v112] : Fin 1 → IVec S16 32) a x).toNat < S100000.size a)
theorem k0_idx29_inb : ∀ (v112 : IVec S16 32) (k0_hw29 : k0_chk29 v112), ∀ a x, ((![v112] : Fin 1 → IVec S16 32) a x).toNat < S100000.size a := fun v112 k0_hw29 => k0_hw29
def k0_off32 (k0_t4 : Fin k0_t4_loop.trips) : Fin 2 → Nat :=
  let c0_i32_133 : BitVec 32 := 0#32
  let c0_i32_26 : BitVec 32 := 0#32
  let c1_i32_28 : BitVec 32 := 1#32
  let arg9 : BitVec 32 := Scf.iv c0_i32_26 c1_i32_28 k0_t4
  let c1_i32_132 : BitVec 32 := 1#32
  let v105 : BitVec 32 := Scalar.muli arg9 c1_i32_132
  let v106 : BitVec 32 := Scalar.addi c0_i32_133 v105
  let v113 : Index := Scalar.indexCast v106
  let c48 : Index := 48#32
  ![v113.toNat, 48]

def k0_chk30 (v114 : IVec S16 32) : Prop :=
  (∀ a x, ((![v114] : Fin 1 → IVec S16 32) a x).toNat < S100000.size a)
theorem k0_idx30_inb : ∀ (v114 : IVec S16 32) (k0_hw30 : k0_chk30 v114), ∀ a x, ((![v114] : Fin 1 → IVec S16 32) a x).toNat < S100000.size a := fun v114 k0_hw30 => k0_hw30
def k0_off33 (k0_t4 : Fin k0_t4_loop.trips) : Fin 2 → Nat :=
  let c0_i32_133 : BitVec 32 := 0#32
  let c0_i32_26 : BitVec 32 := 0#32
  let c1_i32_28 : BitVec 32 := 1#32
  let arg9 : BitVec 32 := Scf.iv c0_i32_26 c1_i32_28 k0_t4
  let c1_i32_132 : BitVec 32 := 1#32
  let v105 : BitVec 32 := Scalar.muli arg9 c1_i32_132
  let v106 : BitVec 32 := Scalar.addi c0_i32_133 v105
  let v115 : Index := Scalar.indexCast v106
  let c64 : Index := 64#32
  ![v115.toNat, 64]

def k0_chk31 (v116 : IVec S16 32) : Prop :=
  (∀ a x, ((![v116] : Fin 1 → IVec S16 32) a x).toNat < S100000.size a)
theorem k0_idx31_inb : ∀ (v116 : IVec S16 32) (k0_hw31 : k0_chk31 v116), ∀ a x, ((![v116] : Fin 1 → IVec S16 32) a x).toNat < S100000.size a := fun v116 k0_hw31 => k0_hw31
def k0_off34 (k0_t4 : Fin k0_t4_loop.trips) : Fin 2 → Nat :=
  let c0_i32_133 : BitVec 32 := 0#32
  let c0_i32_26 : BitVec 32 := 0#32
  let c1_i32_28 : BitVec 32 := 1#32
  let arg9 : BitVec 32 := Scf.iv c0_i32_26 c1_i32_28 k0_t4
  let c1_i32_132 : BitVec 32 := 1#32
  let v105 : BitVec 32 := Scalar.muli arg9 c1_i32_132
  let v106 : BitVec 32 := Scalar.addi c0_i32_133 v105
  let v117 : Index := Scalar.indexCast v106
  let c80 : Index := 80#32
  ![v117.toNat, 80]

def k0_chk32 (v118 : IVec S16 32) : Prop :=
  (∀ a x, ((![v118] : Fin 1 → IVec S16 32) a x).toNat < S100000.size a)
theorem k0_idx32_inb : ∀ (v118 : IVec S16 32) (k0_hw32 : k0_chk32 v118), ∀ a x, ((![v118] : Fin 1 → IVec S16 32) a x).toNat < S100000.size a := fun v118 k0_hw32 => k0_hw32
def k0_off35 (k0_t4 : Fin k0_t4_loop.trips) : Fin 2 → Nat :=
  let c0_i32_133 : BitVec 32 := 0#32
  let c0_i32_26 : BitVec 32 := 0#32
  let c1_i32_28 : BitVec 32 := 1#32
  let arg9 : BitVec 32 := Scf.iv c0_i32_26 c1_i32_28 k0_t4
  let c1_i32_132 : BitVec 32 := 1#32
  let v105 : BitVec 32 := Scalar.muli arg9 c1_i32_132
  let v106 : BitVec 32 := Scalar.addi c0_i32_133 v105
  let v119 : Index := Scalar.indexCast v106
  let c96 : Index := 96#32
  ![v119.toNat, 96]

def k0_chk33 (v120 : IVec S16 32) : Prop :=
  (∀ a x, ((![v120] : Fin 1 → IVec S16 32) a x).toNat < S100000.size a)
theorem k0_idx33_inb : ∀ (v120 : IVec S16 32) (k0_hw33 : k0_chk33 v120), ∀ a x, ((![v120] : Fin 1 → IVec S16 32) a x).toNat < S100000.size a := fun v120 k0_hw33 => k0_hw33
def k0_off36 (k0_t4 : Fin k0_t4_loop.trips) : Fin 2 → Nat :=
  let c0_i32_133 : BitVec 32 := 0#32
  let c0_i32_26 : BitVec 32 := 0#32
  let c1_i32_28 : BitVec 32 := 1#32
  let arg9 : BitVec 32 := Scf.iv c0_i32_26 c1_i32_28 k0_t4
  let c1_i32_132 : BitVec 32 := 1#32
  let v105 : BitVec 32 := Scalar.muli arg9 c1_i32_132
  let v106 : BitVec 32 := Scalar.addi c0_i32_133 v105
  let v121 : Index := Scalar.indexCast v106
  let c112 : Index := 112#32
  ![v121.toNat, 112]

def k0_chk34 (v122 : IVec S16 32) : Prop :=
  (∀ a x, ((![v122] : Fin 1 → IVec S16 32) a x).toNat < S100000.size a)
theorem k0_idx34_inb : ∀ (v122 : IVec S16 32) (k0_hw34 : k0_chk34 v122), ∀ a x, ((![v122] : Fin 1 → IVec S16 32) a x).toNat < S100000.size a := fun v122 k0_hw34 => k0_hw34
def k0_off37 (k0_t4 : Fin k0_t4_loop.trips) : Fin 2 → Nat :=
  let c0_i32_133 : BitVec 32 := 0#32
  let c0_i32_26 : BitVec 32 := 0#32
  let c1_i32_28 : BitVec 32 := 1#32
  let arg9 : BitVec 32 := Scf.iv c0_i32_26 c1_i32_28 k0_t4
  let c1_i32_132 : BitVec 32 := 1#32
  let v105 : BitVec 32 := Scalar.muli arg9 c1_i32_132
  let v106 : BitVec 32 := Scalar.addi c0_i32_133 v105
  let v123 : Index := Scalar.indexCast v106
  let c128 : Index := 128#32
  ![v123.toNat, 128]

def k0_chk35 (v124 : IVec S16 32) : Prop :=
  (∀ a x, ((![v124] : Fin 1 → IVec S16 32) a x).toNat < S100000.size a)
theorem k0_idx35_inb : ∀ (v124 : IVec S16 32) (k0_hw35 : k0_chk35 v124), ∀ a x, ((![v124] : Fin 1 → IVec S16 32) a x).toNat < S100000.size a := fun v124 k0_hw35 => k0_hw35
def k0_off38 (k0_t4 : Fin k0_t4_loop.trips) : Fin 2 → Nat :=
  let c0_i32_133 : BitVec 32 := 0#32
  let c0_i32_26 : BitVec 32 := 0#32
  let c1_i32_28 : BitVec 32 := 1#32
  let arg9 : BitVec 32 := Scf.iv c0_i32_26 c1_i32_28 k0_t4
  let c1_i32_132 : BitVec 32 := 1#32
  let v105 : BitVec 32 := Scalar.muli arg9 c1_i32_132
  let v106 : BitVec 32 := Scalar.addi c0_i32_133 v105
  let v125 : Index := Scalar.indexCast v106
  let c144 : Index := 144#32
  ![v125.toNat, 144]

def k0_chk36 (v126 : IVec S16 32) : Prop :=
  (∀ a x, ((![v126] : Fin 1 → IVec S16 32) a x).toNat < S100000.size a)
theorem k0_idx36_inb : ∀ (v126 : IVec S16 32) (k0_hw36 : k0_chk36 v126), ∀ a x, ((![v126] : Fin 1 → IVec S16 32) a x).toNat < S100000.size a := fun v126 k0_hw36 => k0_hw36
def k0_off39 (k0_t4 : Fin k0_t4_loop.trips) : Fin 2 → Nat :=
  let c0_i32_133 : BitVec 32 := 0#32
  let c0_i32_26 : BitVec 32 := 0#32
  let c1_i32_28 : BitVec 32 := 1#32
  let arg9 : BitVec 32 := Scf.iv c0_i32_26 c1_i32_28 k0_t4
  let c1_i32_132 : BitVec 32 := 1#32
  let v105 : BitVec 32 := Scalar.muli arg9 c1_i32_132
  let v106 : BitVec 32 := Scalar.addi c0_i32_133 v105
  let v127 : Index := Scalar.indexCast v106
  let c160 : Index := 160#32
  ![v127.toNat, 160]

def k0_chk37 (v128 : IVec S16 32) : Prop :=
  (∀ a x, ((![v128] : Fin 1 → IVec S16 32) a x).toNat < S100000.size a)
theorem k0_idx37_inb : ∀ (v128 : IVec S16 32) (k0_hw37 : k0_chk37 v128), ∀ a x, ((![v128] : Fin 1 → IVec S16 32) a x).toNat < S100000.size a := fun v128 k0_hw37 => k0_hw37
def k0_off40 (k0_t4 : Fin k0_t4_loop.trips) : Fin 2 → Nat :=
  let c0_i32_133 : BitVec 32 := 0#32
  let c0_i32_26 : BitVec 32 := 0#32
  let c1_i32_28 : BitVec 32 := 1#32
  let arg9 : BitVec 32 := Scf.iv c0_i32_26 c1_i32_28 k0_t4
  let c1_i32_132 : BitVec 32 := 1#32
  let v105 : BitVec 32 := Scalar.muli arg9 c1_i32_132
  let v106 : BitVec 32 := Scalar.addi c0_i32_133 v105
  let v129 : Index := Scalar.indexCast v106
  let c176 : Index := 176#32
  ![v129.toNat, 176]

def k0_chk38 (v130 : IVec S16 32) : Prop :=
  (∀ a x, ((![v130] : Fin 1 → IVec S16 32) a x).toNat < S100000.size a)
theorem k0_idx38_inb : ∀ (v130 : IVec S16 32) (k0_hw38 : k0_chk38 v130), ∀ a x, ((![v130] : Fin 1 → IVec S16 32) a x).toNat < S100000.size a := fun v130 k0_hw38 => k0_hw38
def k0_off41 (k0_t4 : Fin k0_t4_loop.trips) : Fin 2 → Nat :=
  let c0_i32_133 : BitVec 32 := 0#32
  let c0_i32_26 : BitVec 32 := 0#32
  let c1_i32_28 : BitVec 32 := 1#32
  let arg9 : BitVec 32 := Scf.iv c0_i32_26 c1_i32_28 k0_t4
  let c1_i32_132 : BitVec 32 := 1#32
  let v105 : BitVec 32 := Scalar.muli arg9 c1_i32_132
  let v106 : BitVec 32 := Scalar.addi c0_i32_133 v105
  let v131 : Index := Scalar.indexCast v106
  let c184 : Index := 184#32
  ![v131.toNat, 184]

def k0_chk39 (v132 : IVec S16 32) : Prop :=
  (∀ a x, ((![v132] : Fin 1 → IVec S16 32) a x).toNat < S100000.size a)
theorem k0_idx39_inb : ∀ (v132 : IVec S16 32) (k0_hw39 : k0_chk39 v132), ∀ a x, ((![v132] : Fin 1 → IVec S16 32) a x).toNat < S100000.size a := fun v132 k0_hw39 => k0_hw39
@[reducible] def k0_t5_loop : Scf.Loop 32 :=
  let c0_i32_34 : BitVec 32 := 0#32
  let c32_i32_35 : BitVec 32 := 32#32
  let v35 : BitVec 32 := Scalar.addi c0_i32_34 c32_i32_35
  let c1_i32_36 : BitVec 32 := 1#32
  ⟨c0_i32_34, v35, c1_i32_36⟩
def k0_off42 (k0_t5 : Fin k0_t5_loop.trips) : Fin 2 → Nat :=
  let c0_i32_133 : BitVec 32 := 0#32
  let c0_i32_34 : BitVec 32 := 0#32
  let c1_i32_36 : BitVec 32 := 1#32
  let arg9 : BitVec 32 := Scf.iv c0_i32_34 c1_i32_36 k0_t5
  let c1_i32_132 : BitVec 32 := 1#32
  let v105 : BitVec 32 := Scalar.muli arg9 c1_i32_132
  let v106 : BitVec 32 := Scalar.addi c0_i32_133 v105
  let v107 : Index := Scalar.indexCast v106
  let c0 : Index := 0#32
  ![v107.toNat, 0]

def k0_chk40 (v108 : IVec S16 32) : Prop :=
  (∀ a x, ((![v108] : Fin 1 → IVec S16 32) a x).toNat < S100000.size a)
theorem k0_idx40_inb : ∀ (v108 : IVec S16 32) (k0_hw40 : k0_chk40 v108), ∀ a x, ((![v108] : Fin 1 → IVec S16 32) a x).toNat < S100000.size a := fun v108 k0_hw40 => k0_hw40
def k0_off43 (k0_t5 : Fin k0_t5_loop.trips) : Fin 2 → Nat :=
  let c0_i32_133 : BitVec 32 := 0#32
  let c0_i32_34 : BitVec 32 := 0#32
  let c1_i32_36 : BitVec 32 := 1#32
  let arg9 : BitVec 32 := Scf.iv c0_i32_34 c1_i32_36 k0_t5
  let c1_i32_132 : BitVec 32 := 1#32
  let v105 : BitVec 32 := Scalar.muli arg9 c1_i32_132
  let v106 : BitVec 32 := Scalar.addi c0_i32_133 v105
  let v109 : Index := Scalar.indexCast v106
  let c16 : Index := 16#32
  ![v109.toNat, 16]

def k0_chk41 (v110 : IVec S16 32) : Prop :=
  (∀ a x, ((![v110] : Fin 1 → IVec S16 32) a x).toNat < S100000.size a)
theorem k0_idx41_inb : ∀ (v110 : IVec S16 32) (k0_hw41 : k0_chk41 v110), ∀ a x, ((![v110] : Fin 1 → IVec S16 32) a x).toNat < S100000.size a := fun v110 k0_hw41 => k0_hw41
def k0_off44 (k0_t5 : Fin k0_t5_loop.trips) : Fin 2 → Nat :=
  let c0_i32_133 : BitVec 32 := 0#32
  let c0_i32_34 : BitVec 32 := 0#32
  let c1_i32_36 : BitVec 32 := 1#32
  let arg9 : BitVec 32 := Scf.iv c0_i32_34 c1_i32_36 k0_t5
  let c1_i32_132 : BitVec 32 := 1#32
  let v105 : BitVec 32 := Scalar.muli arg9 c1_i32_132
  let v106 : BitVec 32 := Scalar.addi c0_i32_133 v105
  let v111 : Index := Scalar.indexCast v106
  let c32 : Index := 32#32
  ![v111.toNat, 32]

def k0_chk42 (v112 : IVec S16 32) : Prop :=
  (∀ a x, ((![v112] : Fin 1 → IVec S16 32) a x).toNat < S100000.size a)
theorem k0_idx42_inb : ∀ (v112 : IVec S16 32) (k0_hw42 : k0_chk42 v112), ∀ a x, ((![v112] : Fin 1 → IVec S16 32) a x).toNat < S100000.size a := fun v112 k0_hw42 => k0_hw42
def k0_off45 (k0_t5 : Fin k0_t5_loop.trips) : Fin 2 → Nat :=
  let c0_i32_133 : BitVec 32 := 0#32
  let c0_i32_34 : BitVec 32 := 0#32
  let c1_i32_36 : BitVec 32 := 1#32
  let arg9 : BitVec 32 := Scf.iv c0_i32_34 c1_i32_36 k0_t5
  let c1_i32_132 : BitVec 32 := 1#32
  let v105 : BitVec 32 := Scalar.muli arg9 c1_i32_132
  let v106 : BitVec 32 := Scalar.addi c0_i32_133 v105
  let v113 : Index := Scalar.indexCast v106
  let c48 : Index := 48#32
  ![v113.toNat, 48]

def k0_chk43 (v114 : IVec S16 32) : Prop :=
  (∀ a x, ((![v114] : Fin 1 → IVec S16 32) a x).toNat < S100000.size a)
theorem k0_idx43_inb : ∀ (v114 : IVec S16 32) (k0_hw43 : k0_chk43 v114), ∀ a x, ((![v114] : Fin 1 → IVec S16 32) a x).toNat < S100000.size a := fun v114 k0_hw43 => k0_hw43
def k0_off46 (k0_t5 : Fin k0_t5_loop.trips) : Fin 2 → Nat :=
  let c0_i32_133 : BitVec 32 := 0#32
  let c0_i32_34 : BitVec 32 := 0#32
  let c1_i32_36 : BitVec 32 := 1#32
  let arg9 : BitVec 32 := Scf.iv c0_i32_34 c1_i32_36 k0_t5
  let c1_i32_132 : BitVec 32 := 1#32
  let v105 : BitVec 32 := Scalar.muli arg9 c1_i32_132
  let v106 : BitVec 32 := Scalar.addi c0_i32_133 v105
  let v115 : Index := Scalar.indexCast v106
  let c64 : Index := 64#32
  ![v115.toNat, 64]

def k0_chk44 (v116 : IVec S16 32) : Prop :=
  (∀ a x, ((![v116] : Fin 1 → IVec S16 32) a x).toNat < S100000.size a)
theorem k0_idx44_inb : ∀ (v116 : IVec S16 32) (k0_hw44 : k0_chk44 v116), ∀ a x, ((![v116] : Fin 1 → IVec S16 32) a x).toNat < S100000.size a := fun v116 k0_hw44 => k0_hw44
def k0_off47 (k0_t5 : Fin k0_t5_loop.trips) : Fin 2 → Nat :=
  let c0_i32_133 : BitVec 32 := 0#32
  let c0_i32_34 : BitVec 32 := 0#32
  let c1_i32_36 : BitVec 32 := 1#32
  let arg9 : BitVec 32 := Scf.iv c0_i32_34 c1_i32_36 k0_t5
  let c1_i32_132 : BitVec 32 := 1#32
  let v105 : BitVec 32 := Scalar.muli arg9 c1_i32_132
  let v106 : BitVec 32 := Scalar.addi c0_i32_133 v105
  let v117 : Index := Scalar.indexCast v106
  let c80 : Index := 80#32
  ![v117.toNat, 80]

def k0_chk45 (v118 : IVec S16 32) : Prop :=
  (∀ a x, ((![v118] : Fin 1 → IVec S16 32) a x).toNat < S100000.size a)
theorem k0_idx45_inb : ∀ (v118 : IVec S16 32) (k0_hw45 : k0_chk45 v118), ∀ a x, ((![v118] : Fin 1 → IVec S16 32) a x).toNat < S100000.size a := fun v118 k0_hw45 => k0_hw45
def k0_off48 (k0_t5 : Fin k0_t5_loop.trips) : Fin 2 → Nat :=
  let c0_i32_133 : BitVec 32 := 0#32
  let c0_i32_34 : BitVec 32 := 0#32
  let c1_i32_36 : BitVec 32 := 1#32
  let arg9 : BitVec 32 := Scf.iv c0_i32_34 c1_i32_36 k0_t5
  let c1_i32_132 : BitVec 32 := 1#32
  let v105 : BitVec 32 := Scalar.muli arg9 c1_i32_132
  let v106 : BitVec 32 := Scalar.addi c0_i32_133 v105
  let v119 : Index := Scalar.indexCast v106
  let c96 : Index := 96#32
  ![v119.toNat, 96]

def k0_chk46 (v120 : IVec S16 32) : Prop :=
  (∀ a x, ((![v120] : Fin 1 → IVec S16 32) a x).toNat < S100000.size a)
theorem k0_idx46_inb : ∀ (v120 : IVec S16 32) (k0_hw46 : k0_chk46 v120), ∀ a x, ((![v120] : Fin 1 → IVec S16 32) a x).toNat < S100000.size a := fun v120 k0_hw46 => k0_hw46
def k0_off49 (k0_t5 : Fin k0_t5_loop.trips) : Fin 2 → Nat :=
  let c0_i32_133 : BitVec 32 := 0#32
  let c0_i32_34 : BitVec 32 := 0#32
  let c1_i32_36 : BitVec 32 := 1#32
  let arg9 : BitVec 32 := Scf.iv c0_i32_34 c1_i32_36 k0_t5
  let c1_i32_132 : BitVec 32 := 1#32
  let v105 : BitVec 32 := Scalar.muli arg9 c1_i32_132
  let v106 : BitVec 32 := Scalar.addi c0_i32_133 v105
  let v121 : Index := Scalar.indexCast v106
  let c112 : Index := 112#32
  ![v121.toNat, 112]

def k0_chk47 (v122 : IVec S16 32) : Prop :=
  (∀ a x, ((![v122] : Fin 1 → IVec S16 32) a x).toNat < S100000.size a)
theorem k0_idx47_inb : ∀ (v122 : IVec S16 32) (k0_hw47 : k0_chk47 v122), ∀ a x, ((![v122] : Fin 1 → IVec S16 32) a x).toNat < S100000.size a := fun v122 k0_hw47 => k0_hw47
def k0_off50 (k0_t5 : Fin k0_t5_loop.trips) : Fin 2 → Nat :=
  let c0_i32_133 : BitVec 32 := 0#32
  let c0_i32_34 : BitVec 32 := 0#32
  let c1_i32_36 : BitVec 32 := 1#32
  let arg9 : BitVec 32 := Scf.iv c0_i32_34 c1_i32_36 k0_t5
  let c1_i32_132 : BitVec 32 := 1#32
  let v105 : BitVec 32 := Scalar.muli arg9 c1_i32_132
  let v106 : BitVec 32 := Scalar.addi c0_i32_133 v105
  let v123 : Index := Scalar.indexCast v106
  let c128 : Index := 128#32
  ![v123.toNat, 128]

def k0_chk48 (v124 : IVec S16 32) : Prop :=
  (∀ a x, ((![v124] : Fin 1 → IVec S16 32) a x).toNat < S100000.size a)
theorem k0_idx48_inb : ∀ (v124 : IVec S16 32) (k0_hw48 : k0_chk48 v124), ∀ a x, ((![v124] : Fin 1 → IVec S16 32) a x).toNat < S100000.size a := fun v124 k0_hw48 => k0_hw48
def k0_off51 (k0_t5 : Fin k0_t5_loop.trips) : Fin 2 → Nat :=
  let c0_i32_133 : BitVec 32 := 0#32
  let c0_i32_34 : BitVec 32 := 0#32
  let c1_i32_36 : BitVec 32 := 1#32
  let arg9 : BitVec 32 := Scf.iv c0_i32_34 c1_i32_36 k0_t5
  let c1_i32_132 : BitVec 32 := 1#32
  let v105 : BitVec 32 := Scalar.muli arg9 c1_i32_132
  let v106 : BitVec 32 := Scalar.addi c0_i32_133 v105
  let v125 : Index := Scalar.indexCast v106
  let c144 : Index := 144#32
  ![v125.toNat, 144]

def k0_chk49 (v126 : IVec S16 32) : Prop :=
  (∀ a x, ((![v126] : Fin 1 → IVec S16 32) a x).toNat < S100000.size a)
theorem k0_idx49_inb : ∀ (v126 : IVec S16 32) (k0_hw49 : k0_chk49 v126), ∀ a x, ((![v126] : Fin 1 → IVec S16 32) a x).toNat < S100000.size a := fun v126 k0_hw49 => k0_hw49
def k0_off52 (k0_t5 : Fin k0_t5_loop.trips) : Fin 2 → Nat :=
  let c0_i32_133 : BitVec 32 := 0#32
  let c0_i32_34 : BitVec 32 := 0#32
  let c1_i32_36 : BitVec 32 := 1#32
  let arg9 : BitVec 32 := Scf.iv c0_i32_34 c1_i32_36 k0_t5
  let c1_i32_132 : BitVec 32 := 1#32
  let v105 : BitVec 32 := Scalar.muli arg9 c1_i32_132
  let v106 : BitVec 32 := Scalar.addi c0_i32_133 v105
  let v127 : Index := Scalar.indexCast v106
  let c160 : Index := 160#32
  ![v127.toNat, 160]

def k0_chk50 (v128 : IVec S16 32) : Prop :=
  (∀ a x, ((![v128] : Fin 1 → IVec S16 32) a x).toNat < S100000.size a)
theorem k0_idx50_inb : ∀ (v128 : IVec S16 32) (k0_hw50 : k0_chk50 v128), ∀ a x, ((![v128] : Fin 1 → IVec S16 32) a x).toNat < S100000.size a := fun v128 k0_hw50 => k0_hw50
def k0_off53 (k0_t5 : Fin k0_t5_loop.trips) : Fin 2 → Nat :=
  let c0_i32_133 : BitVec 32 := 0#32
  let c0_i32_34 : BitVec 32 := 0#32
  let c1_i32_36 : BitVec 32 := 1#32
  let arg9 : BitVec 32 := Scf.iv c0_i32_34 c1_i32_36 k0_t5
  let c1_i32_132 : BitVec 32 := 1#32
  let v105 : BitVec 32 := Scalar.muli arg9 c1_i32_132
  let v106 : BitVec 32 := Scalar.addi c0_i32_133 v105
  let v129 : Index := Scalar.indexCast v106
  let c176 : Index := 176#32
  ![v129.toNat, 176]

def k0_chk51 (v130 : IVec S16 32) : Prop :=
  (∀ a x, ((![v130] : Fin 1 → IVec S16 32) a x).toNat < S100000.size a)
theorem k0_idx51_inb : ∀ (v130 : IVec S16 32) (k0_hw51 : k0_chk51 v130), ∀ a x, ((![v130] : Fin 1 → IVec S16 32) a x).toNat < S100000.size a := fun v130 k0_hw51 => k0_hw51
def k0_off54 (k0_t5 : Fin k0_t5_loop.trips) : Fin 2 → Nat :=
  let c0_i32_133 : BitVec 32 := 0#32
  let c0_i32_34 : BitVec 32 := 0#32
  let c1_i32_36 : BitVec 32 := 1#32
  let arg9 : BitVec 32 := Scf.iv c0_i32_34 c1_i32_36 k0_t5
  let c1_i32_132 : BitVec 32 := 1#32
  let v105 : BitVec 32 := Scalar.muli arg9 c1_i32_132
  let v106 : BitVec 32 := Scalar.addi c0_i32_133 v105
  let v131 : Index := Scalar.indexCast v106
  let c184 : Index := 184#32
  ![v131.toNat, 184]

def k0_chk52 (v132 : IVec S16 32) : Prop :=
  (∀ a x, ((![v132] : Fin 1 → IVec S16 32) a x).toNat < S100000.size a)
theorem k0_idx52_inb : ∀ (v132 : IVec S16 32) (k0_hw52 : k0_chk52 v132), ∀ a x, ((![v132] : Fin 1 → IVec S16 32) a x).toNat < S100000.size a := fun v132 k0_hw52 => k0_hw52
@[reducible] def k0_t6_loop : Scf.Loop 32 :=
  let c0_i32_42 : BitVec 32 := 0#32
  let c32_i32_43 : BitVec 32 := 32#32
  let v41 : BitVec 32 := Scalar.addi c0_i32_42 c32_i32_43
  let c1_i32_44 : BitVec 32 := 1#32
  ⟨c0_i32_42, v41, c1_i32_44⟩
def k0_off55 (k0_t6 : Fin k0_t6_loop.trips) : Fin 2 → Nat :=
  let c0_i32_133 : BitVec 32 := 0#32
  let c0_i32_42 : BitVec 32 := 0#32
  let c1_i32_44 : BitVec 32 := 1#32
  let arg9 : BitVec 32 := Scf.iv c0_i32_42 c1_i32_44 k0_t6
  let c1_i32_132 : BitVec 32 := 1#32
  let v105 : BitVec 32 := Scalar.muli arg9 c1_i32_132
  let v106 : BitVec 32 := Scalar.addi c0_i32_133 v105
  let v107 : Index := Scalar.indexCast v106
  let c0 : Index := 0#32
  ![v107.toNat, 0]

def k0_chk53 (v108 : IVec S16 32) : Prop :=
  (∀ a x, ((![v108] : Fin 1 → IVec S16 32) a x).toNat < S100000.size a)
theorem k0_idx53_inb : ∀ (v108 : IVec S16 32) (k0_hw53 : k0_chk53 v108), ∀ a x, ((![v108] : Fin 1 → IVec S16 32) a x).toNat < S100000.size a := fun v108 k0_hw53 => k0_hw53
def k0_off56 (k0_t6 : Fin k0_t6_loop.trips) : Fin 2 → Nat :=
  let c0_i32_133 : BitVec 32 := 0#32
  let c0_i32_42 : BitVec 32 := 0#32
  let c1_i32_44 : BitVec 32 := 1#32
  let arg9 : BitVec 32 := Scf.iv c0_i32_42 c1_i32_44 k0_t6
  let c1_i32_132 : BitVec 32 := 1#32
  let v105 : BitVec 32 := Scalar.muli arg9 c1_i32_132
  let v106 : BitVec 32 := Scalar.addi c0_i32_133 v105
  let v109 : Index := Scalar.indexCast v106
  let c16 : Index := 16#32
  ![v109.toNat, 16]

def k0_chk54 (v110 : IVec S16 32) : Prop :=
  (∀ a x, ((![v110] : Fin 1 → IVec S16 32) a x).toNat < S100000.size a)
theorem k0_idx54_inb : ∀ (v110 : IVec S16 32) (k0_hw54 : k0_chk54 v110), ∀ a x, ((![v110] : Fin 1 → IVec S16 32) a x).toNat < S100000.size a := fun v110 k0_hw54 => k0_hw54
def k0_off57 (k0_t6 : Fin k0_t6_loop.trips) : Fin 2 → Nat :=
  let c0_i32_133 : BitVec 32 := 0#32
  let c0_i32_42 : BitVec 32 := 0#32
  let c1_i32_44 : BitVec 32 := 1#32
  let arg9 : BitVec 32 := Scf.iv c0_i32_42 c1_i32_44 k0_t6
  let c1_i32_132 : BitVec 32 := 1#32
  let v105 : BitVec 32 := Scalar.muli arg9 c1_i32_132
  let v106 : BitVec 32 := Scalar.addi c0_i32_133 v105
  let v111 : Index := Scalar.indexCast v106
  let c32 : Index := 32#32
  ![v111.toNat, 32]

def k0_chk55 (v112 : IVec S16 32) : Prop :=
  (∀ a x, ((![v112] : Fin 1 → IVec S16 32) a x).toNat < S100000.size a)
theorem k0_idx55_inb : ∀ (v112 : IVec S16 32) (k0_hw55 : k0_chk55 v112), ∀ a x, ((![v112] : Fin 1 → IVec S16 32) a x).toNat < S100000.size a := fun v112 k0_hw55 => k0_hw55
def k0_off58 (k0_t6 : Fin k0_t6_loop.trips) : Fin 2 → Nat :=
  let c0_i32_133 : BitVec 32 := 0#32
  let c0_i32_42 : BitVec 32 := 0#32
  let c1_i32_44 : BitVec 32 := 1#32
  let arg9 : BitVec 32 := Scf.iv c0_i32_42 c1_i32_44 k0_t6
  let c1_i32_132 : BitVec 32 := 1#32
  let v105 : BitVec 32 := Scalar.muli arg9 c1_i32_132
  let v106 : BitVec 32 := Scalar.addi c0_i32_133 v105
  let v113 : Index := Scalar.indexCast v106
  let c48 : Index := 48#32
  ![v113.toNat, 48]

def k0_chk56 (v114 : IVec S16 32) : Prop :=
  (∀ a x, ((![v114] : Fin 1 → IVec S16 32) a x).toNat < S100000.size a)
theorem k0_idx56_inb : ∀ (v114 : IVec S16 32) (k0_hw56 : k0_chk56 v114), ∀ a x, ((![v114] : Fin 1 → IVec S16 32) a x).toNat < S100000.size a := fun v114 k0_hw56 => k0_hw56
def k0_off59 (k0_t6 : Fin k0_t6_loop.trips) : Fin 2 → Nat :=
  let c0_i32_133 : BitVec 32 := 0#32
  let c0_i32_42 : BitVec 32 := 0#32
  let c1_i32_44 : BitVec 32 := 1#32
  let arg9 : BitVec 32 := Scf.iv c0_i32_42 c1_i32_44 k0_t6
  let c1_i32_132 : BitVec 32 := 1#32
  let v105 : BitVec 32 := Scalar.muli arg9 c1_i32_132
  let v106 : BitVec 32 := Scalar.addi c0_i32_133 v105
  let v115 : Index := Scalar.indexCast v106
  let c64 : Index := 64#32
  ![v115.toNat, 64]

def k0_chk57 (v116 : IVec S16 32) : Prop :=
  (∀ a x, ((![v116] : Fin 1 → IVec S16 32) a x).toNat < S100000.size a)
theorem k0_idx57_inb : ∀ (v116 : IVec S16 32) (k0_hw57 : k0_chk57 v116), ∀ a x, ((![v116] : Fin 1 → IVec S16 32) a x).toNat < S100000.size a := fun v116 k0_hw57 => k0_hw57
def k0_off60 (k0_t6 : Fin k0_t6_loop.trips) : Fin 2 → Nat :=
  let c0_i32_133 : BitVec 32 := 0#32
  let c0_i32_42 : BitVec 32 := 0#32
  let c1_i32_44 : BitVec 32 := 1#32
  let arg9 : BitVec 32 := Scf.iv c0_i32_42 c1_i32_44 k0_t6
  let c1_i32_132 : BitVec 32 := 1#32
  let v105 : BitVec 32 := Scalar.muli arg9 c1_i32_132
  let v106 : BitVec 32 := Scalar.addi c0_i32_133 v105
  let v117 : Index := Scalar.indexCast v106
  let c80 : Index := 80#32
  ![v117.toNat, 80]

def k0_chk58 (v118 : IVec S16 32) : Prop :=
  (∀ a x, ((![v118] : Fin 1 → IVec S16 32) a x).toNat < S100000.size a)
theorem k0_idx58_inb : ∀ (v118 : IVec S16 32) (k0_hw58 : k0_chk58 v118), ∀ a x, ((![v118] : Fin 1 → IVec S16 32) a x).toNat < S100000.size a := fun v118 k0_hw58 => k0_hw58
def k0_off61 (k0_t6 : Fin k0_t6_loop.trips) : Fin 2 → Nat :=
  let c0_i32_133 : BitVec 32 := 0#32
  let c0_i32_42 : BitVec 32 := 0#32
  let c1_i32_44 : BitVec 32 := 1#32
  let arg9 : BitVec 32 := Scf.iv c0_i32_42 c1_i32_44 k0_t6
  let c1_i32_132 : BitVec 32 := 1#32
  let v105 : BitVec 32 := Scalar.muli arg9 c1_i32_132
  let v106 : BitVec 32 := Scalar.addi c0_i32_133 v105
  let v119 : Index := Scalar.indexCast v106
  let c96 : Index := 96#32
  ![v119.toNat, 96]

def k0_chk59 (v120 : IVec S16 32) : Prop :=
  (∀ a x, ((![v120] : Fin 1 → IVec S16 32) a x).toNat < S100000.size a)
theorem k0_idx59_inb : ∀ (v120 : IVec S16 32) (k0_hw59 : k0_chk59 v120), ∀ a x, ((![v120] : Fin 1 → IVec S16 32) a x).toNat < S100000.size a := fun v120 k0_hw59 => k0_hw59
def k0_off62 (k0_t6 : Fin k0_t6_loop.trips) : Fin 2 → Nat :=
  let c0_i32_133 : BitVec 32 := 0#32
  let c0_i32_42 : BitVec 32 := 0#32
  let c1_i32_44 : BitVec 32 := 1#32
  let arg9 : BitVec 32 := Scf.iv c0_i32_42 c1_i32_44 k0_t6
  let c1_i32_132 : BitVec 32 := 1#32
  let v105 : BitVec 32 := Scalar.muli arg9 c1_i32_132
  let v106 : BitVec 32 := Scalar.addi c0_i32_133 v105
  let v121 : Index := Scalar.indexCast v106
  let c112 : Index := 112#32
  ![v121.toNat, 112]

def k0_chk60 (v122 : IVec S16 32) : Prop :=
  (∀ a x, ((![v122] : Fin 1 → IVec S16 32) a x).toNat < S100000.size a)
theorem k0_idx60_inb : ∀ (v122 : IVec S16 32) (k0_hw60 : k0_chk60 v122), ∀ a x, ((![v122] : Fin 1 → IVec S16 32) a x).toNat < S100000.size a := fun v122 k0_hw60 => k0_hw60
def k0_off63 (k0_t6 : Fin k0_t6_loop.trips) : Fin 2 → Nat :=
  let c0_i32_133 : BitVec 32 := 0#32
  let c0_i32_42 : BitVec 32 := 0#32
  let c1_i32_44 : BitVec 32 := 1#32
  let arg9 : BitVec 32 := Scf.iv c0_i32_42 c1_i32_44 k0_t6
  let c1_i32_132 : BitVec 32 := 1#32
  let v105 : BitVec 32 := Scalar.muli arg9 c1_i32_132
  let v106 : BitVec 32 := Scalar.addi c0_i32_133 v105
  let v123 : Index := Scalar.indexCast v106
  let c128 : Index := 128#32
  ![v123.toNat, 128]

def k0_chk61 (v124 : IVec S16 32) : Prop :=
  (∀ a x, ((![v124] : Fin 1 → IVec S16 32) a x).toNat < S100000.size a)
theorem k0_idx61_inb : ∀ (v124 : IVec S16 32) (k0_hw61 : k0_chk61 v124), ∀ a x, ((![v124] : Fin 1 → IVec S16 32) a x).toNat < S100000.size a := fun v124 k0_hw61 => k0_hw61
def k0_off64 (k0_t6 : Fin k0_t6_loop.trips) : Fin 2 → Nat :=
  let c0_i32_133 : BitVec 32 := 0#32
  let c0_i32_42 : BitVec 32 := 0#32
  let c1_i32_44 : BitVec 32 := 1#32
  let arg9 : BitVec 32 := Scf.iv c0_i32_42 c1_i32_44 k0_t6
  let c1_i32_132 : BitVec 32 := 1#32
  let v105 : BitVec 32 := Scalar.muli arg9 c1_i32_132
  let v106 : BitVec 32 := Scalar.addi c0_i32_133 v105
  let v125 : Index := Scalar.indexCast v106
  let c144 : Index := 144#32
  ![v125.toNat, 144]

def k0_chk62 (v126 : IVec S16 32) : Prop :=
  (∀ a x, ((![v126] : Fin 1 → IVec S16 32) a x).toNat < S100000.size a)
theorem k0_idx62_inb : ∀ (v126 : IVec S16 32) (k0_hw62 : k0_chk62 v126), ∀ a x, ((![v126] : Fin 1 → IVec S16 32) a x).toNat < S100000.size a := fun v126 k0_hw62 => k0_hw62
def k0_off65 (k0_t6 : Fin k0_t6_loop.trips) : Fin 2 → Nat :=
  let c0_i32_133 : BitVec 32 := 0#32
  let c0_i32_42 : BitVec 32 := 0#32
  let c1_i32_44 : BitVec 32 := 1#32
  let arg9 : BitVec 32 := Scf.iv c0_i32_42 c1_i32_44 k0_t6
  let c1_i32_132 : BitVec 32 := 1#32
  let v105 : BitVec 32 := Scalar.muli arg9 c1_i32_132
  let v106 : BitVec 32 := Scalar.addi c0_i32_133 v105
  let v127 : Index := Scalar.indexCast v106
  let c160 : Index := 160#32
  ![v127.toNat, 160]

def k0_chk63 (v128 : IVec S16 32) : Prop :=
  (∀ a x, ((![v128] : Fin 1 → IVec S16 32) a x).toNat < S100000.size a)
theorem k0_idx63_inb : ∀ (v128 : IVec S16 32) (k0_hw63 : k0_chk63 v128), ∀ a x, ((![v128] : Fin 1 → IVec S16 32) a x).toNat < S100000.size a := fun v128 k0_hw63 => k0_hw63
def k0_off66 (k0_t6 : Fin k0_t6_loop.trips) : Fin 2 → Nat :=
  let c0_i32_133 : BitVec 32 := 0#32
  let c0_i32_42 : BitVec 32 := 0#32
  let c1_i32_44 : BitVec 32 := 1#32
  let arg9 : BitVec 32 := Scf.iv c0_i32_42 c1_i32_44 k0_t6
  let c1_i32_132 : BitVec 32 := 1#32
  let v105 : BitVec 32 := Scalar.muli arg9 c1_i32_132
  let v106 : BitVec 32 := Scalar.addi c0_i32_133 v105
  let v129 : Index := Scalar.indexCast v106
  let c176 : Index := 176#32
  ![v129.toNat, 176]

def k0_chk64 (v130 : IVec S16 32) : Prop :=
  (∀ a x, ((![v130] : Fin 1 → IVec S16 32) a x).toNat < S100000.size a)
theorem k0_idx64_inb : ∀ (v130 : IVec S16 32) (k0_hw64 : k0_chk64 v130), ∀ a x, ((![v130] : Fin 1 → IVec S16 32) a x).toNat < S100000.size a := fun v130 k0_hw64 => k0_hw64
def k0_off67 (k0_t6 : Fin k0_t6_loop.trips) : Fin 2 → Nat :=
  let c0_i32_133 : BitVec 32 := 0#32
  let c0_i32_42 : BitVec 32 := 0#32
  let c1_i32_44 : BitVec 32 := 1#32
  let arg9 : BitVec 32 := Scf.iv c0_i32_42 c1_i32_44 k0_t6
  let c1_i32_132 : BitVec 32 := 1#32
  let v105 : BitVec 32 := Scalar.muli arg9 c1_i32_132
  let v106 : BitVec 32 := Scalar.addi c0_i32_133 v105
  let v131 : Index := Scalar.indexCast v106
  let c184 : Index := 184#32
  ![v131.toNat, 184]

def k0_chk65 (v132 : IVec S16 32) : Prop :=
  (∀ a x, ((![v132] : Fin 1 → IVec S16 32) a x).toNat < S100000.size a)
theorem k0_idx65_inb : ∀ (v132 : IVec S16 32) (k0_hw65 : k0_chk65 v132), ∀ a x, ((![v132] : Fin 1 → IVec S16 32) a x).toNat < S100000.size a := fun v132 k0_hw65 => k0_hw65
@[reducible] def k0_t7_loop : Scf.Loop 32 :=
  let c0_i32_50 : BitVec 32 := 0#32
  let c32_i32_51 : BitVec 32 := 32#32
  let v47 : BitVec 32 := Scalar.addi c0_i32_50 c32_i32_51
  let c1_i32_52 : BitVec 32 := 1#32
  ⟨c0_i32_50, v47, c1_i32_52⟩
def k0_off68 (k0_t7 : Fin k0_t7_loop.trips) : Fin 2 → Nat :=
  let c0_i32_133 : BitVec 32 := 0#32
  let c0_i32_50 : BitVec 32 := 0#32
  let c1_i32_52 : BitVec 32 := 1#32
  let arg9 : BitVec 32 := Scf.iv c0_i32_50 c1_i32_52 k0_t7
  let c1_i32_132 : BitVec 32 := 1#32
  let v105 : BitVec 32 := Scalar.muli arg9 c1_i32_132
  let v106 : BitVec 32 := Scalar.addi c0_i32_133 v105
  let v107 : Index := Scalar.indexCast v106
  let c0 : Index := 0#32
  ![v107.toNat, 0]

def k0_chk66 (v108 : IVec S16 32) : Prop :=
  (∀ a x, ((![v108] : Fin 1 → IVec S16 32) a x).toNat < S100000.size a)
theorem k0_idx66_inb : ∀ (v108 : IVec S16 32) (k0_hw66 : k0_chk66 v108), ∀ a x, ((![v108] : Fin 1 → IVec S16 32) a x).toNat < S100000.size a := fun v108 k0_hw66 => k0_hw66
def k0_off69 (k0_t7 : Fin k0_t7_loop.trips) : Fin 2 → Nat :=
  let c0_i32_133 : BitVec 32 := 0#32
  let c0_i32_50 : BitVec 32 := 0#32
  let c1_i32_52 : BitVec 32 := 1#32
  let arg9 : BitVec 32 := Scf.iv c0_i32_50 c1_i32_52 k0_t7
  let c1_i32_132 : BitVec 32 := 1#32
  let v105 : BitVec 32 := Scalar.muli arg9 c1_i32_132
  let v106 : BitVec 32 := Scalar.addi c0_i32_133 v105
  let v109 : Index := Scalar.indexCast v106
  let c16 : Index := 16#32
  ![v109.toNat, 16]

def k0_chk67 (v110 : IVec S16 32) : Prop :=
  (∀ a x, ((![v110] : Fin 1 → IVec S16 32) a x).toNat < S100000.size a)
theorem k0_idx67_inb : ∀ (v110 : IVec S16 32) (k0_hw67 : k0_chk67 v110), ∀ a x, ((![v110] : Fin 1 → IVec S16 32) a x).toNat < S100000.size a := fun v110 k0_hw67 => k0_hw67
def k0_off70 (k0_t7 : Fin k0_t7_loop.trips) : Fin 2 → Nat :=
  let c0_i32_133 : BitVec 32 := 0#32
  let c0_i32_50 : BitVec 32 := 0#32
  let c1_i32_52 : BitVec 32 := 1#32
  let arg9 : BitVec 32 := Scf.iv c0_i32_50 c1_i32_52 k0_t7
  let c1_i32_132 : BitVec 32 := 1#32
  let v105 : BitVec 32 := Scalar.muli arg9 c1_i32_132
  let v106 : BitVec 32 := Scalar.addi c0_i32_133 v105
  let v111 : Index := Scalar.indexCast v106
  let c32 : Index := 32#32
  ![v111.toNat, 32]

def k0_chk68 (v112 : IVec S16 32) : Prop :=
  (∀ a x, ((![v112] : Fin 1 → IVec S16 32) a x).toNat < S100000.size a)
theorem k0_idx68_inb : ∀ (v112 : IVec S16 32) (k0_hw68 : k0_chk68 v112), ∀ a x, ((![v112] : Fin 1 → IVec S16 32) a x).toNat < S100000.size a := fun v112 k0_hw68 => k0_hw68
def k0_off71 (k0_t7 : Fin k0_t7_loop.trips) : Fin 2 → Nat :=
  let c0_i32_133 : BitVec 32 := 0#32
  let c0_i32_50 : BitVec 32 := 0#32
  let c1_i32_52 : BitVec 32 := 1#32
  let arg9 : BitVec 32 := Scf.iv c0_i32_50 c1_i32_52 k0_t7
  let c1_i32_132 : BitVec 32 := 1#32
  let v105 : BitVec 32 := Scalar.muli arg9 c1_i32_132
  let v106 : BitVec 32 := Scalar.addi c0_i32_133 v105
  let v113 : Index := Scalar.indexCast v106
  let c48 : Index := 48#32
  ![v113.toNat, 48]

def k0_chk69 (v114 : IVec S16 32) : Prop :=
  (∀ a x, ((![v114] : Fin 1 → IVec S16 32) a x).toNat < S100000.size a)
theorem k0_idx69_inb : ∀ (v114 : IVec S16 32) (k0_hw69 : k0_chk69 v114), ∀ a x, ((![v114] : Fin 1 → IVec S16 32) a x).toNat < S100000.size a := fun v114 k0_hw69 => k0_hw69
def k0_off72 (k0_t7 : Fin k0_t7_loop.trips) : Fin 2 → Nat :=
  let c0_i32_133 : BitVec 32 := 0#32
  let c0_i32_50 : BitVec 32 := 0#32
  let c1_i32_52 : BitVec 32 := 1#32
  let arg9 : BitVec 32 := Scf.iv c0_i32_50 c1_i32_52 k0_t7
  let c1_i32_132 : BitVec 32 := 1#32
  let v105 : BitVec 32 := Scalar.muli arg9 c1_i32_132
  let v106 : BitVec 32 := Scalar.addi c0_i32_133 v105
  let v115 : Index := Scalar.indexCast v106
  let c64 : Index := 64#32
  ![v115.toNat, 64]

def k0_chk70 (v116 : IVec S16 32) : Prop :=
  (∀ a x, ((![v116] : Fin 1 → IVec S16 32) a x).toNat < S100000.size a)
theorem k0_idx70_inb : ∀ (v116 : IVec S16 32) (k0_hw70 : k0_chk70 v116), ∀ a x, ((![v116] : Fin 1 → IVec S16 32) a x).toNat < S100000.size a := fun v116 k0_hw70 => k0_hw70
def k0_off73 (k0_t7 : Fin k0_t7_loop.trips) : Fin 2 → Nat :=
  let c0_i32_133 : BitVec 32 := 0#32
  let c0_i32_50 : BitVec 32 := 0#32
  let c1_i32_52 : BitVec 32 := 1#32
  let arg9 : BitVec 32 := Scf.iv c0_i32_50 c1_i32_52 k0_t7
  let c1_i32_132 : BitVec 32 := 1#32
  let v105 : BitVec 32 := Scalar.muli arg9 c1_i32_132
  let v106 : BitVec 32 := Scalar.addi c0_i32_133 v105
  let v117 : Index := Scalar.indexCast v106
  let c80 : Index := 80#32
  ![v117.toNat, 80]

def k0_chk71 (v118 : IVec S16 32) : Prop :=
  (∀ a x, ((![v118] : Fin 1 → IVec S16 32) a x).toNat < S100000.size a)
theorem k0_idx71_inb : ∀ (v118 : IVec S16 32) (k0_hw71 : k0_chk71 v118), ∀ a x, ((![v118] : Fin 1 → IVec S16 32) a x).toNat < S100000.size a := fun v118 k0_hw71 => k0_hw71
def k0_off74 (k0_t7 : Fin k0_t7_loop.trips) : Fin 2 → Nat :=
  let c0_i32_133 : BitVec 32 := 0#32
  let c0_i32_50 : BitVec 32 := 0#32
  let c1_i32_52 : BitVec 32 := 1#32
  let arg9 : BitVec 32 := Scf.iv c0_i32_50 c1_i32_52 k0_t7
  let c1_i32_132 : BitVec 32 := 1#32
  let v105 : BitVec 32 := Scalar.muli arg9 c1_i32_132
  let v106 : BitVec 32 := Scalar.addi c0_i32_133 v105
  let v119 : Index := Scalar.indexCast v106
  let c96 : Index := 96#32
  ![v119.toNat, 96]

def k0_chk72 (v120 : IVec S16 32) : Prop :=
  (∀ a x, ((![v120] : Fin 1 → IVec S16 32) a x).toNat < S100000.size a)
theorem k0_idx72_inb : ∀ (v120 : IVec S16 32) (k0_hw72 : k0_chk72 v120), ∀ a x, ((![v120] : Fin 1 → IVec S16 32) a x).toNat < S100000.size a := fun v120 k0_hw72 => k0_hw72
def k0_off75 (k0_t7 : Fin k0_t7_loop.trips) : Fin 2 → Nat :=
  let c0_i32_133 : BitVec 32 := 0#32
  let c0_i32_50 : BitVec 32 := 0#32
  let c1_i32_52 : BitVec 32 := 1#32
  let arg9 : BitVec 32 := Scf.iv c0_i32_50 c1_i32_52 k0_t7
  let c1_i32_132 : BitVec 32 := 1#32
  let v105 : BitVec 32 := Scalar.muli arg9 c1_i32_132
  let v106 : BitVec 32 := Scalar.addi c0_i32_133 v105
  let v121 : Index := Scalar.indexCast v106
  let c112 : Index := 112#32
  ![v121.toNat, 112]

def k0_chk73 (v122 : IVec S16 32) : Prop :=
  (∀ a x, ((![v122] : Fin 1 → IVec S16 32) a x).toNat < S100000.size a)
theorem k0_idx73_inb : ∀ (v122 : IVec S16 32) (k0_hw73 : k0_chk73 v122), ∀ a x, ((![v122] : Fin 1 → IVec S16 32) a x).toNat < S100000.size a := fun v122 k0_hw73 => k0_hw73
def k0_off76 (k0_t7 : Fin k0_t7_loop.trips) : Fin 2 → Nat :=
  let c0_i32_133 : BitVec 32 := 0#32
  let c0_i32_50 : BitVec 32 := 0#32
  let c1_i32_52 : BitVec 32 := 1#32
  let arg9 : BitVec 32 := Scf.iv c0_i32_50 c1_i32_52 k0_t7
  let c1_i32_132 : BitVec 32 := 1#32
  let v105 : BitVec 32 := Scalar.muli arg9 c1_i32_132
  let v106 : BitVec 32 := Scalar.addi c0_i32_133 v105
  let v123 : Index := Scalar.indexCast v106
  let c128 : Index := 128#32
  ![v123.toNat, 128]

def k0_chk74 (v124 : IVec S16 32) : Prop :=
  (∀ a x, ((![v124] : Fin 1 → IVec S16 32) a x).toNat < S100000.size a)
theorem k0_idx74_inb : ∀ (v124 : IVec S16 32) (k0_hw74 : k0_chk74 v124), ∀ a x, ((![v124] : Fin 1 → IVec S16 32) a x).toNat < S100000.size a := fun v124 k0_hw74 => k0_hw74
def k0_off77 (k0_t7 : Fin k0_t7_loop.trips) : Fin 2 → Nat :=
  let c0_i32_133 : BitVec 32 := 0#32
  let c0_i32_50 : BitVec 32 := 0#32
  let c1_i32_52 : BitVec 32 := 1#32
  let arg9 : BitVec 32 := Scf.iv c0_i32_50 c1_i32_52 k0_t7
  let c1_i32_132 : BitVec 32 := 1#32
  let v105 : BitVec 32 := Scalar.muli arg9 c1_i32_132
  let v106 : BitVec 32 := Scalar.addi c0_i32_133 v105
  let v125 : Index := Scalar.indexCast v106
  let c144 : Index := 144#32
  ![v125.toNat, 144]

def k0_chk75 (v126 : IVec S16 32) : Prop :=
  (∀ a x, ((![v126] : Fin 1 → IVec S16 32) a x).toNat < S100000.size a)
theorem k0_idx75_inb : ∀ (v126 : IVec S16 32) (k0_hw75 : k0_chk75 v126), ∀ a x, ((![v126] : Fin 1 → IVec S16 32) a x).toNat < S100000.size a := fun v126 k0_hw75 => k0_hw75
def k0_off78 (k0_t7 : Fin k0_t7_loop.trips) : Fin 2 → Nat :=
  let c0_i32_133 : BitVec 32 := 0#32
  let c0_i32_50 : BitVec 32 := 0#32
  let c1_i32_52 : BitVec 32 := 1#32
  let arg9 : BitVec 32 := Scf.iv c0_i32_50 c1_i32_52 k0_t7
  let c1_i32_132 : BitVec 32 := 1#32
  let v105 : BitVec 32 := Scalar.muli arg9 c1_i32_132
  let v106 : BitVec 32 := Scalar.addi c0_i32_133 v105
  let v127 : Index := Scalar.indexCast v106
  let c160 : Index := 160#32
  ![v127.toNat, 160]

def k0_chk76 (v128 : IVec S16 32) : Prop :=
  (∀ a x, ((![v128] : Fin 1 → IVec S16 32) a x).toNat < S100000.size a)
theorem k0_idx76_inb : ∀ (v128 : IVec S16 32) (k0_hw76 : k0_chk76 v128), ∀ a x, ((![v128] : Fin 1 → IVec S16 32) a x).toNat < S100000.size a := fun v128 k0_hw76 => k0_hw76
def k0_off79 (k0_t7 : Fin k0_t7_loop.trips) : Fin 2 → Nat :=
  let c0_i32_133 : BitVec 32 := 0#32
  let c0_i32_50 : BitVec 32 := 0#32
  let c1_i32_52 : BitVec 32 := 1#32
  let arg9 : BitVec 32 := Scf.iv c0_i32_50 c1_i32_52 k0_t7
  let c1_i32_132 : BitVec 32 := 1#32
  let v105 : BitVec 32 := Scalar.muli arg9 c1_i32_132
  let v106 : BitVec 32 := Scalar.addi c0_i32_133 v105
  let v129 : Index := Scalar.indexCast v106
  let c176 : Index := 176#32
  ![v129.toNat, 176]

def k0_chk77 (v130 : IVec S16 32) : Prop :=
  (∀ a x, ((![v130] : Fin 1 → IVec S16 32) a x).toNat < S100000.size a)
theorem k0_idx77_inb : ∀ (v130 : IVec S16 32) (k0_hw77 : k0_chk77 v130), ∀ a x, ((![v130] : Fin 1 → IVec S16 32) a x).toNat < S100000.size a := fun v130 k0_hw77 => k0_hw77
def k0_off80 (k0_t7 : Fin k0_t7_loop.trips) : Fin 2 → Nat :=
  let c0_i32_133 : BitVec 32 := 0#32
  let c0_i32_50 : BitVec 32 := 0#32
  let c1_i32_52 : BitVec 32 := 1#32
  let arg9 : BitVec 32 := Scf.iv c0_i32_50 c1_i32_52 k0_t7
  let c1_i32_132 : BitVec 32 := 1#32
  let v105 : BitVec 32 := Scalar.muli arg9 c1_i32_132
  let v106 : BitVec 32 := Scalar.addi c0_i32_133 v105
  let v131 : Index := Scalar.indexCast v106
  let c184 : Index := 184#32
  ![v131.toNat, 184]

def k0_chk78 (v132 : IVec S16 32) : Prop :=
  (∀ a x, ((![v132] : Fin 1 → IVec S16 32) a x).toNat < S100000.size a)
theorem k0_idx78_inb : ∀ (v132 : IVec S16 32) (k0_hw78 : k0_chk78 v132), ∀ a x, ((![v132] : Fin 1 → IVec S16 32) a x).toNat < S100000.size a := fun v132 k0_hw78 => k0_hw78
@[reducible] def k0_t8_loop : Scf.Loop 32 :=
  let c0_i32_58 : BitVec 32 := 0#32
  let c32_i32_59 : BitVec 32 := 32#32
  let v53 : BitVec 32 := Scalar.addi c0_i32_58 c32_i32_59
  let c1_i32_60 : BitVec 32 := 1#32
  ⟨c0_i32_58, v53, c1_i32_60⟩
def k0_off81 (k0_t8 : Fin k0_t8_loop.trips) : Fin 2 → Nat :=
  let c0_i32_133 : BitVec 32 := 0#32
  let c0_i32_58 : BitVec 32 := 0#32
  let c1_i32_60 : BitVec 32 := 1#32
  let arg9 : BitVec 32 := Scf.iv c0_i32_58 c1_i32_60 k0_t8
  let c1_i32_132 : BitVec 32 := 1#32
  let v105 : BitVec 32 := Scalar.muli arg9 c1_i32_132
  let v106 : BitVec 32 := Scalar.addi c0_i32_133 v105
  let v107 : Index := Scalar.indexCast v106
  let c0 : Index := 0#32
  ![v107.toNat, 0]

def k0_chk79 (v108 : IVec S16 32) : Prop :=
  (∀ a x, ((![v108] : Fin 1 → IVec S16 32) a x).toNat < S100000.size a)
theorem k0_idx79_inb : ∀ (v108 : IVec S16 32) (k0_hw79 : k0_chk79 v108), ∀ a x, ((![v108] : Fin 1 → IVec S16 32) a x).toNat < S100000.size a := fun v108 k0_hw79 => k0_hw79
def k0_off82 (k0_t8 : Fin k0_t8_loop.trips) : Fin 2 → Nat :=
  let c0_i32_133 : BitVec 32 := 0#32
  let c0_i32_58 : BitVec 32 := 0#32
  let c1_i32_60 : BitVec 32 := 1#32
  let arg9 : BitVec 32 := Scf.iv c0_i32_58 c1_i32_60 k0_t8
  let c1_i32_132 : BitVec 32 := 1#32
  let v105 : BitVec 32 := Scalar.muli arg9 c1_i32_132
  let v106 : BitVec 32 := Scalar.addi c0_i32_133 v105
  let v109 : Index := Scalar.indexCast v106
  let c16 : Index := 16#32
  ![v109.toNat, 16]

def k0_chk80 (v110 : IVec S16 32) : Prop :=
  (∀ a x, ((![v110] : Fin 1 → IVec S16 32) a x).toNat < S100000.size a)
theorem k0_idx80_inb : ∀ (v110 : IVec S16 32) (k0_hw80 : k0_chk80 v110), ∀ a x, ((![v110] : Fin 1 → IVec S16 32) a x).toNat < S100000.size a := fun v110 k0_hw80 => k0_hw80
def k0_off83 (k0_t8 : Fin k0_t8_loop.trips) : Fin 2 → Nat :=
  let c0_i32_133 : BitVec 32 := 0#32
  let c0_i32_58 : BitVec 32 := 0#32
  let c1_i32_60 : BitVec 32 := 1#32
  let arg9 : BitVec 32 := Scf.iv c0_i32_58 c1_i32_60 k0_t8
  let c1_i32_132 : BitVec 32 := 1#32
  let v105 : BitVec 32 := Scalar.muli arg9 c1_i32_132
  let v106 : BitVec 32 := Scalar.addi c0_i32_133 v105
  let v111 : Index := Scalar.indexCast v106
  let c32 : Index := 32#32
  ![v111.toNat, 32]

def k0_chk81 (v112 : IVec S16 32) : Prop :=
  (∀ a x, ((![v112] : Fin 1 → IVec S16 32) a x).toNat < S100000.size a)
theorem k0_idx81_inb : ∀ (v112 : IVec S16 32) (k0_hw81 : k0_chk81 v112), ∀ a x, ((![v112] : Fin 1 → IVec S16 32) a x).toNat < S100000.size a := fun v112 k0_hw81 => k0_hw81
def k0_off84 (k0_t8 : Fin k0_t8_loop.trips) : Fin 2 → Nat :=
  let c0_i32_133 : BitVec 32 := 0#32
  let c0_i32_58 : BitVec 32 := 0#32
  let c1_i32_60 : BitVec 32 := 1#32
  let arg9 : BitVec 32 := Scf.iv c0_i32_58 c1_i32_60 k0_t8
  let c1_i32_132 : BitVec 32 := 1#32
  let v105 : BitVec 32 := Scalar.muli arg9 c1_i32_132
  let v106 : BitVec 32 := Scalar.addi c0_i32_133 v105
  let v113 : Index := Scalar.indexCast v106
  let c48 : Index := 48#32
  ![v113.toNat, 48]

def k0_chk82 (v114 : IVec S16 32) : Prop :=
  (∀ a x, ((![v114] : Fin 1 → IVec S16 32) a x).toNat < S100000.size a)
theorem k0_idx82_inb : ∀ (v114 : IVec S16 32) (k0_hw82 : k0_chk82 v114), ∀ a x, ((![v114] : Fin 1 → IVec S16 32) a x).toNat < S100000.size a := fun v114 k0_hw82 => k0_hw82
def k0_off85 (k0_t8 : Fin k0_t8_loop.trips) : Fin 2 → Nat :=
  let c0_i32_133 : BitVec 32 := 0#32
  let c0_i32_58 : BitVec 32 := 0#32
  let c1_i32_60 : BitVec 32 := 1#32
  let arg9 : BitVec 32 := Scf.iv c0_i32_58 c1_i32_60 k0_t8
  let c1_i32_132 : BitVec 32 := 1#32
  let v105 : BitVec 32 := Scalar.muli arg9 c1_i32_132
  let v106 : BitVec 32 := Scalar.addi c0_i32_133 v105
  let v115 : Index := Scalar.indexCast v106
  let c64 : Index := 64#32
  ![v115.toNat, 64]

def k0_chk83 (v116 : IVec S16 32) : Prop :=
  (∀ a x, ((![v116] : Fin 1 → IVec S16 32) a x).toNat < S100000.size a)
theorem k0_idx83_inb : ∀ (v116 : IVec S16 32) (k0_hw83 : k0_chk83 v116), ∀ a x, ((![v116] : Fin 1 → IVec S16 32) a x).toNat < S100000.size a := fun v116 k0_hw83 => k0_hw83
def k0_off86 (k0_t8 : Fin k0_t8_loop.trips) : Fin 2 → Nat :=
  let c0_i32_133 : BitVec 32 := 0#32
  let c0_i32_58 : BitVec 32 := 0#32
  let c1_i32_60 : BitVec 32 := 1#32
  let arg9 : BitVec 32 := Scf.iv c0_i32_58 c1_i32_60 k0_t8
  let c1_i32_132 : BitVec 32 := 1#32
  let v105 : BitVec 32 := Scalar.muli arg9 c1_i32_132
  let v106 : BitVec 32 := Scalar.addi c0_i32_133 v105
  let v117 : Index := Scalar.indexCast v106
  let c80 : Index := 80#32
  ![v117.toNat, 80]

def k0_chk84 (v118 : IVec S16 32) : Prop :=
  (∀ a x, ((![v118] : Fin 1 → IVec S16 32) a x).toNat < S100000.size a)
theorem k0_idx84_inb : ∀ (v118 : IVec S16 32) (k0_hw84 : k0_chk84 v118), ∀ a x, ((![v118] : Fin 1 → IVec S16 32) a x).toNat < S100000.size a := fun v118 k0_hw84 => k0_hw84
def k0_off87 (k0_t8 : Fin k0_t8_loop.trips) : Fin 2 → Nat :=
  let c0_i32_133 : BitVec 32 := 0#32
  let c0_i32_58 : BitVec 32 := 0#32
  let c1_i32_60 : BitVec 32 := 1#32
  let arg9 : BitVec 32 := Scf.iv c0_i32_58 c1_i32_60 k0_t8
  let c1_i32_132 : BitVec 32 := 1#32
  let v105 : BitVec 32 := Scalar.muli arg9 c1_i32_132
  let v106 : BitVec 32 := Scalar.addi c0_i32_133 v105
  let v119 : Index := Scalar.indexCast v106
  let c96 : Index := 96#32
  ![v119.toNat, 96]

def k0_chk85 (v120 : IVec S16 32) : Prop :=
  (∀ a x, ((![v120] : Fin 1 → IVec S16 32) a x).toNat < S100000.size a)
theorem k0_idx85_inb : ∀ (v120 : IVec S16 32) (k0_hw85 : k0_chk85 v120), ∀ a x, ((![v120] : Fin 1 → IVec S16 32) a x).toNat < S100000.size a := fun v120 k0_hw85 => k0_hw85
def k0_off88 (k0_t8 : Fin k0_t8_loop.trips) : Fin 2 → Nat :=
  let c0_i32_133 : BitVec 32 := 0#32
  let c0_i32_58 : BitVec 32 := 0#32
  let c1_i32_60 : BitVec 32 := 1#32
  let arg9 : BitVec 32 := Scf.iv c0_i32_58 c1_i32_60 k0_t8
  let c1_i32_132 : BitVec 32 := 1#32
  let v105 : BitVec 32 := Scalar.muli arg9 c1_i32_132
  let v106 : BitVec 32 := Scalar.addi c0_i32_133 v105
  let v121 : Index := Scalar.indexCast v106
  let c112 : Index := 112#32
  ![v121.toNat, 112]

def k0_chk86 (v122 : IVec S16 32) : Prop :=
  (∀ a x, ((![v122] : Fin 1 → IVec S16 32) a x).toNat < S100000.size a)
theorem k0_idx86_inb : ∀ (v122 : IVec S16 32) (k0_hw86 : k0_chk86 v122), ∀ a x, ((![v122] : Fin 1 → IVec S16 32) a x).toNat < S100000.size a := fun v122 k0_hw86 => k0_hw86
def k0_off89 (k0_t8 : Fin k0_t8_loop.trips) : Fin 2 → Nat :=
  let c0_i32_133 : BitVec 32 := 0#32
  let c0_i32_58 : BitVec 32 := 0#32
  let c1_i32_60 : BitVec 32 := 1#32
  let arg9 : BitVec 32 := Scf.iv c0_i32_58 c1_i32_60 k0_t8
  let c1_i32_132 : BitVec 32 := 1#32
  let v105 : BitVec 32 := Scalar.muli arg9 c1_i32_132
  let v106 : BitVec 32 := Scalar.addi c0_i32_133 v105
  let v123 : Index := Scalar.indexCast v106
  let c128 : Index := 128#32
  ![v123.toNat, 128]

def k0_chk87 (v124 : IVec S16 32) : Prop :=
  (∀ a x, ((![v124] : Fin 1 → IVec S16 32) a x).toNat < S100000.size a)
theorem k0_idx87_inb : ∀ (v124 : IVec S16 32) (k0_hw87 : k0_chk87 v124), ∀ a x, ((![v124] : Fin 1 → IVec S16 32) a x).toNat < S100000.size a := fun v124 k0_hw87 => k0_hw87
def k0_off90 (k0_t8 : Fin k0_t8_loop.trips) : Fin 2 → Nat :=
  let c0_i32_133 : BitVec 32 := 0#32
  let c0_i32_58 : BitVec 32 := 0#32
  let c1_i32_60 : BitVec 32 := 1#32
  let arg9 : BitVec 32 := Scf.iv c0_i32_58 c1_i32_60 k0_t8
  let c1_i32_132 : BitVec 32 := 1#32
  let v105 : BitVec 32 := Scalar.muli arg9 c1_i32_132
  let v106 : BitVec 32 := Scalar.addi c0_i32_133 v105
  let v125 : Index := Scalar.indexCast v106
  let c144 : Index := 144#32
  ![v125.toNat, 144]

def k0_chk88 (v126 : IVec S16 32) : Prop :=
  (∀ a x, ((![v126] : Fin 1 → IVec S16 32) a x).toNat < S100000.size a)
theorem k0_idx88_inb : ∀ (v126 : IVec S16 32) (k0_hw88 : k0_chk88 v126), ∀ a x, ((![v126] : Fin 1 → IVec S16 32) a x).toNat < S100000.size a := fun v126 k0_hw88 => k0_hw88
def k0_off91 (k0_t8 : Fin k0_t8_loop.trips) : Fin 2 → Nat :=
  let c0_i32_133 : BitVec 32 := 0#32
  let c0_i32_58 : BitVec 32 := 0#32
  let c1_i32_60 : BitVec 32 := 1#32
  let arg9 : BitVec 32 := Scf.iv c0_i32_58 c1_i32_60 k0_t8
  let c1_i32_132 : BitVec 32 := 1#32
  let v105 : BitVec 32 := Scalar.muli arg9 c1_i32_132
  let v106 : BitVec 32 := Scalar.addi c0_i32_133 v105
  let v127 : Index := Scalar.indexCast v106
  let c160 : Index := 160#32
  ![v127.toNat, 160]

def k0_chk89 (v128 : IVec S16 32) : Prop :=
  (∀ a x, ((![v128] : Fin 1 → IVec S16 32) a x).toNat < S100000.size a)
theorem k0_idx89_inb : ∀ (v128 : IVec S16 32) (k0_hw89 : k0_chk89 v128), ∀ a x, ((![v128] : Fin 1 → IVec S16 32) a x).toNat < S100000.size a := fun v128 k0_hw89 => k0_hw89
def k0_off92 (k0_t8 : Fin k0_t8_loop.trips) : Fin 2 → Nat :=
  let c0_i32_133 : BitVec 32 := 0#32
  let c0_i32_58 : BitVec 32 := 0#32
  let c1_i32_60 : BitVec 32 := 1#32
  let arg9 : BitVec 32 := Scf.iv c0_i32_58 c1_i32_60 k0_t8
  let c1_i32_132 : BitVec 32 := 1#32
  let v105 : BitVec 32 := Scalar.muli arg9 c1_i32_132
  let v106 : BitVec 32 := Scalar.addi c0_i32_133 v105
  let v129 : Index := Scalar.indexCast v106
  let c176 : Index := 176#32
  ![v129.toNat, 176]

def k0_chk90 (v130 : IVec S16 32) : Prop :=
  (∀ a x, ((![v130] : Fin 1 → IVec S16 32) a x).toNat < S100000.size a)
theorem k0_idx90_inb : ∀ (v130 : IVec S16 32) (k0_hw90 : k0_chk90 v130), ∀ a x, ((![v130] : Fin 1 → IVec S16 32) a x).toNat < S100000.size a := fun v130 k0_hw90 => k0_hw90
def k0_off93 (k0_t8 : Fin k0_t8_loop.trips) : Fin 2 → Nat :=
  let c0_i32_133 : BitVec 32 := 0#32
  let c0_i32_58 : BitVec 32 := 0#32
  let c1_i32_60 : BitVec 32 := 1#32
  let arg9 : BitVec 32 := Scf.iv c0_i32_58 c1_i32_60 k0_t8
  let c1_i32_132 : BitVec 32 := 1#32
  let v105 : BitVec 32 := Scalar.muli arg9 c1_i32_132
  let v106 : BitVec 32 := Scalar.addi c0_i32_133 v105
  let v131 : Index := Scalar.indexCast v106
  let c184 : Index := 184#32
  ![v131.toNat, 184]

def k0_chk91 (v132 : IVec S16 32) : Prop :=
  (∀ a x, ((![v132] : Fin 1 → IVec S16 32) a x).toNat < S100000.size a)
theorem k0_idx91_inb : ∀ (v132 : IVec S16 32) (k0_hw91 : k0_chk91 v132), ∀ a x, ((![v132] : Fin 1 → IVec S16 32) a x).toNat < S100000.size a := fun v132 k0_hw91 => k0_hw91
@[reducible] def k0_t9_loop : Scf.Loop 32 :=
  let c0_i32_66 : BitVec 32 := 0#32
  let c32_i32_67 : BitVec 32 := 32#32
  let v59 : BitVec 32 := Scalar.addi c0_i32_66 c32_i32_67
  let c1_i32_68 : BitVec 32 := 1#32
  ⟨c0_i32_66, v59, c1_i32_68⟩
def k0_off94 (k0_t9 : Fin k0_t9_loop.trips) : Fin 2 → Nat :=
  let c0_i32_133 : BitVec 32 := 0#32
  let c0_i32_66 : BitVec 32 := 0#32
  let c1_i32_68 : BitVec 32 := 1#32
  let arg9 : BitVec 32 := Scf.iv c0_i32_66 c1_i32_68 k0_t9
  let c1_i32_132 : BitVec 32 := 1#32
  let v105 : BitVec 32 := Scalar.muli arg9 c1_i32_132
  let v106 : BitVec 32 := Scalar.addi c0_i32_133 v105
  let v107 : Index := Scalar.indexCast v106
  let c0 : Index := 0#32
  ![v107.toNat, 0]

def k0_chk92 (v108 : IVec S16 32) : Prop :=
  (∀ a x, ((![v108] : Fin 1 → IVec S16 32) a x).toNat < S100000.size a)
theorem k0_idx92_inb : ∀ (v108 : IVec S16 32) (k0_hw92 : k0_chk92 v108), ∀ a x, ((![v108] : Fin 1 → IVec S16 32) a x).toNat < S100000.size a := fun v108 k0_hw92 => k0_hw92
def k0_off95 (k0_t9 : Fin k0_t9_loop.trips) : Fin 2 → Nat :=
  let c0_i32_133 : BitVec 32 := 0#32
  let c0_i32_66 : BitVec 32 := 0#32
  let c1_i32_68 : BitVec 32 := 1#32
  let arg9 : BitVec 32 := Scf.iv c0_i32_66 c1_i32_68 k0_t9
  let c1_i32_132 : BitVec 32 := 1#32
  let v105 : BitVec 32 := Scalar.muli arg9 c1_i32_132
  let v106 : BitVec 32 := Scalar.addi c0_i32_133 v105
  let v109 : Index := Scalar.indexCast v106
  let c16 : Index := 16#32
  ![v109.toNat, 16]

def k0_chk93 (v110 : IVec S16 32) : Prop :=
  (∀ a x, ((![v110] : Fin 1 → IVec S16 32) a x).toNat < S100000.size a)
theorem k0_idx93_inb : ∀ (v110 : IVec S16 32) (k0_hw93 : k0_chk93 v110), ∀ a x, ((![v110] : Fin 1 → IVec S16 32) a x).toNat < S100000.size a := fun v110 k0_hw93 => k0_hw93
def k0_off96 (k0_t9 : Fin k0_t9_loop.trips) : Fin 2 → Nat :=
  let c0_i32_133 : BitVec 32 := 0#32
  let c0_i32_66 : BitVec 32 := 0#32
  let c1_i32_68 : BitVec 32 := 1#32
  let arg9 : BitVec 32 := Scf.iv c0_i32_66 c1_i32_68 k0_t9
  let c1_i32_132 : BitVec 32 := 1#32
  let v105 : BitVec 32 := Scalar.muli arg9 c1_i32_132
  let v106 : BitVec 32 := Scalar.addi c0_i32_133 v105
  let v111 : Index := Scalar.indexCast v106
  let c32 : Index := 32#32
  ![v111.toNat, 32]

def k0_chk94 (v112 : IVec S16 32) : Prop :=
  (∀ a x, ((![v112] : Fin 1 → IVec S16 32) a x).toNat < S100000.size a)
theorem k0_idx94_inb : ∀ (v112 : IVec S16 32) (k0_hw94 : k0_chk94 v112), ∀ a x, ((![v112] : Fin 1 → IVec S16 32) a x).toNat < S100000.size a := fun v112 k0_hw94 => k0_hw94
def k0_off97 (k0_t9 : Fin k0_t9_loop.trips) : Fin 2 → Nat :=
  let c0_i32_133 : BitVec 32 := 0#32
  let c0_i32_66 : BitVec 32 := 0#32
  let c1_i32_68 : BitVec 32 := 1#32
  let arg9 : BitVec 32 := Scf.iv c0_i32_66 c1_i32_68 k0_t9
  let c1_i32_132 : BitVec 32 := 1#32
  let v105 : BitVec 32 := Scalar.muli arg9 c1_i32_132
  let v106 : BitVec 32 := Scalar.addi c0_i32_133 v105
  let v113 : Index := Scalar.indexCast v106
  let c48 : Index := 48#32
  ![v113.toNat, 48]

def k0_chk95 (v114 : IVec S16 32) : Prop :=
  (∀ a x, ((![v114] : Fin 1 → IVec S16 32) a x).toNat < S100000.size a)
theorem k0_idx95_inb : ∀ (v114 : IVec S16 32) (k0_hw95 : k0_chk95 v114), ∀ a x, ((![v114] : Fin 1 → IVec S16 32) a x).toNat < S100000.size a := fun v114 k0_hw95 => k0_hw95
def k0_off98 (k0_t9 : Fin k0_t9_loop.trips) : Fin 2 → Nat :=
  let c0_i32_133 : BitVec 32 := 0#32
  let c0_i32_66 : BitVec 32 := 0#32
  let c1_i32_68 : BitVec 32 := 1#32
  let arg9 : BitVec 32 := Scf.iv c0_i32_66 c1_i32_68 k0_t9
  let c1_i32_132 : BitVec 32 := 1#32
  let v105 : BitVec 32 := Scalar.muli arg9 c1_i32_132
  let v106 : BitVec 32 := Scalar.addi c0_i32_133 v105
  let v115 : Index := Scalar.indexCast v106
  let c64 : Index := 64#32
  ![v115.toNat, 64]

def k0_chk96 (v116 : IVec S16 32) : Prop :=
  (∀ a x, ((![v116] : Fin 1 → IVec S16 32) a x).toNat < S100000.size a)
theorem k0_idx96_inb : ∀ (v116 : IVec S16 32) (k0_hw96 : k0_chk96 v116), ∀ a x, ((![v116] : Fin 1 → IVec S16 32) a x).toNat < S100000.size a := fun v116 k0_hw96 => k0_hw96
def k0_off99 (k0_t9 : Fin k0_t9_loop.trips) : Fin 2 → Nat :=
  let c0_i32_133 : BitVec 32 := 0#32
  let c0_i32_66 : BitVec 32 := 0#32
  let c1_i32_68 : BitVec 32 := 1#32
  let arg9 : BitVec 32 := Scf.iv c0_i32_66 c1_i32_68 k0_t9
  let c1_i32_132 : BitVec 32 := 1#32
  let v105 : BitVec 32 := Scalar.muli arg9 c1_i32_132
  let v106 : BitVec 32 := Scalar.addi c0_i32_133 v105
  let v117 : Index := Scalar.indexCast v106
  let c80 : Index := 80#32
  ![v117.toNat, 80]

def k0_chk97 (v118 : IVec S16 32) : Prop :=
  (∀ a x, ((![v118] : Fin 1 → IVec S16 32) a x).toNat < S100000.size a)
theorem k0_idx97_inb : ∀ (v118 : IVec S16 32) (k0_hw97 : k0_chk97 v118), ∀ a x, ((![v118] : Fin 1 → IVec S16 32) a x).toNat < S100000.size a := fun v118 k0_hw97 => k0_hw97
def k0_off100 (k0_t9 : Fin k0_t9_loop.trips) : Fin 2 → Nat :=
  let c0_i32_133 : BitVec 32 := 0#32
  let c0_i32_66 : BitVec 32 := 0#32
  let c1_i32_68 : BitVec 32 := 1#32
  let arg9 : BitVec 32 := Scf.iv c0_i32_66 c1_i32_68 k0_t9
  let c1_i32_132 : BitVec 32 := 1#32
  let v105 : BitVec 32 := Scalar.muli arg9 c1_i32_132
  let v106 : BitVec 32 := Scalar.addi c0_i32_133 v105
  let v119 : Index := Scalar.indexCast v106
  let c96 : Index := 96#32
  ![v119.toNat, 96]

def k0_chk98 (v120 : IVec S16 32) : Prop :=
  (∀ a x, ((![v120] : Fin 1 → IVec S16 32) a x).toNat < S100000.size a)
theorem k0_idx98_inb : ∀ (v120 : IVec S16 32) (k0_hw98 : k0_chk98 v120), ∀ a x, ((![v120] : Fin 1 → IVec S16 32) a x).toNat < S100000.size a := fun v120 k0_hw98 => k0_hw98
def k0_off101 (k0_t9 : Fin k0_t9_loop.trips) : Fin 2 → Nat :=
  let c0_i32_133 : BitVec 32 := 0#32
  let c0_i32_66 : BitVec 32 := 0#32
  let c1_i32_68 : BitVec 32 := 1#32
  let arg9 : BitVec 32 := Scf.iv c0_i32_66 c1_i32_68 k0_t9
  let c1_i32_132 : BitVec 32 := 1#32
  let v105 : BitVec 32 := Scalar.muli arg9 c1_i32_132
  let v106 : BitVec 32 := Scalar.addi c0_i32_133 v105
  let v121 : Index := Scalar.indexCast v106
  let c112 : Index := 112#32
  ![v121.toNat, 112]

def k0_chk99 (v122 : IVec S16 32) : Prop :=
  (∀ a x, ((![v122] : Fin 1 → IVec S16 32) a x).toNat < S100000.size a)
theorem k0_idx99_inb : ∀ (v122 : IVec S16 32) (k0_hw99 : k0_chk99 v122), ∀ a x, ((![v122] : Fin 1 → IVec S16 32) a x).toNat < S100000.size a := fun v122 k0_hw99 => k0_hw99
def k0_off102 (k0_t9 : Fin k0_t9_loop.trips) : Fin 2 → Nat :=
  let c0_i32_133 : BitVec 32 := 0#32
  let c0_i32_66 : BitVec 32 := 0#32
  let c1_i32_68 : BitVec 32 := 1#32
  let arg9 : BitVec 32 := Scf.iv c0_i32_66 c1_i32_68 k0_t9
  let c1_i32_132 : BitVec 32 := 1#32
  let v105 : BitVec 32 := Scalar.muli arg9 c1_i32_132
  let v106 : BitVec 32 := Scalar.addi c0_i32_133 v105
  let v123 : Index := Scalar.indexCast v106
  let c128 : Index := 128#32
  ![v123.toNat, 128]

def k0_chk100 (v124 : IVec S16 32) : Prop :=
  (∀ a x, ((![v124] : Fin 1 → IVec S16 32) a x).toNat < S100000.size a)
theorem k0_idx100_inb : ∀ (v124 : IVec S16 32) (k0_hw100 : k0_chk100 v124), ∀ a x, ((![v124] : Fin 1 → IVec S16 32) a x).toNat < S100000.size a := fun v124 k0_hw100 => k0_hw100
def k0_off103 (k0_t9 : Fin k0_t9_loop.trips) : Fin 2 → Nat :=
  let c0_i32_133 : BitVec 32 := 0#32
  let c0_i32_66 : BitVec 32 := 0#32
  let c1_i32_68 : BitVec 32 := 1#32
  let arg9 : BitVec 32 := Scf.iv c0_i32_66 c1_i32_68 k0_t9
  let c1_i32_132 : BitVec 32 := 1#32
  let v105 : BitVec 32 := Scalar.muli arg9 c1_i32_132
  let v106 : BitVec 32 := Scalar.addi c0_i32_133 v105
  let v125 : Index := Scalar.indexCast v106
  let c144 : Index := 144#32
  ![v125.toNat, 144]

def k0_chk101 (v126 : IVec S16 32) : Prop :=
  (∀ a x, ((![v126] : Fin 1 → IVec S16 32) a x).toNat < S100000.size a)
theorem k0_idx101_inb : ∀ (v126 : IVec S16 32) (k0_hw101 : k0_chk101 v126), ∀ a x, ((![v126] : Fin 1 → IVec S16 32) a x).toNat < S100000.size a := fun v126 k0_hw101 => k0_hw101
def k0_off104 (k0_t9 : Fin k0_t9_loop.trips) : Fin 2 → Nat :=
  let c0_i32_133 : BitVec 32 := 0#32
  let c0_i32_66 : BitVec 32 := 0#32
  let c1_i32_68 : BitVec 32 := 1#32
  let arg9 : BitVec 32 := Scf.iv c0_i32_66 c1_i32_68 k0_t9
  let c1_i32_132 : BitVec 32 := 1#32
  let v105 : BitVec 32 := Scalar.muli arg9 c1_i32_132
  let v106 : BitVec 32 := Scalar.addi c0_i32_133 v105
  let v127 : Index := Scalar.indexCast v106
  let c160 : Index := 160#32
  ![v127.toNat, 160]

def k0_chk102 (v128 : IVec S16 32) : Prop :=
  (∀ a x, ((![v128] : Fin 1 → IVec S16 32) a x).toNat < S100000.size a)
theorem k0_idx102_inb : ∀ (v128 : IVec S16 32) (k0_hw102 : k0_chk102 v128), ∀ a x, ((![v128] : Fin 1 → IVec S16 32) a x).toNat < S100000.size a := fun v128 k0_hw102 => k0_hw102
def k0_off105 (k0_t9 : Fin k0_t9_loop.trips) : Fin 2 → Nat :=
  let c0_i32_133 : BitVec 32 := 0#32
  let c0_i32_66 : BitVec 32 := 0#32
  let c1_i32_68 : BitVec 32 := 1#32
  let arg9 : BitVec 32 := Scf.iv c0_i32_66 c1_i32_68 k0_t9
  let c1_i32_132 : BitVec 32 := 1#32
  let v105 : BitVec 32 := Scalar.muli arg9 c1_i32_132
  let v106 : BitVec 32 := Scalar.addi c0_i32_133 v105
  let v129 : Index := Scalar.indexCast v106
  let c176 : Index := 176#32
  ![v129.toNat, 176]

def k0_chk103 (v130 : IVec S16 32) : Prop :=
  (∀ a x, ((![v130] : Fin 1 → IVec S16 32) a x).toNat < S100000.size a)
theorem k0_idx103_inb : ∀ (v130 : IVec S16 32) (k0_hw103 : k0_chk103 v130), ∀ a x, ((![v130] : Fin 1 → IVec S16 32) a x).toNat < S100000.size a := fun v130 k0_hw103 => k0_hw103
def k0_off106 (k0_t9 : Fin k0_t9_loop.trips) : Fin 2 → Nat :=
  let c0_i32_133 : BitVec 32 := 0#32
  let c0_i32_66 : BitVec 32 := 0#32
  let c1_i32_68 : BitVec 32 := 1#32
  let arg9 : BitVec 32 := Scf.iv c0_i32_66 c1_i32_68 k0_t9
  let c1_i32_132 : BitVec 32 := 1#32
  let v105 : BitVec 32 := Scalar.muli arg9 c1_i32_132
  let v106 : BitVec 32 := Scalar.addi c0_i32_133 v105
  let v131 : Index := Scalar.indexCast v106
  let c184 : Index := 184#32
  ![v131.toNat, 184]

def k0_chk104 (v132 : IVec S16 32) : Prop :=
  (∀ a x, ((![v132] : Fin 1 → IVec S16 32) a x).toNat < S100000.size a)
theorem k0_idx104_inb : ∀ (v132 : IVec S16 32) (k0_hw104 : k0_chk104 v132), ∀ a x, ((![v132] : Fin 1 → IVec S16 32) a x).toNat < S100000.size a := fun v132 k0_hw104 => k0_hw104
@[reducible] def k0_t10_loop : Scf.Loop 32 :=
  let c0_i32_74 : BitVec 32 := 0#32
  let c32_i32_75 : BitVec 32 := 32#32
  let v65 : BitVec 32 := Scalar.addi c0_i32_74 c32_i32_75
  let c1_i32_76 : BitVec 32 := 1#32
  ⟨c0_i32_74, v65, c1_i32_76⟩
def k0_off107 (k0_t10 : Fin k0_t10_loop.trips) : Fin 2 → Nat :=
  let c0_i32_133 : BitVec 32 := 0#32
  let c0_i32_74 : BitVec 32 := 0#32
  let c1_i32_76 : BitVec 32 := 1#32
  let arg9 : BitVec 32 := Scf.iv c0_i32_74 c1_i32_76 k0_t10
  let c1_i32_132 : BitVec 32 := 1#32
  let v105 : BitVec 32 := Scalar.muli arg9 c1_i32_132
  let v106 : BitVec 32 := Scalar.addi c0_i32_133 v105
  let v107 : Index := Scalar.indexCast v106
  let c0 : Index := 0#32
  ![v107.toNat, 0]

def k0_chk105 (v108 : IVec S16 32) : Prop :=
  (∀ a x, ((![v108] : Fin 1 → IVec S16 32) a x).toNat < S100000.size a)
theorem k0_idx105_inb : ∀ (v108 : IVec S16 32) (k0_hw105 : k0_chk105 v108), ∀ a x, ((![v108] : Fin 1 → IVec S16 32) a x).toNat < S100000.size a := fun v108 k0_hw105 => k0_hw105
def k0_off108 (k0_t10 : Fin k0_t10_loop.trips) : Fin 2 → Nat :=
  let c0_i32_133 : BitVec 32 := 0#32
  let c0_i32_74 : BitVec 32 := 0#32
  let c1_i32_76 : BitVec 32 := 1#32
  let arg9 : BitVec 32 := Scf.iv c0_i32_74 c1_i32_76 k0_t10
  let c1_i32_132 : BitVec 32 := 1#32
  let v105 : BitVec 32 := Scalar.muli arg9 c1_i32_132
  let v106 : BitVec 32 := Scalar.addi c0_i32_133 v105
  let v109 : Index := Scalar.indexCast v106
  let c16 : Index := 16#32
  ![v109.toNat, 16]

def k0_chk106 (v110 : IVec S16 32) : Prop :=
  (∀ a x, ((![v110] : Fin 1 → IVec S16 32) a x).toNat < S100000.size a)
theorem k0_idx106_inb : ∀ (v110 : IVec S16 32) (k0_hw106 : k0_chk106 v110), ∀ a x, ((![v110] : Fin 1 → IVec S16 32) a x).toNat < S100000.size a := fun v110 k0_hw106 => k0_hw106
def k0_off109 (k0_t10 : Fin k0_t10_loop.trips) : Fin 2 → Nat :=
  let c0_i32_133 : BitVec 32 := 0#32
  let c0_i32_74 : BitVec 32 := 0#32
  let c1_i32_76 : BitVec 32 := 1#32
  let arg9 : BitVec 32 := Scf.iv c0_i32_74 c1_i32_76 k0_t10
  let c1_i32_132 : BitVec 32 := 1#32
  let v105 : BitVec 32 := Scalar.muli arg9 c1_i32_132
  let v106 : BitVec 32 := Scalar.addi c0_i32_133 v105
  let v111 : Index := Scalar.indexCast v106
  let c32 : Index := 32#32
  ![v111.toNat, 32]

def k0_chk107 (v112 : IVec S16 32) : Prop :=
  (∀ a x, ((![v112] : Fin 1 → IVec S16 32) a x).toNat < S100000.size a)
theorem k0_idx107_inb : ∀ (v112 : IVec S16 32) (k0_hw107 : k0_chk107 v112), ∀ a x, ((![v112] : Fin 1 → IVec S16 32) a x).toNat < S100000.size a := fun v112 k0_hw107 => k0_hw107
def k0_off110 (k0_t10 : Fin k0_t10_loop.trips) : Fin 2 → Nat :=
  let c0_i32_133 : BitVec 32 := 0#32
  let c0_i32_74 : BitVec 32 := 0#32
  let c1_i32_76 : BitVec 32 := 1#32
  let arg9 : BitVec 32 := Scf.iv c0_i32_74 c1_i32_76 k0_t10
  let c1_i32_132 : BitVec 32 := 1#32
  let v105 : BitVec 32 := Scalar.muli arg9 c1_i32_132
  let v106 : BitVec 32 := Scalar.addi c0_i32_133 v105
  let v113 : Index := Scalar.indexCast v106
  let c48 : Index := 48#32
  ![v113.toNat, 48]

def k0_chk108 (v114 : IVec S16 32) : Prop :=
  (∀ a x, ((![v114] : Fin 1 → IVec S16 32) a x).toNat < S100000.size a)
theorem k0_idx108_inb : ∀ (v114 : IVec S16 32) (k0_hw108 : k0_chk108 v114), ∀ a x, ((![v114] : Fin 1 → IVec S16 32) a x).toNat < S100000.size a := fun v114 k0_hw108 => k0_hw108
def k0_off111 (k0_t10 : Fin k0_t10_loop.trips) : Fin 2 → Nat :=
  let c0_i32_133 : BitVec 32 := 0#32
  let c0_i32_74 : BitVec 32 := 0#32
  let c1_i32_76 : BitVec 32 := 1#32
  let arg9 : BitVec 32 := Scf.iv c0_i32_74 c1_i32_76 k0_t10
  let c1_i32_132 : BitVec 32 := 1#32
  let v105 : BitVec 32 := Scalar.muli arg9 c1_i32_132
  let v106 : BitVec 32 := Scalar.addi c0_i32_133 v105
  let v115 : Index := Scalar.indexCast v106
  let c64 : Index := 64#32
  ![v115.toNat, 64]

def k0_chk109 (v116 : IVec S16 32) : Prop :=
  (∀ a x, ((![v116] : Fin 1 → IVec S16 32) a x).toNat < S100000.size a)
theorem k0_idx109_inb : ∀ (v116 : IVec S16 32) (k0_hw109 : k0_chk109 v116), ∀ a x, ((![v116] : Fin 1 → IVec S16 32) a x).toNat < S100000.size a := fun v116 k0_hw109 => k0_hw109
def k0_off112 (k0_t10 : Fin k0_t10_loop.trips) : Fin 2 → Nat :=
  let c0_i32_133 : BitVec 32 := 0#32
  let c0_i32_74 : BitVec 32 := 0#32
  let c1_i32_76 : BitVec 32 := 1#32
  let arg9 : BitVec 32 := Scf.iv c0_i32_74 c1_i32_76 k0_t10
  let c1_i32_132 : BitVec 32 := 1#32
  let v105 : BitVec 32 := Scalar.muli arg9 c1_i32_132
  let v106 : BitVec 32 := Scalar.addi c0_i32_133 v105
  let v117 : Index := Scalar.indexCast v106
  let c80 : Index := 80#32
  ![v117.toNat, 80]

def k0_chk110 (v118 : IVec S16 32) : Prop :=
  (∀ a x, ((![v118] : Fin 1 → IVec S16 32) a x).toNat < S100000.size a)
theorem k0_idx110_inb : ∀ (v118 : IVec S16 32) (k0_hw110 : k0_chk110 v118), ∀ a x, ((![v118] : Fin 1 → IVec S16 32) a x).toNat < S100000.size a := fun v118 k0_hw110 => k0_hw110
def k0_off113 (k0_t10 : Fin k0_t10_loop.trips) : Fin 2 → Nat :=
  let c0_i32_133 : BitVec 32 := 0#32
  let c0_i32_74 : BitVec 32 := 0#32
  let c1_i32_76 : BitVec 32 := 1#32
  let arg9 : BitVec 32 := Scf.iv c0_i32_74 c1_i32_76 k0_t10
  let c1_i32_132 : BitVec 32 := 1#32
  let v105 : BitVec 32 := Scalar.muli arg9 c1_i32_132
  let v106 : BitVec 32 := Scalar.addi c0_i32_133 v105
  let v119 : Index := Scalar.indexCast v106
  let c96 : Index := 96#32
  ![v119.toNat, 96]

def k0_chk111 (v120 : IVec S16 32) : Prop :=
  (∀ a x, ((![v120] : Fin 1 → IVec S16 32) a x).toNat < S100000.size a)
theorem k0_idx111_inb : ∀ (v120 : IVec S16 32) (k0_hw111 : k0_chk111 v120), ∀ a x, ((![v120] : Fin 1 → IVec S16 32) a x).toNat < S100000.size a := fun v120 k0_hw111 => k0_hw111
def k0_off114 (k0_t10 : Fin k0_t10_loop.trips) : Fin 2 → Nat :=
  let c0_i32_133 : BitVec 32 := 0#32
  let c0_i32_74 : BitVec 32 := 0#32
  let c1_i32_76 : BitVec 32 := 1#32
  let arg9 : BitVec 32 := Scf.iv c0_i32_74 c1_i32_76 k0_t10
  let c1_i32_132 : BitVec 32 := 1#32
  let v105 : BitVec 32 := Scalar.muli arg9 c1_i32_132
  let v106 : BitVec 32 := Scalar.addi c0_i32_133 v105
  let v121 : Index := Scalar.indexCast v106
  let c112 : Index := 112#32
  ![v121.toNat, 112]

def k0_chk112 (v122 : IVec S16 32) : Prop :=
  (∀ a x, ((![v122] : Fin 1 → IVec S16 32) a x).toNat < S100000.size a)
theorem k0_idx112_inb : ∀ (v122 : IVec S16 32) (k0_hw112 : k0_chk112 v122), ∀ a x, ((![v122] : Fin 1 → IVec S16 32) a x).toNat < S100000.size a := fun v122 k0_hw112 => k0_hw112
def k0_off115 (k0_t10 : Fin k0_t10_loop.trips) : Fin 2 → Nat :=
  let c0_i32_133 : BitVec 32 := 0#32
  let c0_i32_74 : BitVec 32 := 0#32
  let c1_i32_76 : BitVec 32 := 1#32
  let arg9 : BitVec 32 := Scf.iv c0_i32_74 c1_i32_76 k0_t10
  let c1_i32_132 : BitVec 32 := 1#32
  let v105 : BitVec 32 := Scalar.muli arg9 c1_i32_132
  let v106 : BitVec 32 := Scalar.addi c0_i32_133 v105
  let v123 : Index := Scalar.indexCast v106
  let c128 : Index := 128#32
  ![v123.toNat, 128]

def k0_chk113 (v124 : IVec S16 32) : Prop :=
  (∀ a x, ((![v124] : Fin 1 → IVec S16 32) a x).toNat < S100000.size a)
theorem k0_idx113_inb : ∀ (v124 : IVec S16 32) (k0_hw113 : k0_chk113 v124), ∀ a x, ((![v124] : Fin 1 → IVec S16 32) a x).toNat < S100000.size a := fun v124 k0_hw113 => k0_hw113
def k0_off116 (k0_t10 : Fin k0_t10_loop.trips) : Fin 2 → Nat :=
  let c0_i32_133 : BitVec 32 := 0#32
  let c0_i32_74 : BitVec 32 := 0#32
  let c1_i32_76 : BitVec 32 := 1#32
  let arg9 : BitVec 32 := Scf.iv c0_i32_74 c1_i32_76 k0_t10
  let c1_i32_132 : BitVec 32 := 1#32
  let v105 : BitVec 32 := Scalar.muli arg9 c1_i32_132
  let v106 : BitVec 32 := Scalar.addi c0_i32_133 v105
  let v125 : Index := Scalar.indexCast v106
  let c144 : Index := 144#32
  ![v125.toNat, 144]

def k0_chk114 (v126 : IVec S16 32) : Prop :=
  (∀ a x, ((![v126] : Fin 1 → IVec S16 32) a x).toNat < S100000.size a)
theorem k0_idx114_inb : ∀ (v126 : IVec S16 32) (k0_hw114 : k0_chk114 v126), ∀ a x, ((![v126] : Fin 1 → IVec S16 32) a x).toNat < S100000.size a := fun v126 k0_hw114 => k0_hw114
def k0_off117 (k0_t10 : Fin k0_t10_loop.trips) : Fin 2 → Nat :=
  let c0_i32_133 : BitVec 32 := 0#32
  let c0_i32_74 : BitVec 32 := 0#32
  let c1_i32_76 : BitVec 32 := 1#32
  let arg9 : BitVec 32 := Scf.iv c0_i32_74 c1_i32_76 k0_t10
  let c1_i32_132 : BitVec 32 := 1#32
  let v105 : BitVec 32 := Scalar.muli arg9 c1_i32_132
  let v106 : BitVec 32 := Scalar.addi c0_i32_133 v105
  let v127 : Index := Scalar.indexCast v106
  let c160 : Index := 160#32
  ![v127.toNat, 160]

def k0_chk115 (v128 : IVec S16 32) : Prop :=
  (∀ a x, ((![v128] : Fin 1 → IVec S16 32) a x).toNat < S100000.size a)
theorem k0_idx115_inb : ∀ (v128 : IVec S16 32) (k0_hw115 : k0_chk115 v128), ∀ a x, ((![v128] : Fin 1 → IVec S16 32) a x).toNat < S100000.size a := fun v128 k0_hw115 => k0_hw115
def k0_off118 (k0_t10 : Fin k0_t10_loop.trips) : Fin 2 → Nat :=
  let c0_i32_133 : BitVec 32 := 0#32
  let c0_i32_74 : BitVec 32 := 0#32
  let c1_i32_76 : BitVec 32 := 1#32
  let arg9 : BitVec 32 := Scf.iv c0_i32_74 c1_i32_76 k0_t10
  let c1_i32_132 : BitVec 32 := 1#32
  let v105 : BitVec 32 := Scalar.muli arg9 c1_i32_132
  let v106 : BitVec 32 := Scalar.addi c0_i32_133 v105
  let v129 : Index := Scalar.indexCast v106
  let c176 : Index := 176#32
  ![v129.toNat, 176]

def k0_chk116 (v130 : IVec S16 32) : Prop :=
  (∀ a x, ((![v130] : Fin 1 → IVec S16 32) a x).toNat < S100000.size a)
theorem k0_idx116_inb : ∀ (v130 : IVec S16 32) (k0_hw116 : k0_chk116 v130), ∀ a x, ((![v130] : Fin 1 → IVec S16 32) a x).toNat < S100000.size a := fun v130 k0_hw116 => k0_hw116
def k0_off119 (k0_t10 : Fin k0_t10_loop.trips) : Fin 2 → Nat :=
  let c0_i32_133 : BitVec 32 := 0#32
  let c0_i32_74 : BitVec 32 := 0#32
  let c1_i32_76 : BitVec 32 := 1#32
  let arg9 : BitVec 32 := Scf.iv c0_i32_74 c1_i32_76 k0_t10
  let c1_i32_132 : BitVec 32 := 1#32
  let v105 : BitVec 32 := Scalar.muli arg9 c1_i32_132
  let v106 : BitVec 32 := Scalar.addi c0_i32_133 v105
  let v131 : Index := Scalar.indexCast v106
  let c184 : Index := 184#32
  ![v131.toNat, 184]

def k0_chk117 (v132 : IVec S16 32) : Prop :=
  (∀ a x, ((![v132] : Fin 1 → IVec S16 32) a x).toNat < S100000.size a)
theorem k0_idx117_inb : ∀ (v132 : IVec S16 32) (k0_hw117 : k0_chk117 v132), ∀ a x, ((![v132] : Fin 1 → IVec S16 32) a x).toNat < S100000.size a := fun v132 k0_hw117 => k0_hw117
@[reducible] def k0_t11_loop : Scf.Loop 32 :=
  let c0_i32_82 : BitVec 32 := 0#32
  let c32_i32_83 : BitVec 32 := 32#32
  let v71 : BitVec 32 := Scalar.addi c0_i32_82 c32_i32_83
  let c1_i32_84 : BitVec 32 := 1#32
  ⟨c0_i32_82, v71, c1_i32_84⟩
def k0_off120 (k0_t11 : Fin k0_t11_loop.trips) : Fin 2 → Nat :=
  let c0_i32_133 : BitVec 32 := 0#32
  let c0_i32_82 : BitVec 32 := 0#32
  let c1_i32_84 : BitVec 32 := 1#32
  let arg9 : BitVec 32 := Scf.iv c0_i32_82 c1_i32_84 k0_t11
  let c1_i32_132 : BitVec 32 := 1#32
  let v105 : BitVec 32 := Scalar.muli arg9 c1_i32_132
  let v106 : BitVec 32 := Scalar.addi c0_i32_133 v105
  let v107 : Index := Scalar.indexCast v106
  let c0 : Index := 0#32
  ![v107.toNat, 0]

def k0_chk118 (v108 : IVec S16 32) : Prop :=
  (∀ a x, ((![v108] : Fin 1 → IVec S16 32) a x).toNat < S100000.size a)
theorem k0_idx118_inb : ∀ (v108 : IVec S16 32) (k0_hw118 : k0_chk118 v108), ∀ a x, ((![v108] : Fin 1 → IVec S16 32) a x).toNat < S100000.size a := fun v108 k0_hw118 => k0_hw118
def k0_off121 (k0_t11 : Fin k0_t11_loop.trips) : Fin 2 → Nat :=
  let c0_i32_133 : BitVec 32 := 0#32
  let c0_i32_82 : BitVec 32 := 0#32
  let c1_i32_84 : BitVec 32 := 1#32
  let arg9 : BitVec 32 := Scf.iv c0_i32_82 c1_i32_84 k0_t11
  let c1_i32_132 : BitVec 32 := 1#32
  let v105 : BitVec 32 := Scalar.muli arg9 c1_i32_132
  let v106 : BitVec 32 := Scalar.addi c0_i32_133 v105
  let v109 : Index := Scalar.indexCast v106
  let c16 : Index := 16#32
  ![v109.toNat, 16]

def k0_chk119 (v110 : IVec S16 32) : Prop :=
  (∀ a x, ((![v110] : Fin 1 → IVec S16 32) a x).toNat < S100000.size a)
theorem k0_idx119_inb : ∀ (v110 : IVec S16 32) (k0_hw119 : k0_chk119 v110), ∀ a x, ((![v110] : Fin 1 → IVec S16 32) a x).toNat < S100000.size a := fun v110 k0_hw119 => k0_hw119
def k0_off122 (k0_t11 : Fin k0_t11_loop.trips) : Fin 2 → Nat :=
  let c0_i32_133 : BitVec 32 := 0#32
  let c0_i32_82 : BitVec 32 := 0#32
  let c1_i32_84 : BitVec 32 := 1#32
  let arg9 : BitVec 32 := Scf.iv c0_i32_82 c1_i32_84 k0_t11
  let c1_i32_132 : BitVec 32 := 1#32
  let v105 : BitVec 32 := Scalar.muli arg9 c1_i32_132
  let v106 : BitVec 32 := Scalar.addi c0_i32_133 v105
  let v111 : Index := Scalar.indexCast v106
  let c32 : Index := 32#32
  ![v111.toNat, 32]

def k0_chk120 (v112 : IVec S16 32) : Prop :=
  (∀ a x, ((![v112] : Fin 1 → IVec S16 32) a x).toNat < S100000.size a)
theorem k0_idx120_inb : ∀ (v112 : IVec S16 32) (k0_hw120 : k0_chk120 v112), ∀ a x, ((![v112] : Fin 1 → IVec S16 32) a x).toNat < S100000.size a := fun v112 k0_hw120 => k0_hw120
def k0_off123 (k0_t11 : Fin k0_t11_loop.trips) : Fin 2 → Nat :=
  let c0_i32_133 : BitVec 32 := 0#32
  let c0_i32_82 : BitVec 32 := 0#32
  let c1_i32_84 : BitVec 32 := 1#32
  let arg9 : BitVec 32 := Scf.iv c0_i32_82 c1_i32_84 k0_t11
  let c1_i32_132 : BitVec 32 := 1#32
  let v105 : BitVec 32 := Scalar.muli arg9 c1_i32_132
  let v106 : BitVec 32 := Scalar.addi c0_i32_133 v105
  let v113 : Index := Scalar.indexCast v106
  let c48 : Index := 48#32
  ![v113.toNat, 48]

def k0_chk121 (v114 : IVec S16 32) : Prop :=
  (∀ a x, ((![v114] : Fin 1 → IVec S16 32) a x).toNat < S100000.size a)
theorem k0_idx121_inb : ∀ (v114 : IVec S16 32) (k0_hw121 : k0_chk121 v114), ∀ a x, ((![v114] : Fin 1 → IVec S16 32) a x).toNat < S100000.size a := fun v114 k0_hw121 => k0_hw121
def k0_off124 (k0_t11 : Fin k0_t11_loop.trips) : Fin 2 → Nat :=
  let c0_i32_133 : BitVec 32 := 0#32
  let c0_i32_82 : BitVec 32 := 0#32
  let c1_i32_84 : BitVec 32 := 1#32
  let arg9 : BitVec 32 := Scf.iv c0_i32_82 c1_i32_84 k0_t11
  let c1_i32_132 : BitVec 32 := 1#32
  let v105 : BitVec 32 := Scalar.muli arg9 c1_i32_132
  let v106 : BitVec 32 := Scalar.addi c0_i32_133 v105
  let v115 : Index := Scalar.indexCast v106
  let c64 : Index := 64#32
  ![v115.toNat, 64]

def k0_chk122 (v116 : IVec S16 32) : Prop :=
  (∀ a x, ((![v116] : Fin 1 → IVec S16 32) a x).toNat < S100000.size a)
theorem k0_idx122_inb : ∀ (v116 : IVec S16 32) (k0_hw122 : k0_chk122 v116), ∀ a x, ((![v116] : Fin 1 → IVec S16 32) a x).toNat < S100000.size a := fun v116 k0_hw122 => k0_hw122
def k0_off125 (k0_t11 : Fin k0_t11_loop.trips) : Fin 2 → Nat :=
  let c0_i32_133 : BitVec 32 := 0#32
  let c0_i32_82 : BitVec 32 := 0#32
  let c1_i32_84 : BitVec 32 := 1#32
  let arg9 : BitVec 32 := Scf.iv c0_i32_82 c1_i32_84 k0_t11
  let c1_i32_132 : BitVec 32 := 1#32
  let v105 : BitVec 32 := Scalar.muli arg9 c1_i32_132
  let v106 : BitVec 32 := Scalar.addi c0_i32_133 v105
  let v117 : Index := Scalar.indexCast v106
  let c80 : Index := 80#32
  ![v117.toNat, 80]

def k0_chk123 (v118 : IVec S16 32) : Prop :=
  (∀ a x, ((![v118] : Fin 1 → IVec S16 32) a x).toNat < S100000.size a)
theorem k0_idx123_inb : ∀ (v118 : IVec S16 32) (k0_hw123 : k0_chk123 v118), ∀ a x, ((![v118] : Fin 1 → IVec S16 32) a x).toNat < S100000.size a := fun v118 k0_hw123 => k0_hw123
def k0_off126 (k0_t11 : Fin k0_t11_loop.trips) : Fin 2 → Nat :=
  let c0_i32_133 : BitVec 32 := 0#32
  let c0_i32_82 : BitVec 32 := 0#32
  let c1_i32_84 : BitVec 32 := 1#32
  let arg9 : BitVec 32 := Scf.iv c0_i32_82 c1_i32_84 k0_t11
  let c1_i32_132 : BitVec 32 := 1#32
  let v105 : BitVec 32 := Scalar.muli arg9 c1_i32_132
  let v106 : BitVec 32 := Scalar.addi c0_i32_133 v105
  let v119 : Index := Scalar.indexCast v106
  let c96 : Index := 96#32
  ![v119.toNat, 96]

def k0_chk124 (v120 : IVec S16 32) : Prop :=
  (∀ a x, ((![v120] : Fin 1 → IVec S16 32) a x).toNat < S100000.size a)
theorem k0_idx124_inb : ∀ (v120 : IVec S16 32) (k0_hw124 : k0_chk124 v120), ∀ a x, ((![v120] : Fin 1 → IVec S16 32) a x).toNat < S100000.size a := fun v120 k0_hw124 => k0_hw124
def k0_off127 (k0_t11 : Fin k0_t11_loop.trips) : Fin 2 → Nat :=
  let c0_i32_133 : BitVec 32 := 0#32
  let c0_i32_82 : BitVec 32 := 0#32
  let c1_i32_84 : BitVec 32 := 1#32
  let arg9 : BitVec 32 := Scf.iv c0_i32_82 c1_i32_84 k0_t11
  let c1_i32_132 : BitVec 32 := 1#32
  let v105 : BitVec 32 := Scalar.muli arg9 c1_i32_132
  let v106 : BitVec 32 := Scalar.addi c0_i32_133 v105
  let v121 : Index := Scalar.indexCast v106
  let c112 : Index := 112#32
  ![v121.toNat, 112]

def k0_chk125 (v122 : IVec S16 32) : Prop :=
  (∀ a x, ((![v122] : Fin 1 → IVec S16 32) a x).toNat < S100000.size a)
theorem k0_idx125_inb : ∀ (v122 : IVec S16 32) (k0_hw125 : k0_chk125 v122), ∀ a x, ((![v122] : Fin 1 → IVec S16 32) a x).toNat < S100000.size a := fun v122 k0_hw125 => k0_hw125
def k0_off128 (k0_t11 : Fin k0_t11_loop.trips) : Fin 2 → Nat :=
  let c0_i32_133 : BitVec 32 := 0#32
  let c0_i32_82 : BitVec 32 := 0#32
  let c1_i32_84 : BitVec 32 := 1#32
  let arg9 : BitVec 32 := Scf.iv c0_i32_82 c1_i32_84 k0_t11
  let c1_i32_132 : BitVec 32 := 1#32
  let v105 : BitVec 32 := Scalar.muli arg9 c1_i32_132
  let v106 : BitVec 32 := Scalar.addi c0_i32_133 v105
  let v123 : Index := Scalar.indexCast v106
  let c128 : Index := 128#32
  ![v123.toNat, 128]

def k0_chk126 (v124 : IVec S16 32) : Prop :=
  (∀ a x, ((![v124] : Fin 1 → IVec S16 32) a x).toNat < S100000.size a)
theorem k0_idx126_inb : ∀ (v124 : IVec S16 32) (k0_hw126 : k0_chk126 v124), ∀ a x, ((![v124] : Fin 1 → IVec S16 32) a x).toNat < S100000.size a := fun v124 k0_hw126 => k0_hw126
def k0_off129 (k0_t11 : Fin k0_t11_loop.trips) : Fin 2 → Nat :=
  let c0_i32_133 : BitVec 32 := 0#32
  let c0_i32_82 : BitVec 32 := 0#32
  let c1_i32_84 : BitVec 32 := 1#32
  let arg9 : BitVec 32 := Scf.iv c0_i32_82 c1_i32_84 k0_t11
  let c1_i32_132 : BitVec 32 := 1#32
  let v105 : BitVec 32 := Scalar.muli arg9 c1_i32_132
  let v106 : BitVec 32 := Scalar.addi c0_i32_133 v105
  let v125 : Index := Scalar.indexCast v106
  let c144 : Index := 144#32
  ![v125.toNat, 144]

def k0_chk127 (v126 : IVec S16 32) : Prop :=
  (∀ a x, ((![v126] : Fin 1 → IVec S16 32) a x).toNat < S100000.size a)
theorem k0_idx127_inb : ∀ (v126 : IVec S16 32) (k0_hw127 : k0_chk127 v126), ∀ a x, ((![v126] : Fin 1 → IVec S16 32) a x).toNat < S100000.size a := fun v126 k0_hw127 => k0_hw127
def k0_off130 (k0_t11 : Fin k0_t11_loop.trips) : Fin 2 → Nat :=
  let c0_i32_133 : BitVec 32 := 0#32
  let c0_i32_82 : BitVec 32 := 0#32
  let c1_i32_84 : BitVec 32 := 1#32
  let arg9 : BitVec 32 := Scf.iv c0_i32_82 c1_i32_84 k0_t11
  let c1_i32_132 : BitVec 32 := 1#32
  let v105 : BitVec 32 := Scalar.muli arg9 c1_i32_132
  let v106 : BitVec 32 := Scalar.addi c0_i32_133 v105
  let v127 : Index := Scalar.indexCast v106
  let c160 : Index := 160#32
  ![v127.toNat, 160]

def k0_chk128 (v128 : IVec S16 32) : Prop :=
  (∀ a x, ((![v128] : Fin 1 → IVec S16 32) a x).toNat < S100000.size a)
theorem k0_idx128_inb : ∀ (v128 : IVec S16 32) (k0_hw128 : k0_chk128 v128), ∀ a x, ((![v128] : Fin 1 → IVec S16 32) a x).toNat < S100000.size a := fun v128 k0_hw128 => k0_hw128
def k0_off131 (k0_t11 : Fin k0_t11_loop.trips) : Fin 2 → Nat :=
  let c0_i32_133 : BitVec 32 := 0#32
  let c0_i32_82 : BitVec 32 := 0#32
  let c1_i32_84 : BitVec 32 := 1#32
  let arg9 : BitVec 32 := Scf.iv c0_i32_82 c1_i32_84 k0_t11
  let c1_i32_132 : BitVec 32 := 1#32
  let v105 : BitVec 32 := Scalar.muli arg9 c1_i32_132
  let v106 : BitVec 32 := Scalar.addi c0_i32_133 v105
  let v129 : Index := Scalar.indexCast v106
  let c176 : Index := 176#32
  ![v129.toNat, 176]

def k0_chk129 (v130 : IVec S16 32) : Prop :=
  (∀ a x, ((![v130] : Fin 1 → IVec S16 32) a x).toNat < S100000.size a)
theorem k0_idx129_inb : ∀ (v130 : IVec S16 32) (k0_hw129 : k0_chk129 v130), ∀ a x, ((![v130] : Fin 1 → IVec S16 32) a x).toNat < S100000.size a := fun v130 k0_hw129 => k0_hw129
def k0_off132 (k0_t11 : Fin k0_t11_loop.trips) : Fin 2 → Nat :=
  let c0_i32_133 : BitVec 32 := 0#32
  let c0_i32_82 : BitVec 32 := 0#32
  let c1_i32_84 : BitVec 32 := 1#32
  let arg9 : BitVec 32 := Scf.iv c0_i32_82 c1_i32_84 k0_t11
  let c1_i32_132 : BitVec 32 := 1#32
  let v105 : BitVec 32 := Scalar.muli arg9 c1_i32_132
  let v106 : BitVec 32 := Scalar.addi c0_i32_133 v105
  let v131 : Index := Scalar.indexCast v106
  let c184 : Index := 184#32
  ![v131.toNat, 184]

def k0_chk130 (v132 : IVec S16 32) : Prop :=
  (∀ a x, ((![v132] : Fin 1 → IVec S16 32) a x).toNat < S100000.size a)
theorem k0_idx130_inb : ∀ (v132 : IVec S16 32) (k0_hw130 : k0_chk130 v132), ∀ a x, ((![v132] : Fin 1 → IVec S16 32) a x).toNat < S100000.size a := fun v132 k0_hw130 => k0_hw130
@[reducible] def k0_t12_loop : Scf.Loop 32 :=
  let c0_i32_90 : BitVec 32 := 0#32
  let c32_i32_91 : BitVec 32 := 32#32
  let v77 : BitVec 32 := Scalar.addi c0_i32_90 c32_i32_91
  let c1_i32_92 : BitVec 32 := 1#32
  ⟨c0_i32_90, v77, c1_i32_92⟩
def k0_off133 (k0_t12 : Fin k0_t12_loop.trips) : Fin 2 → Nat :=
  let c0_i32_133 : BitVec 32 := 0#32
  let c0_i32_90 : BitVec 32 := 0#32
  let c1_i32_92 : BitVec 32 := 1#32
  let arg9 : BitVec 32 := Scf.iv c0_i32_90 c1_i32_92 k0_t12
  let c1_i32_132 : BitVec 32 := 1#32
  let v105 : BitVec 32 := Scalar.muli arg9 c1_i32_132
  let v106 : BitVec 32 := Scalar.addi c0_i32_133 v105
  let v107 : Index := Scalar.indexCast v106
  let c0 : Index := 0#32
  ![v107.toNat, 0]

def k0_chk131 (v108 : IVec S16 32) : Prop :=
  (∀ a x, ((![v108] : Fin 1 → IVec S16 32) a x).toNat < S100000.size a)
theorem k0_idx131_inb : ∀ (v108 : IVec S16 32) (k0_hw131 : k0_chk131 v108), ∀ a x, ((![v108] : Fin 1 → IVec S16 32) a x).toNat < S100000.size a := fun v108 k0_hw131 => k0_hw131
def k0_off134 (k0_t12 : Fin k0_t12_loop.trips) : Fin 2 → Nat :=
  let c0_i32_133 : BitVec 32 := 0#32
  let c0_i32_90 : BitVec 32 := 0#32
  let c1_i32_92 : BitVec 32 := 1#32
  let arg9 : BitVec 32 := Scf.iv c0_i32_90 c1_i32_92 k0_t12
  let c1_i32_132 : BitVec 32 := 1#32
  let v105 : BitVec 32 := Scalar.muli arg9 c1_i32_132
  let v106 : BitVec 32 := Scalar.addi c0_i32_133 v105
  let v109 : Index := Scalar.indexCast v106
  let c16 : Index := 16#32
  ![v109.toNat, 16]

def k0_chk132 (v110 : IVec S16 32) : Prop :=
  (∀ a x, ((![v110] : Fin 1 → IVec S16 32) a x).toNat < S100000.size a)
theorem k0_idx132_inb : ∀ (v110 : IVec S16 32) (k0_hw132 : k0_chk132 v110), ∀ a x, ((![v110] : Fin 1 → IVec S16 32) a x).toNat < S100000.size a := fun v110 k0_hw132 => k0_hw132
def k0_off135 (k0_t12 : Fin k0_t12_loop.trips) : Fin 2 → Nat :=
  let c0_i32_133 : BitVec 32 := 0#32
  let c0_i32_90 : BitVec 32 := 0#32
  let c1_i32_92 : BitVec 32 := 1#32
  let arg9 : BitVec 32 := Scf.iv c0_i32_90 c1_i32_92 k0_t12
  let c1_i32_132 : BitVec 32 := 1#32
  let v105 : BitVec 32 := Scalar.muli arg9 c1_i32_132
  let v106 : BitVec 32 := Scalar.addi c0_i32_133 v105
  let v111 : Index := Scalar.indexCast v106
  let c32 : Index := 32#32
  ![v111.toNat, 32]

def k0_chk133 (v112 : IVec S16 32) : Prop :=
  (∀ a x, ((![v112] : Fin 1 → IVec S16 32) a x).toNat < S100000.size a)
theorem k0_idx133_inb : ∀ (v112 : IVec S16 32) (k0_hw133 : k0_chk133 v112), ∀ a x, ((![v112] : Fin 1 → IVec S16 32) a x).toNat < S100000.size a := fun v112 k0_hw133 => k0_hw133
def k0_off136 (k0_t12 : Fin k0_t12_loop.trips) : Fin 2 → Nat :=
  let c0_i32_133 : BitVec 32 := 0#32
  let c0_i32_90 : BitVec 32 := 0#32
  let c1_i32_92 : BitVec 32 := 1#32
  let arg9 : BitVec 32 := Scf.iv c0_i32_90 c1_i32_92 k0_t12
  let c1_i32_132 : BitVec 32 := 1#32
  let v105 : BitVec 32 := Scalar.muli arg9 c1_i32_132
  let v106 : BitVec 32 := Scalar.addi c0_i32_133 v105
  let v113 : Index := Scalar.indexCast v106
  let c48 : Index := 48#32
  ![v113.toNat, 48]

def k0_chk134 (v114 : IVec S16 32) : Prop :=
  (∀ a x, ((![v114] : Fin 1 → IVec S16 32) a x).toNat < S100000.size a)
theorem k0_idx134_inb : ∀ (v114 : IVec S16 32) (k0_hw134 : k0_chk134 v114), ∀ a x, ((![v114] : Fin 1 → IVec S16 32) a x).toNat < S100000.size a := fun v114 k0_hw134 => k0_hw134
def k0_off137 (k0_t12 : Fin k0_t12_loop.trips) : Fin 2 → Nat :=
  let c0_i32_133 : BitVec 32 := 0#32
  let c0_i32_90 : BitVec 32 := 0#32
  let c1_i32_92 : BitVec 32 := 1#32
  let arg9 : BitVec 32 := Scf.iv c0_i32_90 c1_i32_92 k0_t12
  let c1_i32_132 : BitVec 32 := 1#32
  let v105 : BitVec 32 := Scalar.muli arg9 c1_i32_132
  let v106 : BitVec 32 := Scalar.addi c0_i32_133 v105
  let v115 : Index := Scalar.indexCast v106
  let c64 : Index := 64#32
  ![v115.toNat, 64]

def k0_chk135 (v116 : IVec S16 32) : Prop :=
  (∀ a x, ((![v116] : Fin 1 → IVec S16 32) a x).toNat < S100000.size a)
theorem k0_idx135_inb : ∀ (v116 : IVec S16 32) (k0_hw135 : k0_chk135 v116), ∀ a x, ((![v116] : Fin 1 → IVec S16 32) a x).toNat < S100000.size a := fun v116 k0_hw135 => k0_hw135
def k0_off138 (k0_t12 : Fin k0_t12_loop.trips) : Fin 2 → Nat :=
  let c0_i32_133 : BitVec 32 := 0#32
  let c0_i32_90 : BitVec 32 := 0#32
  let c1_i32_92 : BitVec 32 := 1#32
  let arg9 : BitVec 32 := Scf.iv c0_i32_90 c1_i32_92 k0_t12
  let c1_i32_132 : BitVec 32 := 1#32
  let v105 : BitVec 32 := Scalar.muli arg9 c1_i32_132
  let v106 : BitVec 32 := Scalar.addi c0_i32_133 v105
  let v117 : Index := Scalar.indexCast v106
  let c80 : Index := 80#32
  ![v117.toNat, 80]

def k0_chk136 (v118 : IVec S16 32) : Prop :=
  (∀ a x, ((![v118] : Fin 1 → IVec S16 32) a x).toNat < S100000.size a)
theorem k0_idx136_inb : ∀ (v118 : IVec S16 32) (k0_hw136 : k0_chk136 v118), ∀ a x, ((![v118] : Fin 1 → IVec S16 32) a x).toNat < S100000.size a := fun v118 k0_hw136 => k0_hw136
def k0_off139 (k0_t12 : Fin k0_t12_loop.trips) : Fin 2 → Nat :=
  let c0_i32_133 : BitVec 32 := 0#32
  let c0_i32_90 : BitVec 32 := 0#32
  let c1_i32_92 : BitVec 32 := 1#32
  let arg9 : BitVec 32 := Scf.iv c0_i32_90 c1_i32_92 k0_t12
  let c1_i32_132 : BitVec 32 := 1#32
  let v105 : BitVec 32 := Scalar.muli arg9 c1_i32_132
  let v106 : BitVec 32 := Scalar.addi c0_i32_133 v105
  let v119 : Index := Scalar.indexCast v106
  let c96 : Index := 96#32
  ![v119.toNat, 96]

def k0_chk137 (v120 : IVec S16 32) : Prop :=
  (∀ a x, ((![v120] : Fin 1 → IVec S16 32) a x).toNat < S100000.size a)
theorem k0_idx137_inb : ∀ (v120 : IVec S16 32) (k0_hw137 : k0_chk137 v120), ∀ a x, ((![v120] : Fin 1 → IVec S16 32) a x).toNat < S100000.size a := fun v120 k0_hw137 => k0_hw137
def k0_off140 (k0_t12 : Fin k0_t12_loop.trips) : Fin 2 → Nat :=
  let c0_i32_133 : BitVec 32 := 0#32
  let c0_i32_90 : BitVec 32 := 0#32
  let c1_i32_92 : BitVec 32 := 1#32
  let arg9 : BitVec 32 := Scf.iv c0_i32_90 c1_i32_92 k0_t12
  let c1_i32_132 : BitVec 32 := 1#32
  let v105 : BitVec 32 := Scalar.muli arg9 c1_i32_132
  let v106 : BitVec 32 := Scalar.addi c0_i32_133 v105
  let v121 : Index := Scalar.indexCast v106
  let c112 : Index := 112#32
  ![v121.toNat, 112]

def k0_chk138 (v122 : IVec S16 32) : Prop :=
  (∀ a x, ((![v122] : Fin 1 → IVec S16 32) a x).toNat < S100000.size a)
theorem k0_idx138_inb : ∀ (v122 : IVec S16 32) (k0_hw138 : k0_chk138 v122), ∀ a x, ((![v122] : Fin 1 → IVec S16 32) a x).toNat < S100000.size a := fun v122 k0_hw138 => k0_hw138
def k0_off141 (k0_t12 : Fin k0_t12_loop.trips) : Fin 2 → Nat :=
  let c0_i32_133 : BitVec 32 := 0#32
  let c0_i32_90 : BitVec 32 := 0#32
  let c1_i32_92 : BitVec 32 := 1#32
  let arg9 : BitVec 32 := Scf.iv c0_i32_90 c1_i32_92 k0_t12
  let c1_i32_132 : BitVec 32 := 1#32
  let v105 : BitVec 32 := Scalar.muli arg9 c1_i32_132
  let v106 : BitVec 32 := Scalar.addi c0_i32_133 v105
  let v123 : Index := Scalar.indexCast v106
  let c128 : Index := 128#32
  ![v123.toNat, 128]

def k0_chk139 (v124 : IVec S16 32) : Prop :=
  (∀ a x, ((![v124] : Fin 1 → IVec S16 32) a x).toNat < S100000.size a)
theorem k0_idx139_inb : ∀ (v124 : IVec S16 32) (k0_hw139 : k0_chk139 v124), ∀ a x, ((![v124] : Fin 1 → IVec S16 32) a x).toNat < S100000.size a := fun v124 k0_hw139 => k0_hw139
def k0_off142 (k0_t12 : Fin k0_t12_loop.trips) : Fin 2 → Nat :=
  let c0_i32_133 : BitVec 32 := 0#32
  let c0_i32_90 : BitVec 32 := 0#32
  let c1_i32_92 : BitVec 32 := 1#32
  let arg9 : BitVec 32 := Scf.iv c0_i32_90 c1_i32_92 k0_t12
  let c1_i32_132 : BitVec 32 := 1#32
  let v105 : BitVec 32 := Scalar.muli arg9 c1_i32_132
  let v106 : BitVec 32 := Scalar.addi c0_i32_133 v105
  let v125 : Index := Scalar.indexCast v106
  let c144 : Index := 144#32
  ![v125.toNat, 144]

def k0_chk140 (v126 : IVec S16 32) : Prop :=
  (∀ a x, ((![v126] : Fin 1 → IVec S16 32) a x).toNat < S100000.size a)
theorem k0_idx140_inb : ∀ (v126 : IVec S16 32) (k0_hw140 : k0_chk140 v126), ∀ a x, ((![v126] : Fin 1 → IVec S16 32) a x).toNat < S100000.size a := fun v126 k0_hw140 => k0_hw140
def k0_off143 (k0_t12 : Fin k0_t12_loop.trips) : Fin 2 → Nat :=
  let c0_i32_133 : BitVec 32 := 0#32
  let c0_i32_90 : BitVec 32 := 0#32
  let c1_i32_92 : BitVec 32 := 1#32
  let arg9 : BitVec 32 := Scf.iv c0_i32_90 c1_i32_92 k0_t12
  let c1_i32_132 : BitVec 32 := 1#32
  let v105 : BitVec 32 := Scalar.muli arg9 c1_i32_132
  let v106 : BitVec 32 := Scalar.addi c0_i32_133 v105
  let v127 : Index := Scalar.indexCast v106
  let c160 : Index := 160#32
  ![v127.toNat, 160]

def k0_chk141 (v128 : IVec S16 32) : Prop :=
  (∀ a x, ((![v128] : Fin 1 → IVec S16 32) a x).toNat < S100000.size a)
theorem k0_idx141_inb : ∀ (v128 : IVec S16 32) (k0_hw141 : k0_chk141 v128), ∀ a x, ((![v128] : Fin 1 → IVec S16 32) a x).toNat < S100000.size a := fun v128 k0_hw141 => k0_hw141
def k0_off144 (k0_t12 : Fin k0_t12_loop.trips) : Fin 2 → Nat :=
  let c0_i32_133 : BitVec 32 := 0#32
  let c0_i32_90 : BitVec 32 := 0#32
  let c1_i32_92 : BitVec 32 := 1#32
  let arg9 : BitVec 32 := Scf.iv c0_i32_90 c1_i32_92 k0_t12
  let c1_i32_132 : BitVec 32 := 1#32
  let v105 : BitVec 32 := Scalar.muli arg9 c1_i32_132
  let v106 : BitVec 32 := Scalar.addi c0_i32_133 v105
  let v129 : Index := Scalar.indexCast v106
  let c176 : Index := 176#32
  ![v129.toNat, 176]

def k0_chk142 (v130 : IVec S16 32) : Prop :=
  (∀ a x, ((![v130] : Fin 1 → IVec S16 32) a x).toNat < S100000.size a)
theorem k0_idx142_inb : ∀ (v130 : IVec S16 32) (k0_hw142 : k0_chk142 v130), ∀ a x, ((![v130] : Fin 1 → IVec S16 32) a x).toNat < S100000.size a := fun v130 k0_hw142 => k0_hw142
def k0_off145 (k0_t12 : Fin k0_t12_loop.trips) : Fin 2 → Nat :=
  let c0_i32_133 : BitVec 32 := 0#32
  let c0_i32_90 : BitVec 32 := 0#32
  let c1_i32_92 : BitVec 32 := 1#32
  let arg9 : BitVec 32 := Scf.iv c0_i32_90 c1_i32_92 k0_t12
  let c1_i32_132 : BitVec 32 := 1#32
  let v105 : BitVec 32 := Scalar.muli arg9 c1_i32_132
  let v106 : BitVec 32 := Scalar.addi c0_i32_133 v105
  let v131 : Index := Scalar.indexCast v106
  let c184 : Index := 184#32
  ![v131.toNat, 184]

def k0_chk143 (v132 : IVec S16 32) : Prop :=
  (∀ a x, ((![v132] : Fin 1 → IVec S16 32) a x).toNat < S100000.size a)
theorem k0_idx143_inb : ∀ (v132 : IVec S16 32) (k0_hw143 : k0_chk143 v132), ∀ a x, ((![v132] : Fin 1 → IVec S16 32) a x).toNat < S100000.size a := fun v132 k0_hw143 => k0_hw143
@[reducible] def k0_t13_loop : Scf.Loop 32 :=
  let c0_i32_98 : BitVec 32 := 0#32
  let c32_i32_99 : BitVec 32 := 32#32
  let v83 : BitVec 32 := Scalar.addi c0_i32_98 c32_i32_99
  let c1_i32_100 : BitVec 32 := 1#32
  ⟨c0_i32_98, v83, c1_i32_100⟩
def k0_off146 (k0_t13 : Fin k0_t13_loop.trips) : Fin 2 → Nat :=
  let c0_i32_133 : BitVec 32 := 0#32
  let c0_i32_98 : BitVec 32 := 0#32
  let c1_i32_100 : BitVec 32 := 1#32
  let arg9 : BitVec 32 := Scf.iv c0_i32_98 c1_i32_100 k0_t13
  let c1_i32_132 : BitVec 32 := 1#32
  let v105 : BitVec 32 := Scalar.muli arg9 c1_i32_132
  let v106 : BitVec 32 := Scalar.addi c0_i32_133 v105
  let v107 : Index := Scalar.indexCast v106
  let c0 : Index := 0#32
  ![v107.toNat, 0]

def k0_chk144 (v108 : IVec S16 32) : Prop :=
  (∀ a x, ((![v108] : Fin 1 → IVec S16 32) a x).toNat < S100000.size a)
theorem k0_idx144_inb : ∀ (v108 : IVec S16 32) (k0_hw144 : k0_chk144 v108), ∀ a x, ((![v108] : Fin 1 → IVec S16 32) a x).toNat < S100000.size a := fun v108 k0_hw144 => k0_hw144
def k0_off147 (k0_t13 : Fin k0_t13_loop.trips) : Fin 2 → Nat :=
  let c0_i32_133 : BitVec 32 := 0#32
  let c0_i32_98 : BitVec 32 := 0#32
  let c1_i32_100 : BitVec 32 := 1#32
  let arg9 : BitVec 32 := Scf.iv c0_i32_98 c1_i32_100 k0_t13
  let c1_i32_132 : BitVec 32 := 1#32
  let v105 : BitVec 32 := Scalar.muli arg9 c1_i32_132
  let v106 : BitVec 32 := Scalar.addi c0_i32_133 v105
  let v109 : Index := Scalar.indexCast v106
  let c16 : Index := 16#32
  ![v109.toNat, 16]

def k0_chk145 (v110 : IVec S16 32) : Prop :=
  (∀ a x, ((![v110] : Fin 1 → IVec S16 32) a x).toNat < S100000.size a)
theorem k0_idx145_inb : ∀ (v110 : IVec S16 32) (k0_hw145 : k0_chk145 v110), ∀ a x, ((![v110] : Fin 1 → IVec S16 32) a x).toNat < S100000.size a := fun v110 k0_hw145 => k0_hw145
def k0_off148 (k0_t13 : Fin k0_t13_loop.trips) : Fin 2 → Nat :=
  let c0_i32_133 : BitVec 32 := 0#32
  let c0_i32_98 : BitVec 32 := 0#32
  let c1_i32_100 : BitVec 32 := 1#32
  let arg9 : BitVec 32 := Scf.iv c0_i32_98 c1_i32_100 k0_t13
  let c1_i32_132 : BitVec 32 := 1#32
  let v105 : BitVec 32 := Scalar.muli arg9 c1_i32_132
  let v106 : BitVec 32 := Scalar.addi c0_i32_133 v105
  let v111 : Index := Scalar.indexCast v106
  let c32 : Index := 32#32
  ![v111.toNat, 32]

def k0_chk146 (v112 : IVec S16 32) : Prop :=
  (∀ a x, ((![v112] : Fin 1 → IVec S16 32) a x).toNat < S100000.size a)
theorem k0_idx146_inb : ∀ (v112 : IVec S16 32) (k0_hw146 : k0_chk146 v112), ∀ a x, ((![v112] : Fin 1 → IVec S16 32) a x).toNat < S100000.size a := fun v112 k0_hw146 => k0_hw146
def k0_off149 (k0_t13 : Fin k0_t13_loop.trips) : Fin 2 → Nat :=
  let c0_i32_133 : BitVec 32 := 0#32
  let c0_i32_98 : BitVec 32 := 0#32
  let c1_i32_100 : BitVec 32 := 1#32
  let arg9 : BitVec 32 := Scf.iv c0_i32_98 c1_i32_100 k0_t13
  let c1_i32_132 : BitVec 32 := 1#32
  let v105 : BitVec 32 := Scalar.muli arg9 c1_i32_132
  let v106 : BitVec 32 := Scalar.addi c0_i32_133 v105
  let v113 : Index := Scalar.indexCast v106
  let c48 : Index := 48#32
  ![v113.toNat, 48]

def k0_chk147 (v114 : IVec S16 32) : Prop :=
  (∀ a x, ((![v114] : Fin 1 → IVec S16 32) a x).toNat < S100000.size a)
theorem k0_idx147_inb : ∀ (v114 : IVec S16 32) (k0_hw147 : k0_chk147 v114), ∀ a x, ((![v114] : Fin 1 → IVec S16 32) a x).toNat < S100000.size a := fun v114 k0_hw147 => k0_hw147
def k0_off150 (k0_t13 : Fin k0_t13_loop.trips) : Fin 2 → Nat :=
  let c0_i32_133 : BitVec 32 := 0#32
  let c0_i32_98 : BitVec 32 := 0#32
  let c1_i32_100 : BitVec 32 := 1#32
  let arg9 : BitVec 32 := Scf.iv c0_i32_98 c1_i32_100 k0_t13
  let c1_i32_132 : BitVec 32 := 1#32
  let v105 : BitVec 32 := Scalar.muli arg9 c1_i32_132
  let v106 : BitVec 32 := Scalar.addi c0_i32_133 v105
  let v115 : Index := Scalar.indexCast v106
  let c64 : Index := 64#32
  ![v115.toNat, 64]

def k0_chk148 (v116 : IVec S16 32) : Prop :=
  (∀ a x, ((![v116] : Fin 1 → IVec S16 32) a x).toNat < S100000.size a)
theorem k0_idx148_inb : ∀ (v116 : IVec S16 32) (k0_hw148 : k0_chk148 v116), ∀ a x, ((![v116] : Fin 1 → IVec S16 32) a x).toNat < S100000.size a := fun v116 k0_hw148 => k0_hw148
def k0_off151 (k0_t13 : Fin k0_t13_loop.trips) : Fin 2 → Nat :=
  let c0_i32_133 : BitVec 32 := 0#32
  let c0_i32_98 : BitVec 32 := 0#32
  let c1_i32_100 : BitVec 32 := 1#32
  let arg9 : BitVec 32 := Scf.iv c0_i32_98 c1_i32_100 k0_t13
  let c1_i32_132 : BitVec 32 := 1#32
  let v105 : BitVec 32 := Scalar.muli arg9 c1_i32_132
  let v106 : BitVec 32 := Scalar.addi c0_i32_133 v105
  let v117 : Index := Scalar.indexCast v106
  let c80 : Index := 80#32
  ![v117.toNat, 80]

def k0_chk149 (v118 : IVec S16 32) : Prop :=
  (∀ a x, ((![v118] : Fin 1 → IVec S16 32) a x).toNat < S100000.size a)
theorem k0_idx149_inb : ∀ (v118 : IVec S16 32) (k0_hw149 : k0_chk149 v118), ∀ a x, ((![v118] : Fin 1 → IVec S16 32) a x).toNat < S100000.size a := fun v118 k0_hw149 => k0_hw149
def k0_off152 (k0_t13 : Fin k0_t13_loop.trips) : Fin 2 → Nat :=
  let c0_i32_133 : BitVec 32 := 0#32
  let c0_i32_98 : BitVec 32 := 0#32
  let c1_i32_100 : BitVec 32 := 1#32
  let arg9 : BitVec 32 := Scf.iv c0_i32_98 c1_i32_100 k0_t13
  let c1_i32_132 : BitVec 32 := 1#32
  let v105 : BitVec 32 := Scalar.muli arg9 c1_i32_132
  let v106 : BitVec 32 := Scalar.addi c0_i32_133 v105
  let v119 : Index := Scalar.indexCast v106
  let c96 : Index := 96#32
  ![v119.toNat, 96]

def k0_chk150 (v120 : IVec S16 32) : Prop :=
  (∀ a x, ((![v120] : Fin 1 → IVec S16 32) a x).toNat < S100000.size a)
theorem k0_idx150_inb : ∀ (v120 : IVec S16 32) (k0_hw150 : k0_chk150 v120), ∀ a x, ((![v120] : Fin 1 → IVec S16 32) a x).toNat < S100000.size a := fun v120 k0_hw150 => k0_hw150
def k0_off153 (k0_t13 : Fin k0_t13_loop.trips) : Fin 2 → Nat :=
  let c0_i32_133 : BitVec 32 := 0#32
  let c0_i32_98 : BitVec 32 := 0#32
  let c1_i32_100 : BitVec 32 := 1#32
  let arg9 : BitVec 32 := Scf.iv c0_i32_98 c1_i32_100 k0_t13
  let c1_i32_132 : BitVec 32 := 1#32
  let v105 : BitVec 32 := Scalar.muli arg9 c1_i32_132
  let v106 : BitVec 32 := Scalar.addi c0_i32_133 v105
  let v121 : Index := Scalar.indexCast v106
  let c112 : Index := 112#32
  ![v121.toNat, 112]

def k0_chk151 (v122 : IVec S16 32) : Prop :=
  (∀ a x, ((![v122] : Fin 1 → IVec S16 32) a x).toNat < S100000.size a)
theorem k0_idx151_inb : ∀ (v122 : IVec S16 32) (k0_hw151 : k0_chk151 v122), ∀ a x, ((![v122] : Fin 1 → IVec S16 32) a x).toNat < S100000.size a := fun v122 k0_hw151 => k0_hw151
def k0_off154 (k0_t13 : Fin k0_t13_loop.trips) : Fin 2 → Nat :=
  let c0_i32_133 : BitVec 32 := 0#32
  let c0_i32_98 : BitVec 32 := 0#32
  let c1_i32_100 : BitVec 32 := 1#32
  let arg9 : BitVec 32 := Scf.iv c0_i32_98 c1_i32_100 k0_t13
  let c1_i32_132 : BitVec 32 := 1#32
  let v105 : BitVec 32 := Scalar.muli arg9 c1_i32_132
  let v106 : BitVec 32 := Scalar.addi c0_i32_133 v105
  let v123 : Index := Scalar.indexCast v106
  let c128 : Index := 128#32
  ![v123.toNat, 128]

def k0_chk152 (v124 : IVec S16 32) : Prop :=
  (∀ a x, ((![v124] : Fin 1 → IVec S16 32) a x).toNat < S100000.size a)
theorem k0_idx152_inb : ∀ (v124 : IVec S16 32) (k0_hw152 : k0_chk152 v124), ∀ a x, ((![v124] : Fin 1 → IVec S16 32) a x).toNat < S100000.size a := fun v124 k0_hw152 => k0_hw152
def k0_off155 (k0_t13 : Fin k0_t13_loop.trips) : Fin 2 → Nat :=
  let c0_i32_133 : BitVec 32 := 0#32
  let c0_i32_98 : BitVec 32 := 0#32
  let c1_i32_100 : BitVec 32 := 1#32
  let arg9 : BitVec 32 := Scf.iv c0_i32_98 c1_i32_100 k0_t13
  let c1_i32_132 : BitVec 32 := 1#32
  let v105 : BitVec 32 := Scalar.muli arg9 c1_i32_132
  let v106 : BitVec 32 := Scalar.addi c0_i32_133 v105
  let v125 : Index := Scalar.indexCast v106
  let c144 : Index := 144#32
  ![v125.toNat, 144]

def k0_chk153 (v126 : IVec S16 32) : Prop :=
  (∀ a x, ((![v126] : Fin 1 → IVec S16 32) a x).toNat < S100000.size a)
theorem k0_idx153_inb : ∀ (v126 : IVec S16 32) (k0_hw153 : k0_chk153 v126), ∀ a x, ((![v126] : Fin 1 → IVec S16 32) a x).toNat < S100000.size a := fun v126 k0_hw153 => k0_hw153
def k0_off156 (k0_t13 : Fin k0_t13_loop.trips) : Fin 2 → Nat :=
  let c0_i32_133 : BitVec 32 := 0#32
  let c0_i32_98 : BitVec 32 := 0#32
  let c1_i32_100 : BitVec 32 := 1#32
  let arg9 : BitVec 32 := Scf.iv c0_i32_98 c1_i32_100 k0_t13
  let c1_i32_132 : BitVec 32 := 1#32
  let v105 : BitVec 32 := Scalar.muli arg9 c1_i32_132
  let v106 : BitVec 32 := Scalar.addi c0_i32_133 v105
  let v127 : Index := Scalar.indexCast v106
  let c160 : Index := 160#32
  ![v127.toNat, 160]

def k0_chk154 (v128 : IVec S16 32) : Prop :=
  (∀ a x, ((![v128] : Fin 1 → IVec S16 32) a x).toNat < S100000.size a)
theorem k0_idx154_inb : ∀ (v128 : IVec S16 32) (k0_hw154 : k0_chk154 v128), ∀ a x, ((![v128] : Fin 1 → IVec S16 32) a x).toNat < S100000.size a := fun v128 k0_hw154 => k0_hw154
def k0_off157 (k0_t13 : Fin k0_t13_loop.trips) : Fin 2 → Nat :=
  let c0_i32_133 : BitVec 32 := 0#32
  let c0_i32_98 : BitVec 32 := 0#32
  let c1_i32_100 : BitVec 32 := 1#32
  let arg9 : BitVec 32 := Scf.iv c0_i32_98 c1_i32_100 k0_t13
  let c1_i32_132 : BitVec 32 := 1#32
  let v105 : BitVec 32 := Scalar.muli arg9 c1_i32_132
  let v106 : BitVec 32 := Scalar.addi c0_i32_133 v105
  let v129 : Index := Scalar.indexCast v106
  let c176 : Index := 176#32
  ![v129.toNat, 176]

def k0_chk155 (v130 : IVec S16 32) : Prop :=
  (∀ a x, ((![v130] : Fin 1 → IVec S16 32) a x).toNat < S100000.size a)
theorem k0_idx155_inb : ∀ (v130 : IVec S16 32) (k0_hw155 : k0_chk155 v130), ∀ a x, ((![v130] : Fin 1 → IVec S16 32) a x).toNat < S100000.size a := fun v130 k0_hw155 => k0_hw155
def k0_off158 (k0_t13 : Fin k0_t13_loop.trips) : Fin 2 → Nat :=
  let c0_i32_133 : BitVec 32 := 0#32
  let c0_i32_98 : BitVec 32 := 0#32
  let c1_i32_100 : BitVec 32 := 1#32
  let arg9 : BitVec 32 := Scf.iv c0_i32_98 c1_i32_100 k0_t13
  let c1_i32_132 : BitVec 32 := 1#32
  let v105 : BitVec 32 := Scalar.muli arg9 c1_i32_132
  let v106 : BitVec 32 := Scalar.addi c0_i32_133 v105
  let v131 : Index := Scalar.indexCast v106
  let c184 : Index := 184#32
  ![v131.toNat, 184]

def k0_chk156 (v132 : IVec S16 32) : Prop :=
  (∀ a x, ((![v132] : Fin 1 → IVec S16 32) a x).toNat < S100000.size a)
theorem k0_idx156_inb : ∀ (v132 : IVec S16 32) (k0_hw156 : k0_chk156 v132), ∀ a x, ((![v132] : Fin 1 → IVec S16 32) a x).toNat < S100000.size a := fun v132 k0_hw156 => k0_hw156
@[reducible] def k0_t14_loop : Scf.Loop 32 :=
  let c0_i32_106 : BitVec 32 := 0#32
  let c32_i32_107 : BitVec 32 := 32#32
  let v89 : BitVec 32 := Scalar.addi c0_i32_106 c32_i32_107
  let c1_i32_108 : BitVec 32 := 1#32
  ⟨c0_i32_106, v89, c1_i32_108⟩
def k0_off159 (k0_t14 : Fin k0_t14_loop.trips) : Fin 2 → Nat :=
  let c0_i32_133 : BitVec 32 := 0#32
  let c0_i32_106 : BitVec 32 := 0#32
  let c1_i32_108 : BitVec 32 := 1#32
  let arg9 : BitVec 32 := Scf.iv c0_i32_106 c1_i32_108 k0_t14
  let c1_i32_132 : BitVec 32 := 1#32
  let v105 : BitVec 32 := Scalar.muli arg9 c1_i32_132
  let v106 : BitVec 32 := Scalar.addi c0_i32_133 v105
  let v107 : Index := Scalar.indexCast v106
  let c0 : Index := 0#32
  ![v107.toNat, 0]

def k0_chk157 (v108 : IVec S16 32) : Prop :=
  (∀ a x, ((![v108] : Fin 1 → IVec S16 32) a x).toNat < S100000.size a)
theorem k0_idx157_inb : ∀ (v108 : IVec S16 32) (k0_hw157 : k0_chk157 v108), ∀ a x, ((![v108] : Fin 1 → IVec S16 32) a x).toNat < S100000.size a := fun v108 k0_hw157 => k0_hw157
def k0_off160 (k0_t14 : Fin k0_t14_loop.trips) : Fin 2 → Nat :=
  let c0_i32_133 : BitVec 32 := 0#32
  let c0_i32_106 : BitVec 32 := 0#32
  let c1_i32_108 : BitVec 32 := 1#32
  let arg9 : BitVec 32 := Scf.iv c0_i32_106 c1_i32_108 k0_t14
  let c1_i32_132 : BitVec 32 := 1#32
  let v105 : BitVec 32 := Scalar.muli arg9 c1_i32_132
  let v106 : BitVec 32 := Scalar.addi c0_i32_133 v105
  let v109 : Index := Scalar.indexCast v106
  let c16 : Index := 16#32
  ![v109.toNat, 16]

def k0_chk158 (v110 : IVec S16 32) : Prop :=
  (∀ a x, ((![v110] : Fin 1 → IVec S16 32) a x).toNat < S100000.size a)
theorem k0_idx158_inb : ∀ (v110 : IVec S16 32) (k0_hw158 : k0_chk158 v110), ∀ a x, ((![v110] : Fin 1 → IVec S16 32) a x).toNat < S100000.size a := fun v110 k0_hw158 => k0_hw158
def k0_off161 (k0_t14 : Fin k0_t14_loop.trips) : Fin 2 → Nat :=
  let c0_i32_133 : BitVec 32 := 0#32
  let c0_i32_106 : BitVec 32 := 0#32
  let c1_i32_108 : BitVec 32 := 1#32
  let arg9 : BitVec 32 := Scf.iv c0_i32_106 c1_i32_108 k0_t14
  let c1_i32_132 : BitVec 32 := 1#32
  let v105 : BitVec 32 := Scalar.muli arg9 c1_i32_132
  let v106 : BitVec 32 := Scalar.addi c0_i32_133 v105
  let v111 : Index := Scalar.indexCast v106
  let c32 : Index := 32#32
  ![v111.toNat, 32]

def k0_chk159 (v112 : IVec S16 32) : Prop :=
  (∀ a x, ((![v112] : Fin 1 → IVec S16 32) a x).toNat < S100000.size a)
theorem k0_idx159_inb : ∀ (v112 : IVec S16 32) (k0_hw159 : k0_chk159 v112), ∀ a x, ((![v112] : Fin 1 → IVec S16 32) a x).toNat < S100000.size a := fun v112 k0_hw159 => k0_hw159
def k0_off162 (k0_t14 : Fin k0_t14_loop.trips) : Fin 2 → Nat :=
  let c0_i32_133 : BitVec 32 := 0#32
  let c0_i32_106 : BitVec 32 := 0#32
  let c1_i32_108 : BitVec 32 := 1#32
  let arg9 : BitVec 32 := Scf.iv c0_i32_106 c1_i32_108 k0_t14
  let c1_i32_132 : BitVec 32 := 1#32
  let v105 : BitVec 32 := Scalar.muli arg9 c1_i32_132
  let v106 : BitVec 32 := Scalar.addi c0_i32_133 v105
  let v113 : Index := Scalar.indexCast v106
  let c48 : Index := 48#32
  ![v113.toNat, 48]

def k0_chk160 (v114 : IVec S16 32) : Prop :=
  (∀ a x, ((![v114] : Fin 1 → IVec S16 32) a x).toNat < S100000.size a)
theorem k0_idx160_inb : ∀ (v114 : IVec S16 32) (k0_hw160 : k0_chk160 v114), ∀ a x, ((![v114] : Fin 1 → IVec S16 32) a x).toNat < S100000.size a := fun v114 k0_hw160 => k0_hw160
def k0_off163 (k0_t14 : Fin k0_t14_loop.trips) : Fin 2 → Nat :=
  let c0_i32_133 : BitVec 32 := 0#32
  let c0_i32_106 : BitVec 32 := 0#32
  let c1_i32_108 : BitVec 32 := 1#32
  let arg9 : BitVec 32 := Scf.iv c0_i32_106 c1_i32_108 k0_t14
  let c1_i32_132 : BitVec 32 := 1#32
  let v105 : BitVec 32 := Scalar.muli arg9 c1_i32_132
  let v106 : BitVec 32 := Scalar.addi c0_i32_133 v105
  let v115 : Index := Scalar.indexCast v106
  let c64 : Index := 64#32
  ![v115.toNat, 64]

def k0_chk161 (v116 : IVec S16 32) : Prop :=
  (∀ a x, ((![v116] : Fin 1 → IVec S16 32) a x).toNat < S100000.size a)
theorem k0_idx161_inb : ∀ (v116 : IVec S16 32) (k0_hw161 : k0_chk161 v116), ∀ a x, ((![v116] : Fin 1 → IVec S16 32) a x).toNat < S100000.size a := fun v116 k0_hw161 => k0_hw161
def k0_off164 (k0_t14 : Fin k0_t14_loop.trips) : Fin 2 → Nat :=
  let c0_i32_133 : BitVec 32 := 0#32
  let c0_i32_106 : BitVec 32 := 0#32
  let c1_i32_108 : BitVec 32 := 1#32
  let arg9 : BitVec 32 := Scf.iv c0_i32_106 c1_i32_108 k0_t14
  let c1_i32_132 : BitVec 32 := 1#32
  let v105 : BitVec 32 := Scalar.muli arg9 c1_i32_132
  let v106 : BitVec 32 := Scalar.addi c0_i32_133 v105
  let v117 : Index := Scalar.indexCast v106
  let c80 : Index := 80#32
  ![v117.toNat, 80]

def k0_chk162 (v118 : IVec S16 32) : Prop :=
  (∀ a x, ((![v118] : Fin 1 → IVec S16 32) a x).toNat < S100000.size a)
theorem k0_idx162_inb : ∀ (v118 : IVec S16 32) (k0_hw162 : k0_chk162 v118), ∀ a x, ((![v118] : Fin 1 → IVec S16 32) a x).toNat < S100000.size a := fun v118 k0_hw162 => k0_hw162
def k0_off165 (k0_t14 : Fin k0_t14_loop.trips) : Fin 2 → Nat :=
  let c0_i32_133 : BitVec 32 := 0#32
  let c0_i32_106 : BitVec 32 := 0#32
  let c1_i32_108 : BitVec 32 := 1#32
  let arg9 : BitVec 32 := Scf.iv c0_i32_106 c1_i32_108 k0_t14
  let c1_i32_132 : BitVec 32 := 1#32
  let v105 : BitVec 32 := Scalar.muli arg9 c1_i32_132
  let v106 : BitVec 32 := Scalar.addi c0_i32_133 v105
  let v119 : Index := Scalar.indexCast v106
  let c96 : Index := 96#32
  ![v119.toNat, 96]

def k0_chk163 (v120 : IVec S16 32) : Prop :=
  (∀ a x, ((![v120] : Fin 1 → IVec S16 32) a x).toNat < S100000.size a)
theorem k0_idx163_inb : ∀ (v120 : IVec S16 32) (k0_hw163 : k0_chk163 v120), ∀ a x, ((![v120] : Fin 1 → IVec S16 32) a x).toNat < S100000.size a := fun v120 k0_hw163 => k0_hw163
def k0_off166 (k0_t14 : Fin k0_t14_loop.trips) : Fin 2 → Nat :=
  let c0_i32_133 : BitVec 32 := 0#32
  let c0_i32_106 : BitVec 32 := 0#32
  let c1_i32_108 : BitVec 32 := 1#32
  let arg9 : BitVec 32 := Scf.iv c0_i32_106 c1_i32_108 k0_t14
  let c1_i32_132 : BitVec 32 := 1#32
  let v105 : BitVec 32 := Scalar.muli arg9 c1_i32_132
  let v106 : BitVec 32 := Scalar.addi c0_i32_133 v105
  let v121 : Index := Scalar.indexCast v106
  let c112 : Index := 112#32
  ![v121.toNat, 112]

def k0_chk164 (v122 : IVec S16 32) : Prop :=
  (∀ a x, ((![v122] : Fin 1 → IVec S16 32) a x).toNat < S100000.size a)
theorem k0_idx164_inb : ∀ (v122 : IVec S16 32) (k0_hw164 : k0_chk164 v122), ∀ a x, ((![v122] : Fin 1 → IVec S16 32) a x).toNat < S100000.size a := fun v122 k0_hw164 => k0_hw164
def k0_off167 (k0_t14 : Fin k0_t14_loop.trips) : Fin 2 → Nat :=
  let c0_i32_133 : BitVec 32 := 0#32
  let c0_i32_106 : BitVec 32 := 0#32
  let c1_i32_108 : BitVec 32 := 1#32
  let arg9 : BitVec 32 := Scf.iv c0_i32_106 c1_i32_108 k0_t14
  let c1_i32_132 : BitVec 32 := 1#32
  let v105 : BitVec 32 := Scalar.muli arg9 c1_i32_132
  let v106 : BitVec 32 := Scalar.addi c0_i32_133 v105
  let v123 : Index := Scalar.indexCast v106
  let c128 : Index := 128#32
  ![v123.toNat, 128]

def k0_chk165 (v124 : IVec S16 32) : Prop :=
  (∀ a x, ((![v124] : Fin 1 → IVec S16 32) a x).toNat < S100000.size a)
theorem k0_idx165_inb : ∀ (v124 : IVec S16 32) (k0_hw165 : k0_chk165 v124), ∀ a x, ((![v124] : Fin 1 → IVec S16 32) a x).toNat < S100000.size a := fun v124 k0_hw165 => k0_hw165
def k0_off168 (k0_t14 : Fin k0_t14_loop.trips) : Fin 2 → Nat :=
  let c0_i32_133 : BitVec 32 := 0#32
  let c0_i32_106 : BitVec 32 := 0#32
  let c1_i32_108 : BitVec 32 := 1#32
  let arg9 : BitVec 32 := Scf.iv c0_i32_106 c1_i32_108 k0_t14
  let c1_i32_132 : BitVec 32 := 1#32
  let v105 : BitVec 32 := Scalar.muli arg9 c1_i32_132
  let v106 : BitVec 32 := Scalar.addi c0_i32_133 v105
  let v125 : Index := Scalar.indexCast v106
  let c144 : Index := 144#32
  ![v125.toNat, 144]

def k0_chk166 (v126 : IVec S16 32) : Prop :=
  (∀ a x, ((![v126] : Fin 1 → IVec S16 32) a x).toNat < S100000.size a)
theorem k0_idx166_inb : ∀ (v126 : IVec S16 32) (k0_hw166 : k0_chk166 v126), ∀ a x, ((![v126] : Fin 1 → IVec S16 32) a x).toNat < S100000.size a := fun v126 k0_hw166 => k0_hw166
def k0_off169 (k0_t14 : Fin k0_t14_loop.trips) : Fin 2 → Nat :=
  let c0_i32_133 : BitVec 32 := 0#32
  let c0_i32_106 : BitVec 32 := 0#32
  let c1_i32_108 : BitVec 32 := 1#32
  let arg9 : BitVec 32 := Scf.iv c0_i32_106 c1_i32_108 k0_t14
  let c1_i32_132 : BitVec 32 := 1#32
  let v105 : BitVec 32 := Scalar.muli arg9 c1_i32_132
  let v106 : BitVec 32 := Scalar.addi c0_i32_133 v105
  let v127 : Index := Scalar.indexCast v106
  let c160 : Index := 160#32
  ![v127.toNat, 160]

def k0_chk167 (v128 : IVec S16 32) : Prop :=
  (∀ a x, ((![v128] : Fin 1 → IVec S16 32) a x).toNat < S100000.size a)
theorem k0_idx167_inb : ∀ (v128 : IVec S16 32) (k0_hw167 : k0_chk167 v128), ∀ a x, ((![v128] : Fin 1 → IVec S16 32) a x).toNat < S100000.size a := fun v128 k0_hw167 => k0_hw167
def k0_off170 (k0_t14 : Fin k0_t14_loop.trips) : Fin 2 → Nat :=
  let c0_i32_133 : BitVec 32 := 0#32
  let c0_i32_106 : BitVec 32 := 0#32
  let c1_i32_108 : BitVec 32 := 1#32
  let arg9 : BitVec 32 := Scf.iv c0_i32_106 c1_i32_108 k0_t14
  let c1_i32_132 : BitVec 32 := 1#32
  let v105 : BitVec 32 := Scalar.muli arg9 c1_i32_132
  let v106 : BitVec 32 := Scalar.addi c0_i32_133 v105
  let v129 : Index := Scalar.indexCast v106
  let c176 : Index := 176#32
  ![v129.toNat, 176]

def k0_chk168 (v130 : IVec S16 32) : Prop :=
  (∀ a x, ((![v130] : Fin 1 → IVec S16 32) a x).toNat < S100000.size a)
theorem k0_idx168_inb : ∀ (v130 : IVec S16 32) (k0_hw168 : k0_chk168 v130), ∀ a x, ((![v130] : Fin 1 → IVec S16 32) a x).toNat < S100000.size a := fun v130 k0_hw168 => k0_hw168
def k0_off171 (k0_t14 : Fin k0_t14_loop.trips) : Fin 2 → Nat :=
  let c0_i32_133 : BitVec 32 := 0#32
  let c0_i32_106 : BitVec 32 := 0#32
  let c1_i32_108 : BitVec 32 := 1#32
  let arg9 : BitVec 32 := Scf.iv c0_i32_106 c1_i32_108 k0_t14
  let c1_i32_132 : BitVec 32 := 1#32
  let v105 : BitVec 32 := Scalar.muli arg9 c1_i32_132
  let v106 : BitVec 32 := Scalar.addi c0_i32_133 v105
  let v131 : Index := Scalar.indexCast v106
  let c184 : Index := 184#32
  ![v131.toNat, 184]

def k0_chk169 (v132 : IVec S16 32) : Prop :=
  (∀ a x, ((![v132] : Fin 1 → IVec S16 32) a x).toNat < S100000.size a)
theorem k0_idx169_inb : ∀ (v132 : IVec S16 32) (k0_hw169 : k0_chk169 v132), ∀ a x, ((![v132] : Fin 1 → IVec S16 32) a x).toNat < S100000.size a := fun v132 k0_hw169 => k0_hw169
@[reducible] def k0_t15_loop : Scf.Loop 32 :=
  let c0_i32_114 : BitVec 32 := 0#32
  let c32_i32_115 : BitVec 32 := 32#32
  let v95 : BitVec 32 := Scalar.addi c0_i32_114 c32_i32_115
  let c1_i32_116 : BitVec 32 := 1#32
  ⟨c0_i32_114, v95, c1_i32_116⟩
def k0_off172 (k0_t15 : Fin k0_t15_loop.trips) : Fin 2 → Nat :=
  let c0_i32_133 : BitVec 32 := 0#32
  let c0_i32_114 : BitVec 32 := 0#32
  let c1_i32_116 : BitVec 32 := 1#32
  let arg9 : BitVec 32 := Scf.iv c0_i32_114 c1_i32_116 k0_t15
  let c1_i32_132 : BitVec 32 := 1#32
  let v105 : BitVec 32 := Scalar.muli arg9 c1_i32_132
  let v106 : BitVec 32 := Scalar.addi c0_i32_133 v105
  let v107 : Index := Scalar.indexCast v106
  let c0 : Index := 0#32
  ![v107.toNat, 0]

def k0_chk170 (v108 : IVec S16 32) : Prop :=
  (∀ a x, ((![v108] : Fin 1 → IVec S16 32) a x).toNat < S100000.size a)
theorem k0_idx170_inb : ∀ (v108 : IVec S16 32) (k0_hw170 : k0_chk170 v108), ∀ a x, ((![v108] : Fin 1 → IVec S16 32) a x).toNat < S100000.size a := fun v108 k0_hw170 => k0_hw170
def k0_off173 (k0_t15 : Fin k0_t15_loop.trips) : Fin 2 → Nat :=
  let c0_i32_133 : BitVec 32 := 0#32
  let c0_i32_114 : BitVec 32 := 0#32
  let c1_i32_116 : BitVec 32 := 1#32
  let arg9 : BitVec 32 := Scf.iv c0_i32_114 c1_i32_116 k0_t15
  let c1_i32_132 : BitVec 32 := 1#32
  let v105 : BitVec 32 := Scalar.muli arg9 c1_i32_132
  let v106 : BitVec 32 := Scalar.addi c0_i32_133 v105
  let v109 : Index := Scalar.indexCast v106
  let c16 : Index := 16#32
  ![v109.toNat, 16]

def k0_chk171 (v110 : IVec S16 32) : Prop :=
  (∀ a x, ((![v110] : Fin 1 → IVec S16 32) a x).toNat < S100000.size a)
theorem k0_idx171_inb : ∀ (v110 : IVec S16 32) (k0_hw171 : k0_chk171 v110), ∀ a x, ((![v110] : Fin 1 → IVec S16 32) a x).toNat < S100000.size a := fun v110 k0_hw171 => k0_hw171
def k0_off174 (k0_t15 : Fin k0_t15_loop.trips) : Fin 2 → Nat :=
  let c0_i32_133 : BitVec 32 := 0#32
  let c0_i32_114 : BitVec 32 := 0#32
  let c1_i32_116 : BitVec 32 := 1#32
  let arg9 : BitVec 32 := Scf.iv c0_i32_114 c1_i32_116 k0_t15
  let c1_i32_132 : BitVec 32 := 1#32
  let v105 : BitVec 32 := Scalar.muli arg9 c1_i32_132
  let v106 : BitVec 32 := Scalar.addi c0_i32_133 v105
  let v111 : Index := Scalar.indexCast v106
  let c32 : Index := 32#32
  ![v111.toNat, 32]

def k0_chk172 (v112 : IVec S16 32) : Prop :=
  (∀ a x, ((![v112] : Fin 1 → IVec S16 32) a x).toNat < S100000.size a)
theorem k0_idx172_inb : ∀ (v112 : IVec S16 32) (k0_hw172 : k0_chk172 v112), ∀ a x, ((![v112] : Fin 1 → IVec S16 32) a x).toNat < S100000.size a := fun v112 k0_hw172 => k0_hw172
def k0_off175 (k0_t15 : Fin k0_t15_loop.trips) : Fin 2 → Nat :=
  let c0_i32_133 : BitVec 32 := 0#32
  let c0_i32_114 : BitVec 32 := 0#32
  let c1_i32_116 : BitVec 32 := 1#32
  let arg9 : BitVec 32 := Scf.iv c0_i32_114 c1_i32_116 k0_t15
  let c1_i32_132 : BitVec 32 := 1#32
  let v105 : BitVec 32 := Scalar.muli arg9 c1_i32_132
  let v106 : BitVec 32 := Scalar.addi c0_i32_133 v105
  let v113 : Index := Scalar.indexCast v106
  let c48 : Index := 48#32
  ![v113.toNat, 48]

def k0_chk173 (v114 : IVec S16 32) : Prop :=
  (∀ a x, ((![v114] : Fin 1 → IVec S16 32) a x).toNat < S100000.size a)
theorem k0_idx173_inb : ∀ (v114 : IVec S16 32) (k0_hw173 : k0_chk173 v114), ∀ a x, ((![v114] : Fin 1 → IVec S16 32) a x).toNat < S100000.size a := fun v114 k0_hw173 => k0_hw173
def k0_off176 (k0_t15 : Fin k0_t15_loop.trips) : Fin 2 → Nat :=
  let c0_i32_133 : BitVec 32 := 0#32
  let c0_i32_114 : BitVec 32 := 0#32
  let c1_i32_116 : BitVec 32 := 1#32
  let arg9 : BitVec 32 := Scf.iv c0_i32_114 c1_i32_116 k0_t15
  let c1_i32_132 : BitVec 32 := 1#32
  let v105 : BitVec 32 := Scalar.muli arg9 c1_i32_132
  let v106 : BitVec 32 := Scalar.addi c0_i32_133 v105
  let v115 : Index := Scalar.indexCast v106
  let c64 : Index := 64#32
  ![v115.toNat, 64]

def k0_chk174 (v116 : IVec S16 32) : Prop :=
  (∀ a x, ((![v116] : Fin 1 → IVec S16 32) a x).toNat < S100000.size a)
theorem k0_idx174_inb : ∀ (v116 : IVec S16 32) (k0_hw174 : k0_chk174 v116), ∀ a x, ((![v116] : Fin 1 → IVec S16 32) a x).toNat < S100000.size a := fun v116 k0_hw174 => k0_hw174
def k0_off177 (k0_t15 : Fin k0_t15_loop.trips) : Fin 2 → Nat :=
  let c0_i32_133 : BitVec 32 := 0#32
  let c0_i32_114 : BitVec 32 := 0#32
  let c1_i32_116 : BitVec 32 := 1#32
  let arg9 : BitVec 32 := Scf.iv c0_i32_114 c1_i32_116 k0_t15
  let c1_i32_132 : BitVec 32 := 1#32
  let v105 : BitVec 32 := Scalar.muli arg9 c1_i32_132
  let v106 : BitVec 32 := Scalar.addi c0_i32_133 v105
  let v117 : Index := Scalar.indexCast v106
  let c80 : Index := 80#32
  ![v117.toNat, 80]

def k0_chk175 (v118 : IVec S16 32) : Prop :=
  (∀ a x, ((![v118] : Fin 1 → IVec S16 32) a x).toNat < S100000.size a)
theorem k0_idx175_inb : ∀ (v118 : IVec S16 32) (k0_hw175 : k0_chk175 v118), ∀ a x, ((![v118] : Fin 1 → IVec S16 32) a x).toNat < S100000.size a := fun v118 k0_hw175 => k0_hw175
def k0_off178 (k0_t15 : Fin k0_t15_loop.trips) : Fin 2 → Nat :=
  let c0_i32_133 : BitVec 32 := 0#32
  let c0_i32_114 : BitVec 32 := 0#32
  let c1_i32_116 : BitVec 32 := 1#32
  let arg9 : BitVec 32 := Scf.iv c0_i32_114 c1_i32_116 k0_t15
  let c1_i32_132 : BitVec 32 := 1#32
  let v105 : BitVec 32 := Scalar.muli arg9 c1_i32_132
  let v106 : BitVec 32 := Scalar.addi c0_i32_133 v105
  let v119 : Index := Scalar.indexCast v106
  let c96 : Index := 96#32
  ![v119.toNat, 96]

def k0_chk176 (v120 : IVec S16 32) : Prop :=
  (∀ a x, ((![v120] : Fin 1 → IVec S16 32) a x).toNat < S100000.size a)
theorem k0_idx176_inb : ∀ (v120 : IVec S16 32) (k0_hw176 : k0_chk176 v120), ∀ a x, ((![v120] : Fin 1 → IVec S16 32) a x).toNat < S100000.size a := fun v120 k0_hw176 => k0_hw176
def k0_off179 (k0_t15 : Fin k0_t15_loop.trips) : Fin 2 → Nat :=
  let c0_i32_133 : BitVec 32 := 0#32
  let c0_i32_114 : BitVec 32 := 0#32
  let c1_i32_116 : BitVec 32 := 1#32
  let arg9 : BitVec 32 := Scf.iv c0_i32_114 c1_i32_116 k0_t15
  let c1_i32_132 : BitVec 32 := 1#32
  let v105 : BitVec 32 := Scalar.muli arg9 c1_i32_132
  let v106 : BitVec 32 := Scalar.addi c0_i32_133 v105
  let v121 : Index := Scalar.indexCast v106
  let c112 : Index := 112#32
  ![v121.toNat, 112]

def k0_chk177 (v122 : IVec S16 32) : Prop :=
  (∀ a x, ((![v122] : Fin 1 → IVec S16 32) a x).toNat < S100000.size a)
theorem k0_idx177_inb : ∀ (v122 : IVec S16 32) (k0_hw177 : k0_chk177 v122), ∀ a x, ((![v122] : Fin 1 → IVec S16 32) a x).toNat < S100000.size a := fun v122 k0_hw177 => k0_hw177
def k0_off180 (k0_t15 : Fin k0_t15_loop.trips) : Fin 2 → Nat :=
  let c0_i32_133 : BitVec 32 := 0#32
  let c0_i32_114 : BitVec 32 := 0#32
  let c1_i32_116 : BitVec 32 := 1#32
  let arg9 : BitVec 32 := Scf.iv c0_i32_114 c1_i32_116 k0_t15
  let c1_i32_132 : BitVec 32 := 1#32
  let v105 : BitVec 32 := Scalar.muli arg9 c1_i32_132
  let v106 : BitVec 32 := Scalar.addi c0_i32_133 v105
  let v123 : Index := Scalar.indexCast v106
  let c128 : Index := 128#32
  ![v123.toNat, 128]

def k0_chk178 (v124 : IVec S16 32) : Prop :=
  (∀ a x, ((![v124] : Fin 1 → IVec S16 32) a x).toNat < S100000.size a)
theorem k0_idx178_inb : ∀ (v124 : IVec S16 32) (k0_hw178 : k0_chk178 v124), ∀ a x, ((![v124] : Fin 1 → IVec S16 32) a x).toNat < S100000.size a := fun v124 k0_hw178 => k0_hw178
def k0_off181 (k0_t15 : Fin k0_t15_loop.trips) : Fin 2 → Nat :=
  let c0_i32_133 : BitVec 32 := 0#32
  let c0_i32_114 : BitVec 32 := 0#32
  let c1_i32_116 : BitVec 32 := 1#32
  let arg9 : BitVec 32 := Scf.iv c0_i32_114 c1_i32_116 k0_t15
  let c1_i32_132 : BitVec 32 := 1#32
  let v105 : BitVec 32 := Scalar.muli arg9 c1_i32_132
  let v106 : BitVec 32 := Scalar.addi c0_i32_133 v105
  let v125 : Index := Scalar.indexCast v106
  let c144 : Index := 144#32
  ![v125.toNat, 144]

def k0_chk179 (v126 : IVec S16 32) : Prop :=
  (∀ a x, ((![v126] : Fin 1 → IVec S16 32) a x).toNat < S100000.size a)
theorem k0_idx179_inb : ∀ (v126 : IVec S16 32) (k0_hw179 : k0_chk179 v126), ∀ a x, ((![v126] : Fin 1 → IVec S16 32) a x).toNat < S100000.size a := fun v126 k0_hw179 => k0_hw179
def k0_off182 (k0_t15 : Fin k0_t15_loop.trips) : Fin 2 → Nat :=
  let c0_i32_133 : BitVec 32 := 0#32
  let c0_i32_114 : BitVec 32 := 0#32
  let c1_i32_116 : BitVec 32 := 1#32
  let arg9 : BitVec 32 := Scf.iv c0_i32_114 c1_i32_116 k0_t15
  let c1_i32_132 : BitVec 32 := 1#32
  let v105 : BitVec 32 := Scalar.muli arg9 c1_i32_132
  let v106 : BitVec 32 := Scalar.addi c0_i32_133 v105
  let v127 : Index := Scalar.indexCast v106
  let c160 : Index := 160#32
  ![v127.toNat, 160]

def k0_chk180 (v128 : IVec S16 32) : Prop :=
  (∀ a x, ((![v128] : Fin 1 → IVec S16 32) a x).toNat < S100000.size a)
theorem k0_idx180_inb : ∀ (v128 : IVec S16 32) (k0_hw180 : k0_chk180 v128), ∀ a x, ((![v128] : Fin 1 → IVec S16 32) a x).toNat < S100000.size a := fun v128 k0_hw180 => k0_hw180
def k0_off183 (k0_t15 : Fin k0_t15_loop.trips) : Fin 2 → Nat :=
  let c0_i32_133 : BitVec 32 := 0#32
  let c0_i32_114 : BitVec 32 := 0#32
  let c1_i32_116 : BitVec 32 := 1#32
  let arg9 : BitVec 32 := Scf.iv c0_i32_114 c1_i32_116 k0_t15
  let c1_i32_132 : BitVec 32 := 1#32
  let v105 : BitVec 32 := Scalar.muli arg9 c1_i32_132
  let v106 : BitVec 32 := Scalar.addi c0_i32_133 v105
  let v129 : Index := Scalar.indexCast v106
  let c176 : Index := 176#32
  ![v129.toNat, 176]

def k0_chk181 (v130 : IVec S16 32) : Prop :=
  (∀ a x, ((![v130] : Fin 1 → IVec S16 32) a x).toNat < S100000.size a)
theorem k0_idx181_inb : ∀ (v130 : IVec S16 32) (k0_hw181 : k0_chk181 v130), ∀ a x, ((![v130] : Fin 1 → IVec S16 32) a x).toNat < S100000.size a := fun v130 k0_hw181 => k0_hw181
def k0_off184 (k0_t15 : Fin k0_t15_loop.trips) : Fin 2 → Nat :=
  let c0_i32_133 : BitVec 32 := 0#32
  let c0_i32_114 : BitVec 32 := 0#32
  let c1_i32_116 : BitVec 32 := 1#32
  let arg9 : BitVec 32 := Scf.iv c0_i32_114 c1_i32_116 k0_t15
  let c1_i32_132 : BitVec 32 := 1#32
  let v105 : BitVec 32 := Scalar.muli arg9 c1_i32_132
  let v106 : BitVec 32 := Scalar.addi c0_i32_133 v105
  let v131 : Index := Scalar.indexCast v106
  let c184 : Index := 184#32
  ![v131.toNat, 184]

def k0_chk182 (v132 : IVec S16 32) : Prop :=
  (∀ a x, ((![v132] : Fin 1 → IVec S16 32) a x).toNat < S100000.size a)
theorem k0_idx182_inb : ∀ (v132 : IVec S16 32) (k0_hw182 : k0_chk182 v132), ∀ a x, ((![v132] : Fin 1 → IVec S16 32) a x).toNat < S100000.size a := fun v132 k0_hw182 => k0_hw182
@[reducible] def k0_t16_loop : Scf.Loop 32 :=
  let c0_i32_122 : BitVec 32 := 0#32
  let c32_i32_123 : BitVec 32 := 32#32
  let v101 : BitVec 32 := Scalar.addi c0_i32_122 c32_i32_123
  let c1_i32_124 : BitVec 32 := 1#32
  ⟨c0_i32_122, v101, c1_i32_124⟩
def k0_off185 (k0_t16 : Fin k0_t16_loop.trips) : Fin 2 → Nat :=
  let c0_i32_133 : BitVec 32 := 0#32
  let c0_i32_122 : BitVec 32 := 0#32
  let c1_i32_124 : BitVec 32 := 1#32
  let arg9 : BitVec 32 := Scf.iv c0_i32_122 c1_i32_124 k0_t16
  let c1_i32_132 : BitVec 32 := 1#32
  let v105 : BitVec 32 := Scalar.muli arg9 c1_i32_132
  let v106 : BitVec 32 := Scalar.addi c0_i32_133 v105
  let v107 : Index := Scalar.indexCast v106
  let c0 : Index := 0#32
  ![v107.toNat, 0]

def k0_chk183 (v108 : IVec S16 32) : Prop :=
  (∀ a x, ((![v108] : Fin 1 → IVec S16 32) a x).toNat < S100000.size a)
theorem k0_idx183_inb : ∀ (v108 : IVec S16 32) (k0_hw183 : k0_chk183 v108), ∀ a x, ((![v108] : Fin 1 → IVec S16 32) a x).toNat < S100000.size a := fun v108 k0_hw183 => k0_hw183
def k0_off186 (k0_t16 : Fin k0_t16_loop.trips) : Fin 2 → Nat :=
  let c0_i32_133 : BitVec 32 := 0#32
  let c0_i32_122 : BitVec 32 := 0#32
  let c1_i32_124 : BitVec 32 := 1#32
  let arg9 : BitVec 32 := Scf.iv c0_i32_122 c1_i32_124 k0_t16
  let c1_i32_132 : BitVec 32 := 1#32
  let v105 : BitVec 32 := Scalar.muli arg9 c1_i32_132
  let v106 : BitVec 32 := Scalar.addi c0_i32_133 v105
  let v109 : Index := Scalar.indexCast v106
  let c16 : Index := 16#32
  ![v109.toNat, 16]

def k0_chk184 (v110 : IVec S16 32) : Prop :=
  (∀ a x, ((![v110] : Fin 1 → IVec S16 32) a x).toNat < S100000.size a)
theorem k0_idx184_inb : ∀ (v110 : IVec S16 32) (k0_hw184 : k0_chk184 v110), ∀ a x, ((![v110] : Fin 1 → IVec S16 32) a x).toNat < S100000.size a := fun v110 k0_hw184 => k0_hw184
def k0_off187 (k0_t16 : Fin k0_t16_loop.trips) : Fin 2 → Nat :=
  let c0_i32_133 : BitVec 32 := 0#32
  let c0_i32_122 : BitVec 32 := 0#32
  let c1_i32_124 : BitVec 32 := 1#32
  let arg9 : BitVec 32 := Scf.iv c0_i32_122 c1_i32_124 k0_t16
  let c1_i32_132 : BitVec 32 := 1#32
  let v105 : BitVec 32 := Scalar.muli arg9 c1_i32_132
  let v106 : BitVec 32 := Scalar.addi c0_i32_133 v105
  let v111 : Index := Scalar.indexCast v106
  let c32 : Index := 32#32
  ![v111.toNat, 32]

def k0_chk185 (v112 : IVec S16 32) : Prop :=
  (∀ a x, ((![v112] : Fin 1 → IVec S16 32) a x).toNat < S100000.size a)
theorem k0_idx185_inb : ∀ (v112 : IVec S16 32) (k0_hw185 : k0_chk185 v112), ∀ a x, ((![v112] : Fin 1 → IVec S16 32) a x).toNat < S100000.size a := fun v112 k0_hw185 => k0_hw185
def k0_off188 (k0_t16 : Fin k0_t16_loop.trips) : Fin 2 → Nat :=
  let c0_i32_133 : BitVec 32 := 0#32
  let c0_i32_122 : BitVec 32 := 0#32
  let c1_i32_124 : BitVec 32 := 1#32
  let arg9 : BitVec 32 := Scf.iv c0_i32_122 c1_i32_124 k0_t16
  let c1_i32_132 : BitVec 32 := 1#32
  let v105 : BitVec 32 := Scalar.muli arg9 c1_i32_132
  let v106 : BitVec 32 := Scalar.addi c0_i32_133 v105
  let v113 : Index := Scalar.indexCast v106
  let c48 : Index := 48#32
  ![v113.toNat, 48]

def k0_chk186 (v114 : IVec S16 32) : Prop :=
  (∀ a x, ((![v114] : Fin 1 → IVec S16 32) a x).toNat < S100000.size a)
theorem k0_idx186_inb : ∀ (v114 : IVec S16 32) (k0_hw186 : k0_chk186 v114), ∀ a x, ((![v114] : Fin 1 → IVec S16 32) a x).toNat < S100000.size a := fun v114 k0_hw186 => k0_hw186
def k0_off189 (k0_t16 : Fin k0_t16_loop.trips) : Fin 2 → Nat :=
  let c0_i32_133 : BitVec 32 := 0#32
  let c0_i32_122 : BitVec 32 := 0#32
  let c1_i32_124 : BitVec 32 := 1#32
  let arg9 : BitVec 32 := Scf.iv c0_i32_122 c1_i32_124 k0_t16
  let c1_i32_132 : BitVec 32 := 1#32
  let v105 : BitVec 32 := Scalar.muli arg9 c1_i32_132
  let v106 : BitVec 32 := Scalar.addi c0_i32_133 v105
  let v115 : Index := Scalar.indexCast v106
  let c64 : Index := 64#32
  ![v115.toNat, 64]

def k0_chk187 (v116 : IVec S16 32) : Prop :=
  (∀ a x, ((![v116] : Fin 1 → IVec S16 32) a x).toNat < S100000.size a)
theorem k0_idx187_inb : ∀ (v116 : IVec S16 32) (k0_hw187 : k0_chk187 v116), ∀ a x, ((![v116] : Fin 1 → IVec S16 32) a x).toNat < S100000.size a := fun v116 k0_hw187 => k0_hw187
def k0_off190 (k0_t16 : Fin k0_t16_loop.trips) : Fin 2 → Nat :=
  let c0_i32_133 : BitVec 32 := 0#32
  let c0_i32_122 : BitVec 32 := 0#32
  let c1_i32_124 : BitVec 32 := 1#32
  let arg9 : BitVec 32 := Scf.iv c0_i32_122 c1_i32_124 k0_t16
  let c1_i32_132 : BitVec 32 := 1#32
  let v105 : BitVec 32 := Scalar.muli arg9 c1_i32_132
  let v106 : BitVec 32 := Scalar.addi c0_i32_133 v105
  let v117 : Index := Scalar.indexCast v106
  let c80 : Index := 80#32
  ![v117.toNat, 80]

def k0_chk188 (v118 : IVec S16 32) : Prop :=
  (∀ a x, ((![v118] : Fin 1 → IVec S16 32) a x).toNat < S100000.size a)
theorem k0_idx188_inb : ∀ (v118 : IVec S16 32) (k0_hw188 : k0_chk188 v118), ∀ a x, ((![v118] : Fin 1 → IVec S16 32) a x).toNat < S100000.size a := fun v118 k0_hw188 => k0_hw188
def k0_off191 (k0_t16 : Fin k0_t16_loop.trips) : Fin 2 → Nat :=
  let c0_i32_133 : BitVec 32 := 0#32
  let c0_i32_122 : BitVec 32 := 0#32
  let c1_i32_124 : BitVec 32 := 1#32
  let arg9 : BitVec 32 := Scf.iv c0_i32_122 c1_i32_124 k0_t16
  let c1_i32_132 : BitVec 32 := 1#32
  let v105 : BitVec 32 := Scalar.muli arg9 c1_i32_132
  let v106 : BitVec 32 := Scalar.addi c0_i32_133 v105
  let v119 : Index := Scalar.indexCast v106
  let c96 : Index := 96#32
  ![v119.toNat, 96]

def k0_chk189 (v120 : IVec S16 32) : Prop :=
  (∀ a x, ((![v120] : Fin 1 → IVec S16 32) a x).toNat < S100000.size a)
theorem k0_idx189_inb : ∀ (v120 : IVec S16 32) (k0_hw189 : k0_chk189 v120), ∀ a x, ((![v120] : Fin 1 → IVec S16 32) a x).toNat < S100000.size a := fun v120 k0_hw189 => k0_hw189
def k0_off192 (k0_t16 : Fin k0_t16_loop.trips) : Fin 2 → Nat :=
  let c0_i32_133 : BitVec 32 := 0#32
  let c0_i32_122 : BitVec 32 := 0#32
  let c1_i32_124 : BitVec 32 := 1#32
  let arg9 : BitVec 32 := Scf.iv c0_i32_122 c1_i32_124 k0_t16
  let c1_i32_132 : BitVec 32 := 1#32
  let v105 : BitVec 32 := Scalar.muli arg9 c1_i32_132
  let v106 : BitVec 32 := Scalar.addi c0_i32_133 v105
  let v121 : Index := Scalar.indexCast v106
  let c112 : Index := 112#32
  ![v121.toNat, 112]

def k0_chk190 (v122 : IVec S16 32) : Prop :=
  (∀ a x, ((![v122] : Fin 1 → IVec S16 32) a x).toNat < S100000.size a)
theorem k0_idx190_inb : ∀ (v122 : IVec S16 32) (k0_hw190 : k0_chk190 v122), ∀ a x, ((![v122] : Fin 1 → IVec S16 32) a x).toNat < S100000.size a := fun v122 k0_hw190 => k0_hw190
def k0_off193 (k0_t16 : Fin k0_t16_loop.trips) : Fin 2 → Nat :=
  let c0_i32_133 : BitVec 32 := 0#32
  let c0_i32_122 : BitVec 32 := 0#32
  let c1_i32_124 : BitVec 32 := 1#32
  let arg9 : BitVec 32 := Scf.iv c0_i32_122 c1_i32_124 k0_t16
  let c1_i32_132 : BitVec 32 := 1#32
  let v105 : BitVec 32 := Scalar.muli arg9 c1_i32_132
  let v106 : BitVec 32 := Scalar.addi c0_i32_133 v105
  let v123 : Index := Scalar.indexCast v106
  let c128 : Index := 128#32
  ![v123.toNat, 128]

def k0_chk191 (v124 : IVec S16 32) : Prop :=
  (∀ a x, ((![v124] : Fin 1 → IVec S16 32) a x).toNat < S100000.size a)
theorem k0_idx191_inb : ∀ (v124 : IVec S16 32) (k0_hw191 : k0_chk191 v124), ∀ a x, ((![v124] : Fin 1 → IVec S16 32) a x).toNat < S100000.size a := fun v124 k0_hw191 => k0_hw191
def k0_off194 (k0_t16 : Fin k0_t16_loop.trips) : Fin 2 → Nat :=
  let c0_i32_133 : BitVec 32 := 0#32
  let c0_i32_122 : BitVec 32 := 0#32
  let c1_i32_124 : BitVec 32 := 1#32
  let arg9 : BitVec 32 := Scf.iv c0_i32_122 c1_i32_124 k0_t16
  let c1_i32_132 : BitVec 32 := 1#32
  let v105 : BitVec 32 := Scalar.muli arg9 c1_i32_132
  let v106 : BitVec 32 := Scalar.addi c0_i32_133 v105
  let v125 : Index := Scalar.indexCast v106
  let c144 : Index := 144#32
  ![v125.toNat, 144]

def k0_chk192 (v126 : IVec S16 32) : Prop :=
  (∀ a x, ((![v126] : Fin 1 → IVec S16 32) a x).toNat < S100000.size a)
theorem k0_idx192_inb : ∀ (v126 : IVec S16 32) (k0_hw192 : k0_chk192 v126), ∀ a x, ((![v126] : Fin 1 → IVec S16 32) a x).toNat < S100000.size a := fun v126 k0_hw192 => k0_hw192
def k0_off195 (k0_t16 : Fin k0_t16_loop.trips) : Fin 2 → Nat :=
  let c0_i32_133 : BitVec 32 := 0#32
  let c0_i32_122 : BitVec 32 := 0#32
  let c1_i32_124 : BitVec 32 := 1#32
  let arg9 : BitVec 32 := Scf.iv c0_i32_122 c1_i32_124 k0_t16
  let c1_i32_132 : BitVec 32 := 1#32
  let v105 : BitVec 32 := Scalar.muli arg9 c1_i32_132
  let v106 : BitVec 32 := Scalar.addi c0_i32_133 v105
  let v127 : Index := Scalar.indexCast v106
  let c160 : Index := 160#32
  ![v127.toNat, 160]

def k0_chk193 (v128 : IVec S16 32) : Prop :=
  (∀ a x, ((![v128] : Fin 1 → IVec S16 32) a x).toNat < S100000.size a)
theorem k0_idx193_inb : ∀ (v128 : IVec S16 32) (k0_hw193 : k0_chk193 v128), ∀ a x, ((![v128] : Fin 1 → IVec S16 32) a x).toNat < S100000.size a := fun v128 k0_hw193 => k0_hw193
def k0_off196 (k0_t16 : Fin k0_t16_loop.trips) : Fin 2 → Nat :=
  let c0_i32_133 : BitVec 32 := 0#32
  let c0_i32_122 : BitVec 32 := 0#32
  let c1_i32_124 : BitVec 32 := 1#32
  let arg9 : BitVec 32 := Scf.iv c0_i32_122 c1_i32_124 k0_t16
  let c1_i32_132 : BitVec 32 := 1#32
  let v105 : BitVec 32 := Scalar.muli arg9 c1_i32_132
  let v106 : BitVec 32 := Scalar.addi c0_i32_133 v105
  let v129 : Index := Scalar.indexCast v106
  let c176 : Index := 176#32
  ![v129.toNat, 176]

def k0_chk194 (v130 : IVec S16 32) : Prop :=
  (∀ a x, ((![v130] : Fin 1 → IVec S16 32) a x).toNat < S100000.size a)
theorem k0_idx194_inb : ∀ (v130 : IVec S16 32) (k0_hw194 : k0_chk194 v130), ∀ a x, ((![v130] : Fin 1 → IVec S16 32) a x).toNat < S100000.size a := fun v130 k0_hw194 => k0_hw194
def k0_off197 (k0_t16 : Fin k0_t16_loop.trips) : Fin 2 → Nat :=
  let c0_i32_133 : BitVec 32 := 0#32
  let c0_i32_122 : BitVec 32 := 0#32
  let c1_i32_124 : BitVec 32 := 1#32
  let arg9 : BitVec 32 := Scf.iv c0_i32_122 c1_i32_124 k0_t16
  let c1_i32_132 : BitVec 32 := 1#32
  let v105 : BitVec 32 := Scalar.muli arg9 c1_i32_132
  let v106 : BitVec 32 := Scalar.addi c0_i32_133 v105
  let v131 : Index := Scalar.indexCast v106
  let c184 : Index := 184#32
  ![v131.toNat, 184]

def k0_chk195 (v132 : IVec S16 32) : Prop :=
  (∀ a x, ((![v132] : Fin 1 → IVec S16 32) a x).toNat < S100000.size a)
theorem k0_idx195_inb : ∀ (v132 : IVec S16 32) (k0_hw195 : k0_chk195 v132), ∀ a x, ((![v132] : Fin 1 → IVec S16 32) a x).toNat < S100000.size a := fun v132 k0_hw195 => k0_hw195
@[reducible] def k0_t17_loop : Scf.Loop 32 :=
  let c0_i32_128 : BitVec 32 := 0#32
  let c32_i32_129 : BitVec 32 := 32#32
  let v104 : BitVec 32 := Scalar.addi c0_i32_128 c32_i32_129
  let c1_i32_130 : BitVec 32 := 1#32
  ⟨c0_i32_128, v104, c1_i32_130⟩
def k0_off198 (k0_t17 : Fin k0_t17_loop.trips) : Fin 2 → Nat :=
  let c0_i32_133 : BitVec 32 := 0#32
  let c0_i32_128 : BitVec 32 := 0#32
  let c1_i32_130 : BitVec 32 := 1#32
  let arg9 : BitVec 32 := Scf.iv c0_i32_128 c1_i32_130 k0_t17
  let c1_i32_132 : BitVec 32 := 1#32
  let v105 : BitVec 32 := Scalar.muli arg9 c1_i32_132
  let v106 : BitVec 32 := Scalar.addi c0_i32_133 v105
  let v107 : Index := Scalar.indexCast v106
  let c0 : Index := 0#32
  ![v107.toNat, 0]

def k0_chk196 (v108 : IVec S16 32) : Prop :=
  (∀ a x, ((![v108] : Fin 1 → IVec S16 32) a x).toNat < S100000.size a)
theorem k0_idx196_inb : ∀ (v108 : IVec S16 32) (k0_hw196 : k0_chk196 v108), ∀ a x, ((![v108] : Fin 1 → IVec S16 32) a x).toNat < S100000.size a := fun v108 k0_hw196 => k0_hw196
def k0_off199 (k0_t17 : Fin k0_t17_loop.trips) : Fin 2 → Nat :=
  let c0_i32_133 : BitVec 32 := 0#32
  let c0_i32_128 : BitVec 32 := 0#32
  let c1_i32_130 : BitVec 32 := 1#32
  let arg9 : BitVec 32 := Scf.iv c0_i32_128 c1_i32_130 k0_t17
  let c1_i32_132 : BitVec 32 := 1#32
  let v105 : BitVec 32 := Scalar.muli arg9 c1_i32_132
  let v106 : BitVec 32 := Scalar.addi c0_i32_133 v105
  let v109 : Index := Scalar.indexCast v106
  let c16 : Index := 16#32
  ![v109.toNat, 16]

def k0_chk197 (v110 : IVec S16 32) : Prop :=
  (∀ a x, ((![v110] : Fin 1 → IVec S16 32) a x).toNat < S100000.size a)
theorem k0_idx197_inb : ∀ (v110 : IVec S16 32) (k0_hw197 : k0_chk197 v110), ∀ a x, ((![v110] : Fin 1 → IVec S16 32) a x).toNat < S100000.size a := fun v110 k0_hw197 => k0_hw197
def k0_off200 (k0_t17 : Fin k0_t17_loop.trips) : Fin 2 → Nat :=
  let c0_i32_133 : BitVec 32 := 0#32
  let c0_i32_128 : BitVec 32 := 0#32
  let c1_i32_130 : BitVec 32 := 1#32
  let arg9 : BitVec 32 := Scf.iv c0_i32_128 c1_i32_130 k0_t17
  let c1_i32_132 : BitVec 32 := 1#32
  let v105 : BitVec 32 := Scalar.muli arg9 c1_i32_132
  let v106 : BitVec 32 := Scalar.addi c0_i32_133 v105
  let v111 : Index := Scalar.indexCast v106
  let c32 : Index := 32#32
  ![v111.toNat, 32]

def k0_chk198 (v112 : IVec S16 32) : Prop :=
  (∀ a x, ((![v112] : Fin 1 → IVec S16 32) a x).toNat < S100000.size a)
theorem k0_idx198_inb : ∀ (v112 : IVec S16 32) (k0_hw198 : k0_chk198 v112), ∀ a x, ((![v112] : Fin 1 → IVec S16 32) a x).toNat < S100000.size a := fun v112 k0_hw198 => k0_hw198
def k0_off201 (k0_t17 : Fin k0_t17_loop.trips) : Fin 2 → Nat :=
  let c0_i32_133 : BitVec 32 := 0#32
  let c0_i32_128 : BitVec 32 := 0#32
  let c1_i32_130 : BitVec 32 := 1#32
  let arg9 : BitVec 32 := Scf.iv c0_i32_128 c1_i32_130 k0_t17
  let c1_i32_132 : BitVec 32 := 1#32
  let v105 : BitVec 32 := Scalar.muli arg9 c1_i32_132
  let v106 : BitVec 32 := Scalar.addi c0_i32_133 v105
  let v113 : Index := Scalar.indexCast v106
  let c48 : Index := 48#32
  ![v113.toNat, 48]

def k0_chk199 (v114 : IVec S16 32) : Prop :=
  (∀ a x, ((![v114] : Fin 1 → IVec S16 32) a x).toNat < S100000.size a)
theorem k0_idx199_inb : ∀ (v114 : IVec S16 32) (k0_hw199 : k0_chk199 v114), ∀ a x, ((![v114] : Fin 1 → IVec S16 32) a x).toNat < S100000.size a := fun v114 k0_hw199 => k0_hw199
def k0_off202 (k0_t17 : Fin k0_t17_loop.trips) : Fin 2 → Nat :=
  let c0_i32_133 : BitVec 32 := 0#32
  let c0_i32_128 : BitVec 32 := 0#32
  let c1_i32_130 : BitVec 32 := 1#32
  let arg9 : BitVec 32 := Scf.iv c0_i32_128 c1_i32_130 k0_t17
  let c1_i32_132 : BitVec 32 := 1#32
  let v105 : BitVec 32 := Scalar.muli arg9 c1_i32_132
  let v106 : BitVec 32 := Scalar.addi c0_i32_133 v105
  let v115 : Index := Scalar.indexCast v106
  let c64 : Index := 64#32
  ![v115.toNat, 64]

def k0_chk200 (v116 : IVec S16 32) : Prop :=
  (∀ a x, ((![v116] : Fin 1 → IVec S16 32) a x).toNat < S100000.size a)
theorem k0_idx200_inb : ∀ (v116 : IVec S16 32) (k0_hw200 : k0_chk200 v116), ∀ a x, ((![v116] : Fin 1 → IVec S16 32) a x).toNat < S100000.size a := fun v116 k0_hw200 => k0_hw200
def k0_off203 (k0_t17 : Fin k0_t17_loop.trips) : Fin 2 → Nat :=
  let c0_i32_133 : BitVec 32 := 0#32
  let c0_i32_128 : BitVec 32 := 0#32
  let c1_i32_130 : BitVec 32 := 1#32
  let arg9 : BitVec 32 := Scf.iv c0_i32_128 c1_i32_130 k0_t17
  let c1_i32_132 : BitVec 32 := 1#32
  let v105 : BitVec 32 := Scalar.muli arg9 c1_i32_132
  let v106 : BitVec 32 := Scalar.addi c0_i32_133 v105
  let v117 : Index := Scalar.indexCast v106
  let c80 : Index := 80#32
  ![v117.toNat, 80]

def k0_chk201 (v118 : IVec S16 32) : Prop :=
  (∀ a x, ((![v118] : Fin 1 → IVec S16 32) a x).toNat < S100000.size a)
theorem k0_idx201_inb : ∀ (v118 : IVec S16 32) (k0_hw201 : k0_chk201 v118), ∀ a x, ((![v118] : Fin 1 → IVec S16 32) a x).toNat < S100000.size a := fun v118 k0_hw201 => k0_hw201
def k0_off204 (k0_t17 : Fin k0_t17_loop.trips) : Fin 2 → Nat :=
  let c0_i32_133 : BitVec 32 := 0#32
  let c0_i32_128 : BitVec 32 := 0#32
  let c1_i32_130 : BitVec 32 := 1#32
  let arg9 : BitVec 32 := Scf.iv c0_i32_128 c1_i32_130 k0_t17
  let c1_i32_132 : BitVec 32 := 1#32
  let v105 : BitVec 32 := Scalar.muli arg9 c1_i32_132
  let v106 : BitVec 32 := Scalar.addi c0_i32_133 v105
  let v119 : Index := Scalar.indexCast v106
  let c96 : Index := 96#32
  ![v119.toNat, 96]

def k0_chk202 (v120 : IVec S16 32) : Prop :=
  (∀ a x, ((![v120] : Fin 1 → IVec S16 32) a x).toNat < S100000.size a)
theorem k0_idx202_inb : ∀ (v120 : IVec S16 32) (k0_hw202 : k0_chk202 v120), ∀ a x, ((![v120] : Fin 1 → IVec S16 32) a x).toNat < S100000.size a := fun v120 k0_hw202 => k0_hw202
def k0_off205 (k0_t17 : Fin k0_t17_loop.trips) : Fin 2 → Nat :=
  let c0_i32_133 : BitVec 32 := 0#32
  let c0_i32_128 : BitVec 32 := 0#32
  let c1_i32_130 : BitVec 32 := 1#32
  let arg9 : BitVec 32 := Scf.iv c0_i32_128 c1_i32_130 k0_t17
  let c1_i32_132 : BitVec 32 := 1#32
  let v105 : BitVec 32 := Scalar.muli arg9 c1_i32_132
  let v106 : BitVec 32 := Scalar.addi c0_i32_133 v105
  let v121 : Index := Scalar.indexCast v106
  let c112 : Index := 112#32
  ![v121.toNat, 112]

def k0_chk203 (v122 : IVec S16 32) : Prop :=
  (∀ a x, ((![v122] : Fin 1 → IVec S16 32) a x).toNat < S100000.size a)
theorem k0_idx203_inb : ∀ (v122 : IVec S16 32) (k0_hw203 : k0_chk203 v122), ∀ a x, ((![v122] : Fin 1 → IVec S16 32) a x).toNat < S100000.size a := fun v122 k0_hw203 => k0_hw203
def k0_off206 (k0_t17 : Fin k0_t17_loop.trips) : Fin 2 → Nat :=
  let c0_i32_133 : BitVec 32 := 0#32
  let c0_i32_128 : BitVec 32 := 0#32
  let c1_i32_130 : BitVec 32 := 1#32
  let arg9 : BitVec 32 := Scf.iv c0_i32_128 c1_i32_130 k0_t17
  let c1_i32_132 : BitVec 32 := 1#32
  let v105 : BitVec 32 := Scalar.muli arg9 c1_i32_132
  let v106 : BitVec 32 := Scalar.addi c0_i32_133 v105
  let v123 : Index := Scalar.indexCast v106
  let c128 : Index := 128#32
  ![v123.toNat, 128]

def k0_chk204 (v124 : IVec S16 32) : Prop :=
  (∀ a x, ((![v124] : Fin 1 → IVec S16 32) a x).toNat < S100000.size a)
theorem k0_idx204_inb : ∀ (v124 : IVec S16 32) (k0_hw204 : k0_chk204 v124), ∀ a x, ((![v124] : Fin 1 → IVec S16 32) a x).toNat < S100000.size a := fun v124 k0_hw204 => k0_hw204
def k0_off207 (k0_t17 : Fin k0_t17_loop.trips) : Fin 2 → Nat :=
  let c0_i32_133 : BitVec 32 := 0#32
  let c0_i32_128 : BitVec 32 := 0#32
  let c1_i32_130 : BitVec 32 := 1#32
  let arg9 : BitVec 32 := Scf.iv c0_i32_128 c1_i32_130 k0_t17
  let c1_i32_132 : BitVec 32 := 1#32
  let v105 : BitVec 32 := Scalar.muli arg9 c1_i32_132
  let v106 : BitVec 32 := Scalar.addi c0_i32_133 v105
  let v125 : Index := Scalar.indexCast v106
  let c144 : Index := 144#32
  ![v125.toNat, 144]

def k0_chk205 (v126 : IVec S16 32) : Prop :=
  (∀ a x, ((![v126] : Fin 1 → IVec S16 32) a x).toNat < S100000.size a)
theorem k0_idx205_inb : ∀ (v126 : IVec S16 32) (k0_hw205 : k0_chk205 v126), ∀ a x, ((![v126] : Fin 1 → IVec S16 32) a x).toNat < S100000.size a := fun v126 k0_hw205 => k0_hw205
def k0_off208 (k0_t17 : Fin k0_t17_loop.trips) : Fin 2 → Nat :=
  let c0_i32_133 : BitVec 32 := 0#32
  let c0_i32_128 : BitVec 32 := 0#32
  let c1_i32_130 : BitVec 32 := 1#32
  let arg9 : BitVec 32 := Scf.iv c0_i32_128 c1_i32_130 k0_t17
  let c1_i32_132 : BitVec 32 := 1#32
  let v105 : BitVec 32 := Scalar.muli arg9 c1_i32_132
  let v106 : BitVec 32 := Scalar.addi c0_i32_133 v105
  let v127 : Index := Scalar.indexCast v106
  let c160 : Index := 160#32
  ![v127.toNat, 160]

def k0_chk206 (v128 : IVec S16 32) : Prop :=
  (∀ a x, ((![v128] : Fin 1 → IVec S16 32) a x).toNat < S100000.size a)
theorem k0_idx206_inb : ∀ (v128 : IVec S16 32) (k0_hw206 : k0_chk206 v128), ∀ a x, ((![v128] : Fin 1 → IVec S16 32) a x).toNat < S100000.size a := fun v128 k0_hw206 => k0_hw206
def k0_off209 (k0_t17 : Fin k0_t17_loop.trips) : Fin 2 → Nat :=
  let c0_i32_133 : BitVec 32 := 0#32
  let c0_i32_128 : BitVec 32 := 0#32
  let c1_i32_130 : BitVec 32 := 1#32
  let arg9 : BitVec 32 := Scf.iv c0_i32_128 c1_i32_130 k0_t17
  let c1_i32_132 : BitVec 32 := 1#32
  let v105 : BitVec 32 := Scalar.muli arg9 c1_i32_132
  let v106 : BitVec 32 := Scalar.addi c0_i32_133 v105
  let v129 : Index := Scalar.indexCast v106
  let c176 : Index := 176#32
  ![v129.toNat, 176]

def k0_chk207 (v130 : IVec S16 32) : Prop :=
  (∀ a x, ((![v130] : Fin 1 → IVec S16 32) a x).toNat < S100000.size a)
theorem k0_idx207_inb : ∀ (v130 : IVec S16 32) (k0_hw207 : k0_chk207 v130), ∀ a x, ((![v130] : Fin 1 → IVec S16 32) a x).toNat < S100000.size a := fun v130 k0_hw207 => k0_hw207
def k0_off210 (k0_t17 : Fin k0_t17_loop.trips) : Fin 2 → Nat :=
  let c0_i32_133 : BitVec 32 := 0#32
  let c0_i32_128 : BitVec 32 := 0#32
  let c1_i32_130 : BitVec 32 := 1#32
  let arg9 : BitVec 32 := Scf.iv c0_i32_128 c1_i32_130 k0_t17
  let c1_i32_132 : BitVec 32 := 1#32
  let v105 : BitVec 32 := Scalar.muli arg9 c1_i32_132
  let v106 : BitVec 32 := Scalar.addi c0_i32_133 v105
  let v131 : Index := Scalar.indexCast v106
  let c184 : Index := 184#32
  ![v131.toNat, 184]

def k0_chk208 (v132 : IVec S16 32) : Prop :=
  (∀ a x, ((![v132] : Fin 1 → IVec S16 32) a x).toNat < S100000.size a)
theorem k0_idx208_inb : ∀ (v132 : IVec S16 32) (k0_hw208 : k0_chk208 v132), ∀ a x, ((![v132] : Fin 1 → IVec S16 32) a x).toNat < S100000.size a := fun v132 k0_hw208 => k0_hw208
def k0_off211 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_132_r0 : BitVec 32 := 0#32
  ![v1.toNat, 0]
abbrev grid1 : Pipeline.Grid := .none

abbrev stage1_0 : Fin 1 → Memref sig .tc .vmem S32x100000 .i32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S1x100000 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .smem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384x200 : Shape := ⟨2, ![16384, 200]⟩
abbrev S100000 : Shape := ⟨1, ![100000]⟩
abbrev S3276800 : Shape := ⟨1, ![3276800]⟩
abbrev S_ : Shape := ⟨0, ![]⟩
abbrev S3276800x1 : Shape := ⟨2, ![3276800, 1]⟩
abbrev S1 : Shape := ⟨1, ![1]⟩
abbrev S1x1 : Shape := ⟨2, ![1, 1]⟩

abbrev nBuf : Space → Nat
  | .hbm => 63
  | .vmem => 0
  | .smem => 0
  | _ => 0

abbrev bufTy : (tb : Table) → Fin (tcTables nBuf tb) → BufTy
  | .hbm, ⟨0, _⟩ => ⟨S16384x200, .i32⟩
  | .hbm, ⟨1, _⟩ => ⟨S100000, .f32⟩
  | .hbm, ⟨2, _⟩ => ⟨S3276800, .i32⟩
  | .hbm, ⟨3, _⟩ => ⟨S_, .i32⟩
  | .hbm, ⟨4, _⟩ => ⟨S100000, .i32⟩
  | .hbm, ⟨5, _⟩ => ⟨S_, .i32⟩
  | .hbm, ⟨6, _⟩ => ⟨S_, .i32⟩
  | .hbm, ⟨7, _⟩ => ⟨S3276800, .i32⟩
  | .hbm, ⟨8, _⟩ => ⟨S3276800, .i32⟩
  | .hbm, ⟨9, _⟩ => ⟨S_, .i32⟩
  | .hbm, ⟨10, _⟩ => ⟨S3276800, .i32⟩
  | .hbm, ⟨11, _⟩ => ⟨S3276800, .i1⟩
  | .hbm, ⟨12, _⟩ => ⟨S_, .i32⟩
  | .hbm, ⟨13, _⟩ => ⟨S3276800, .i32⟩
  | .hbm, ⟨14, _⟩ => ⟨S3276800, .i32⟩
  | .hbm, ⟨15, _⟩ => ⟨S3276800, .i32⟩
  | .hbm, ⟨16, _⟩ => ⟨S3276800x1, .i32⟩
  | .hbm, ⟨17, _⟩ => ⟨S_, .i32⟩
  | .hbm, ⟨18, _⟩ => ⟨S3276800, .i32⟩
  | .hbm, ⟨19, _⟩ => ⟨S100000, .i32⟩
  | .hbm, ⟨20, _⟩ => ⟨S100000, .f32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S3276800, .i32⟩
  | .hbm, ⟨31, _⟩ => ⟨S3276800, .i1⟩
  | .hbm, ⟨32, _⟩ => ⟨S_, .i32⟩
  | .hbm, ⟨33, _⟩ => ⟨S3276800, .i32⟩
  | .hbm, ⟨34, _⟩ => ⟨S3276800, .i32⟩
  | .hbm, ⟨35, _⟩ => ⟨S3276800, .i32⟩
  | .hbm, ⟨36, _⟩ => ⟨S3276800x1, .i32⟩
  | .hbm, ⟨37, _⟩ => ⟨S1, .i32⟩
  | .hbm, ⟨38, _⟩ => ⟨S_, .i32⟩
  | .hbm, ⟨39, _⟩ => ⟨S3276800x1, .i32⟩
  | .hbm, ⟨40, _⟩ => ⟨S3276800x1, .i1⟩
  | .hbm, ⟨41, _⟩ => ⟨S1x1, .i32⟩
  | .hbm, ⟨42, _⟩ => ⟨S3276800x1, .i32⟩
  | .hbm, ⟨43, _⟩ => ⟨S3276800x1, .i1⟩
  | .hbm, ⟨44, _⟩ => ⟨S3276800x1, .i1⟩
  | .hbm, ⟨45, _⟩ => ⟨S_, .i1⟩
  | .hbm, ⟨46, _⟩ => ⟨S3276800, .i1⟩
  | .hbm, ⟨47, _⟩ => ⟨S3276800, .f32⟩
  | .hbm, ⟨48, _⟩ => ⟨S_, .f32⟩
  | .hbm, ⟨49, _⟩ => ⟨S3276800, .f32⟩
  | .hbm, ⟨50, _⟩ => ⟨S3276800, .f32⟩
  | .hbm, ⟨51, _⟩ => ⟨S_, .f32⟩
  | .hbm, ⟨52, _⟩ => ⟨S3276800, .f32⟩
  | .hbm, ⟨53, _⟩ => ⟨S3276800, .f32⟩
  | .hbm, ⟨54, _⟩ => ⟨S3276800, .f32⟩
  | .hbm, ⟨55, _⟩ => ⟨S_, .f32⟩
  | .hbm, ⟨56, _⟩ => ⟨S3276800, .f32⟩
  | .hbm, ⟨57, _⟩ => ⟨S3276800, .f32⟩
  | .hbm, ⟨58, _⟩ => ⟨S3276800, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | _, _ => ⟨S16384x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_c_0 : Ref sig .tc := ⟨.hbm, 5, rfl⟩
abbrev main_call0_v0 : Ref sig .tc := ⟨.hbm, 6, rfl⟩
abbrev main_call0_v1 : Ref sig .tc := ⟨.hbm, 7, rfl⟩
abbrev main_v2 : Ref sig .tc := ⟨.hbm, 8, rfl⟩
abbrev main_c_1 : Ref sig .tc := ⟨.hbm, 9, rfl⟩
abbrev main_v3 : Ref sig .tc := ⟨.hbm, 10, rfl⟩
abbrev main_v4 : Ref sig .tc := ⟨.hbm, 11, rfl⟩
abbrev main_c_2 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_call1_c : Ref sig .tc := ⟨.hbm, 29, rfl⟩
abbrev main_call1_v0 : Ref sig .tc := ⟨.hbm, 30, rfl⟩
abbrev main_call1_v1 : Ref sig .tc := ⟨.hbm, 31, rfl⟩
abbrev main_call1_c_0 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_v5 : Ref sig .tc := ⟨.hbm, 36, rfl⟩
abbrev main_call1_c_1 : Ref sig .tc := ⟨.hbm, 37, rfl⟩
abbrev main_call1_c_2 : Ref sig .tc := ⟨.hbm, 38, rfl⟩
abbrev main_call1_v6 : Ref sig .tc := ⟨.hbm, 39, rfl⟩
abbrev main_call1_v7 : Ref sig .tc := ⟨.hbm, 40, rfl⟩
abbrev main_call1_v8 : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_c_3 : Ref sig .tc := ⟨.hbm, 45, rfl⟩
abbrev main_call1_v12 : Ref sig .tc := ⟨.hbm, 46, rfl⟩
abbrev main_call1_v13 : Ref sig .tc := ⟨.hbm, 47, rfl⟩
abbrev main_call1_cst : Ref sig .tc := ⟨.hbm, 48, rfl⟩
abbrev main_call1_v14 : Ref sig .tc := ⟨.hbm, 49, rfl⟩
abbrev main_v18 : Ref sig .tc := ⟨.hbm, 50, rfl⟩
abbrev main_cst_5 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_cst_6 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_cst_7 : Ref sig .tc := ⟨.hbm, 59, rfl⟩
abbrev main_v25 : Ref sig .tc := ⟨.hbm, 60, rfl⟩
abbrev main_cst_8 : Ref sig .tc := ⟨.hbm, 61, rfl⟩
abbrev main_v26 : Ref sig .tc := ⟨.hbm, 62, rfl⟩

abbrev nD : Nat := 1
abbrev τ : Topo := Topo.v7x

variable {F : FTy → Type} [FloatOps F]
-- ==== Proof.Program.lean ====
/-
  The histogram kernel, restated with its sixteen chunks as instances of one text.

  The printed kernel spells every chunk of index rows out: sixteen row loops, each of thirteen
  load-check-scatter groups, over the two staging buffers in turn. Here one group (`scat`), one row (`trip`), one
  chunk (`chunk`), one fetch (`fetch`) and one wait (`await`) are written once, over the buffer and the offsets, and
  `hist_eq` says that the printed kernel is the sequence `hist` of them.
-/
module

public import proofs.«01_k».proof.Proof.Gen.KernelIdeal
public import proofs.«01_k».proof.Proof.Gen.KernelIdeal.Skeleton

@[expose] public section

noncomputable section

namespace Cert.Proof.Hist

open Cert.KernelIdeal Cert.KernelIdeal.Gen
open Idealize.ShloMosaic Idealize.SL.Sem

variable {F : FTy → Type} [FloatOps F]

/-! ## One group of sixteen indices -/

/-- The first column of group `g` of a row: sixteen columns a group, and the last group ends with the row. -/
def colW : Fin 13 → BitVec 32 := ![0#32, 16#32, 32#32, 48#32, 64#32, 80#32, 96#32, 112#32, 128#32, 144#32, 160#32, 176#32, 184#32]

/-- The offsets of group `g` in row `t` of a staging buffer, as the kernel computes them. -/
def grpOff (t : Fin k0_t2_loop.trips) (g : Fin 13) : Fin 2 → Nat :=
  ![(Scalar.indexCast (Scalar.addi 0#32 (Scalar.muli (Scf.iv 0#32 1#32 t) 1#32)) : Index).toNat, (colW g).toNat]

/-- The group starts at row `t`, column `colW g`, -/
theorem grpOff_eq : ∀ (t : Fin k0_t2_loop.trips) (g : Fin 13), grpOff t g = ![t.val, (colW g).toNat] := by decide +kernel

/-- and lies inside the buffer. -/
theorem grpOff_inb : ∀ (t : Fin k0_t2_loop.trips) (g : Fin 13), ∀ a, grpOff t g a + S1x16.size a ≤ S32x200.size a := by decide +kernel

/-- The sixteen indices loaded are bins of the histogram. -/
def InBins (v : IVec S16 32) : Prop := ∀ a x, ((![v] : Fin 1 → IVec S16 32) a x).toNat < S100000.size a

instance InBins.dec : ∀ v : IVec S16 32, Decidable (InBins v) := fun v => decidable_of_iff' _ (Iff.of_eq (InBins.eq_1 v))

section Prog

variable (i : grid0.Coords)

/-- A program of the tile at grid point `i`. -/
abbrev TP (α : Type) : Type 1 := Prog (TpuEff nD τ sig (Elt F) Λ₀ (.scVector ((i 0).castLE hcore0) ((i 1).castLE hsub0))) α

/-- One group: sixteen indices loaded from the staging buffer, checked, and one added at each of them where the mask is set. -/
def scat (hb : Memref sig .scVector .vmem S100000 .i32) (buf : Memref sig .scVector .vmem S32x200 .i32) (msk : IVec S16 1)
    (t : Fin k0_t2_loop.trips) (g : Fin 13) : TP (F := F) i PUnit := do
  let v ← Prog.lift (.load buf (Rect.unit (s := S32x200) (grpOff t g) S1x16.size (grpOff_inb t g)).toLoadRect (View.loadsAt_vmem h_S1x16))
  have w : Vec F S16 .i32 := shapeCast S16 v shapeCasts_S1x16_S16
  have hw : InBins w := (← Prog.lift (TpuEff.assume (InBins w) (InBins.dec w))).down
  SparseCore.vectorStoreIdx hb ![w] k0_pay1 msk true hw (View.stores_vmem_bits_univ h_S100000 rfl)

/-- The groups `gs` of row `t` in turn. -/
def scats (hb : Memref sig .scVector .vmem S100000 .i32) (buf : Memref sig .scVector .vmem S32x200 .i32)
    (t : Fin k0_t2_loop.trips) : List (Fin 13 × IVec S16 1) → TP (F := F) i PUnit
  | [] => .ret ⟨⟩
  | g :: gs => scat i hb buf g.2 t g.1 >>= fun _ => scats hb buf t gs

/-- A row's groups with their masks: all sixteen lanes, but the upper eight alone in the last group, whose lower eight columns are
    the last eight of the group before. -/
def groups : List (Fin 13 × IVec S16 1) :=
  [(0, fun _ => 1#1), (1, fun _ => 1#1), (2, fun _ => 1#1), (3, fun _ => 1#1), (4, fun _ => 1#1), (5, fun _ => 1#1), (6, fun _ => 1#1),
    (7, fun _ => 1#1), (8, fun _ => 1#1), (9, fun _ => 1#1), (10, fun _ => 1#1), (11, fun _ => 1#1), (12, k0_pay3)]

/-- One row of a chunk. -/
def trip (hb : Memref sig .scVector .vmem S100000 .i32) (buf : Memref sig .scVector .vmem S32x200 .i32) :
    Fin k0_t2_loop.trips → Unit → TP (F := F) i Unit :=
  fun t _ => scats i hb buf t groups

/-- One chunk: its thirty-two rows. -/
def chunk (hb : Memref sig .scVector .vmem S100000 .i32) (buf : Memref sig .scVector .vmem S32x200 .i32) : TP (F := F) i PUnit :=
  Scf.Loop.for k0_t2_loop k0_t2_ok ⟨⟩ (trip i hb buf)

/-- Chunk `c` of the tile's rows of the index array. -/
abbrev chunkOf (ar : Memref sig .scVector .hbm S16384x200 .i32) (c : Fin 16) : Memref sig .scVector .hbm S32x200 .i32 :=
  ar.slice (Rect.unit (s := S16384x200) (k0_off1 i (BitVec.ofNat 32 (32 * c.val))) S32x200.size (k0_off1_inb i c)) (fun _ => rfl)

/-- Chunk `c` sent for, into the staging buffer `buf`. -/
def fetch (ar : Memref sig .scVector .hbm S16384x200 .i32) (buf : Memref sig .scVector .vmem S32x200 .i32) (hw : buf.IsWhole)
    (sem : DmaSems sig S_) (c : Fin 16) : TP (F := F) i PUnit :=
  Prog.lift (.enqueueDma (chunkOf i ar c) (.here buf) (.dma sem.sem) (View.wordExact_bits rfl) hw.wordExact ⟨Or.inl rfl, trivial⟩)

/-- Chunk `c` waited for. -/
def await (ar : Memref sig .scVector .hbm S16384x200 .i32) (buf : Memref sig .scVector .vmem S32x200 .i32) (hw : buf.IsWhole)
    (sem : DmaSems sig S_) (c : Fin 16) : TP (F := F) i PUnit :=
  Prog.lift (.waitDma2 sem.sem (chunkOf i ar c) buf (View.wordExact_bits rfl) hw.wordExact)

/-- The histogram cleared, sixteen bins a trip. -/
def clear (hb : Memref sig .scVector .vmem S100000 .i32) : TP (F := F) i PUnit :=
  Scf.Loop.for k0_t1_loop k0_t1_ok ⟨⟩ fun t _ => do
    let _v ← Prog.lift (.load hb (Rect.unit (s := S100000) (k0_off2 t) S16.size (k0_off2_inb t)).toLoadRect (View.loadsAt_vmem h_S16))
    Prog.lift (.store hb (Rect.unit (s := S100000) (k0_off2 t) S16.size (k0_off2_inb t)) k0_pay2 Finset.univ (View.stores_vmem_bits_univ h_S16 rfl) (.inl rfl))
    pure ⟨⟩

/-- The tile's row of the table of histograms. -/
abbrev rowOfTile (out : Memref sig .scVector .hbm S32x100000 .i32) : Memref sig .scVector .hbm S100000 .i32 :=
  (out.slice (Rect.unit (s := S32x100000) (k0_off211 i) S1x100000.size (k0_off211_inb i)) (fun _ => rfl)).squeeze S100000 squeezes_S1x100000_S100000

/-- The histogram copied to the tile's row, and the copy waited for. -/
def flush (hb : Memref sig .scVector .vmem S100000 .i32) (hw : hb.IsWhole) (out : Memref sig .scVector .hbm S32x100000 .i32)
    (sem : DmaSems sig S_) : TP (F := F) i PUnit := do
  Prog.lift (.enqueueDma hb (.here (rowOfTile i out)) (.dma sem.sem) hw.wordExact ((View.wordExact_bits rfl).reshape _ _) ⟨Or.inl rfl, trivial⟩)
  Prog.lift (.waitDma2 sem.sem hb (rowOfTile i out) hw.wordExact ((View.wordExact_bits rfl).reshape _ _))
  pure ⟨⟩

/-- Chunk `c` counted from `buf`, chunk `c + 2` sent for into the same buffer, and chunk `c + 1` waited for in the other. -/
def stage (ar : Memref sig .scVector .hbm S16384x200 .i32) (hb : Memref sig .scVector .vmem S100000 .i32)
    (buf : Memref sig .scVector .vmem S32x200 .i32) (hw : buf.IsWhole) (sem : DmaSems sig S_)
    (buf' : Memref sig .scVector .vmem S32x200 .i32) (hw' : buf'.IsWhole) (sem' : DmaSems sig S_) (c : Fin 14) : TP (F := F) i PUnit := do
  chunk i hb buf
  fetch i ar buf hw sem ⟨c.val + 2, by omega⟩
  await i ar buf' hw' sem' ⟨c.val + 1, by omega⟩

/-- Two stages, the buffers in turn: chunks `2 j` and `2 j + 1`. -/
def pair (ar : Memref sig .scVector .hbm S16384x200 .i32) (hb : Memref sig .scVector .vmem S100000 .i32)
    (buf : Memref sig .scVector .vmem S32x200 .i32) (hw : buf.IsWhole) (sem : DmaSems sig S_)
    (buf' : Memref sig .scVector .vmem S32x200 .i32) (hw' : buf'.IsWhole) (sem' : DmaSems sig S_) (j : Fin 7) : TP (F := F) i PUnit := do
  stage i ar hb buf hw sem buf' hw' sem' ⟨2 * j.val, by omega⟩
  stage i ar hb buf' hw' sem' buf hw sem ⟨2 * j.val + 1, by omega⟩

end Prog

/-! ## The printed rows are this one -/

section Same

variable (i : grid0.Coords)
variable (a2 : Memref sig .scVector .hbm S16384x200 .i32) (h2 : a2.IsWhole) (a3 : Memref sig .scVector .hbm S32x100000 .i32) (h3 : a3.IsWhole)
variable (a4 : Memref sig .scVector .vmem S100000 .i32) (h4 : a4.IsWhole) (a5 : Memref sig .scVector .vmem S32x200 .i32) (h5 : a5.IsWhole)
variable (a6 : Memref sig .scVector .vmem S32x200 .i32) (h6 : a6.IsWhole) (a7 a8 s0 : DmaSems sig S_)

/-- The kernel: the first two chunks sent for, the histogram cleared, fourteen stages, the last two chunks, the row written. -/
def hist : TP (F := F) i PUnit := do
  fetch i a2 a5 h5 a7 0
  fetch i a2 a6 h6 a8 1
  clear i a4
  await i a2 a5 h5 a7 0
  pair i a2 a4 a5 h5 a7 a6 h6 a8 0
  pair i a2 a4 a5 h5 a7 a6 h6 a8 1
  pair i a2 a4 a5 h5 a7 a6 h6 a8 2
  pair i a2 a4 a5 h5 a7 a6 h6 a8 3
  pair i a2 a4 a5 h5 a7 a6 h6 a8 4
  pair i a2 a4 a5 h5 a7 a6 h6 a8 5
  pair i a2 a4 a5 h5 a7 a6 h6 a8 6
  chunk i a4 a5
  await i a2 a6 h6 a8 15
  chunk i a4 a6
  flush i a4 h4 a3 s0

set_option maxRecDepth 65536 in
/-- The printed kernel is `hist`. -/
theorem hist_eq : cc0_hist_kernel (F := F) i a2 h2 a3 h3 a4 h4 a5 h5 a6 h6 a7 a8 s0 = hist i a2 a3 a4 h4 a5 h5 a6 h6 a7 a8 s0 := by
  rw [cc0_hist_kernel_eq_skeleton]
  simp only [cc0_hist_kernel_skel, k0_part17_eq_skeleton, k0_part18_eq_skeleton, k0_part19_eq_skeleton, k0_part20_eq_skeleton,
    k0_part21_eq_skeleton]
  unfold k0_part17_skel k0_part18_skel k0_part19_skel k0_part20_skel k0_part21_skel hist pair stage
  simp only [bind_assoc, pure_bind]
  rfl

end Same

end Cert.Proof.Hist

end
-- ==== Proof.Count.lean ====
/-
  The mathematics of the counting: what one scatter of ones adds to a histogram, and what a row, a chunk and a tile add.

  A histogram's words are `words n` for natural counts `n`. The scatter of a group of sixteen indices adds `laneHits`
  to them (`storeIdx_words`); a row's thirteen groups add the number of the row's two hundred entries that name the bin
  (`row_hits`).
-/
module

public import proofs.«01_k».proof.Proof.Program
public import Idealize.ShloMosaic.Lib.ValueLayout

@[expose] public section

noncomputable section

namespace Cert.Proof.Hist

open Cert.KernelIdeal Cert.KernelIdeal.Gen
open Idealize.ShloMosaic Idealize.ShloMosaic.ValueIdx

variable {F : FTy → Type} [FloatOps F]

/-- The words of a histogram whose bin `v` holds the count `n v`. -/
def words (n : ℕ → ℕ) : Vec F S100000 .i32 := fun x => BitVec.ofNat 32 (n (x 0).val)

/-- How many of a group's sixteen lanes, of those the mask admits, name bin `v`. -/
def laneHits (w : IVec S16 32) (msk : IVec S16 1) (v : ℕ) : ℕ :=
  ∑ k : Fin 16, if msk (ix1 k) = 1 ∧ (w (ix1 k)).toNat = v then 1 else 0

theorem ofLane_eq (k : Fin 16) : (Shape.ofLane (d := ![16]) k : S16.Idx) = ix1 k := by
  funext a
  match a with
  | ⟨0, _⟩ => rfl

/-- One lane of a scatter that adds: the lane's element added at the place the lane names, where the mask admits the lane. -/
def addLane {s : Shape} {e : EltTy} {d : Fin 1 → Nat} (idxs : Fin s.rank → IVec ⟨1, d⟩ 32) (v : Vec F ⟨1, d⟩ e) (mask : IVec ⟨1, d⟩ 1)
    (h : ∀ a x, (idxs a x).toNat < s.size a) (g : Vec F s e) (k : Fin (d 0)) : Vec F s e :=
  if mask (Shape.ofLane k) = 1 then fun j =>
    if (∀ a, (j a).val = (idxAt idxs h (Shape.ofLane k) a).val) then Elt.idxAdd e (g (idxAt idxs h (Shape.ofLane k))) (v (Shape.ofLane k)) else g j
  else g

/-- The scatter takes its lanes in order. -/
theorem storeIdx_eq_foldl {s : Shape} {e : EltTy} {d : Fin 1 → Nat} (f : Vec F s e) (idxs : Fin s.rank → IVec ⟨1, d⟩ 32) (v : Vec F ⟨1, d⟩ e)
    (mask : IVec ⟨1, d⟩ 1) (h : ∀ a x, (idxs a x).toNat < s.size a) :
    storeIdx f idxs v mask true h = (List.finRange (d 0)).foldl (addLane idxs v mask h) f := by
  unfold storeIdx
  congr 1
  funext g k
  unfold addLane
  by_cases hm : mask (Shape.ofLane k) = 1
  · simp only [if_pos hm, if_true]
  · simp only [if_neg hm]

/-- A lane of a group of ones added to a histogram. -/
theorem addLane_words (n : ℕ → ℕ) (w : IVec S16 32) (msk : IVec S16 1)
    (h : ∀ a x, ((![w] : Fin 1 → IVec S16 32) a x).toNat < S100000.size a) (k : Fin 16) :
    addLane (F := F) (s := S100000) (e := .i32) (d := ![16]) ![w] k0_pay1 msk h (words n) k = words fun v => n v + if msk (ix1 k) = 1 ∧ (w (ix1 k)).toNat = v then 1 else 0 := by
  unfold addLane
  rw [ofLane_eq]
  by_cases hm : msk (ix1 k) = 1
  · rw [if_pos hm]
    funext j
    have hj : (∀ a, (j a).val = ((idxAt ![w] h (ix1 k) : S100000.Idx) a).val) ↔ (w (ix1 k)).toNat = (j 0).val := by
      constructor
      · intro H; exact (H 0).symm
      · intro H a
        match a with
        | ⟨0, _⟩ => exact H.symm
    by_cases hb : (w (ix1 k)).toNat = (j 0).val
    · rw [if_pos (hj.mpr hb)]
      show IntOp.addi (BitVec.ofNat 32 (n (w (ix1 k)).toNat)) (1#32) = BitVec.ofNat 32 (n (j 0).val + if msk (ix1 k) = 1 ∧ (w (ix1 k)).toNat = (j 0).val then 1 else 0)
      rw [if_pos ⟨hm, hb⟩, hb, BitVec.ofNat_add]
      rfl
    · rw [if_neg (fun H => hb (hj.mp H))]
      show _ = BitVec.ofNat 32 (n (j 0).val + if msk (ix1 k) = 1 ∧ (w (ix1 k)).toNat = (j 0).val then 1 else 0)
      rw [if_neg (fun H => hb H.2), add_zero]
      rfl
  · rw [if_neg hm]
    congr 1
    funext v
    rw [if_neg (fun H => hm H.1), add_zero]

theorem foldl_words (w : IVec S16 32) (msk : IVec S16 1) (h : ∀ a x, ((![w] : Fin 1 → IVec S16 32) a x).toNat < S100000.size a)
    (L : List (Fin ((![16] : Fin 1 → Nat) 0))) : ∀ n : ℕ → ℕ, L.foldl (addLane (F := F) (s := S100000) (e := .i32) (d := ![16]) ![w] k0_pay1 msk h) (words n)
      = words fun v => n v + (L.map fun (k : Fin 16) => if msk (ix1 k) = 1 ∧ (w (ix1 k)).toNat = v then 1 else 0).sum := by
  induction L with
  | nil => intro n; rfl
  | cons k L ih =>
    intro n
    rw [List.foldl_cons]
    refine (congrArg (fun g => List.foldl _ g L) (addLane_words n w msk h k)).trans ((ih _).trans (congrArg words (funext fun v => ?_)))
    exact add_assoc _ _ _

/-- Scattering ones at a group's indices adds the lanes' hits to every bin. -/
theorem storeIdx_words (n : ℕ → ℕ) (w : IVec S16 32) (msk : IVec S16 1)
    (h : ∀ a x, ((![w] : Fin 1 → IVec S16 32) a x).toNat < S100000.size a) :
    storeIdx (F := F) (words n) ![w] k0_pay1 msk true h = words (fun v => n v + laneHits w msk v) := by
  rw [storeIdx_eq_foldl]
  refine (foldl_words w msk h (List.finRange 16) n).trans ?_
  exact congrArg words (funext fun v => congrArg (n v + ·) (Fin.sum_univ_def _).symm)

/-! ## A row -/

/-- The lanes of group `g` of a row whose entries are `r`, those the mask admits. -/
def groupSum (r : ℕ → ℕ) (g : Fin 13 × IVec S16 1) : ℕ :=
  ∑ k : Fin 16, if g.2 (ix1 k) = 1 then r ((colW g.1).toNat + k.val) else 0

/-- The last group's mask admits its upper eight lanes. -/
theorem upper_mask : ∀ k : Fin 16, k0_pay3 (ix1 k) = 1 ↔ 8 ≤ k.val := by decide

theorem block_sum (r : ℕ → ℕ) (a : ℕ) : ∑ c ∈ Finset.range (a + 16), r c = ∑ c ∈ Finset.range a, r c + ∑ k : Fin 16, r (a + k.val) := by
  rw [Finset.sum_range_add, Finset.sum_range (fun k => r (a + k))]

/-- The thirteen groups, with their masks, take each of the row's two hundred columns once. -/
theorem groups_sum (r : ℕ → ℕ) : (groups.map (groupSum r)).sum = ∑ c ∈ Finset.range 200, r c := by
  have hf (g : Fin 13) : groupSum r (g, fun _ => 1#1) = ∑ k : Fin 16, r ((colW g).toNat + k.val) :=
    Finset.sum_congr rfl fun k _ => if_pos rfl
  have hl : groupSum r (12, k0_pay3) = ∑ k : Fin 8, r (192 + k.val) := by
    unfold groupSum
    simp only [upper_mask]
    simp only [Fin.sum_univ_succ, Fin.val_zero, Fin.val_succ]
    simp [colW]
  have h200 : ∑ c ∈ Finset.range 200, r c = ∑ c ∈ Finset.range 192, r c + ∑ k : Fin 8, r (192 + k.val) := by
    rw [show 200 = 192 + 8 from rfl, Finset.sum_range_add, Finset.sum_range (fun k => r (192 + k))]
  rw [h200, block_sum r 176, block_sum r 160, block_sum r 144, block_sum r 128, block_sum r 112, block_sum r 96, block_sum r 80, block_sum r 64,
    block_sum r 48, block_sum r 32, block_sum r 16, block_sum r 0, Finset.sum_range_zero]
  simp only [groups, List.map_cons, List.map_nil, List.sum_cons, List.sum_nil, hf, hl]
  simp only [show (colW 0).toNat = 0 from rfl, show (colW 1).toNat = 16 from rfl, show (colW 2).toNat = 32 from rfl, show (colW 3).toNat = 48 from rfl,
    show (colW 4).toNat = 64 from rfl, show (colW 5).toNat = 80 from rfl, show (colW 6).toNat = 96 from rfl, show (colW 7).toNat = 112 from rfl,
    show (colW 8).toNat = 128 from rfl, show (colW 9).toNat = 144 from rfl, show (colW 10).toNat = 160 from rfl, show (colW 11).toNat = 176 from rfl]
  simp only [zero_add, add_zero, add_assoc]

/-! ## Rows of the index array -/

/-- How many of row `r`'s two hundred entries name bin `v` (none past the last row). -/
def rowHits (X : IVec S16384x200 32) (r v : ℕ) : ℕ :=
  if h : r < 16384 then ∑ c : Fin 200, if (X (ix2 ⟨r, h⟩ c)).toNat = v then 1 else 0 else 0

/-- How many entries of the `n` rows from `b` name bin `v`. -/
def cnt (X : IVec S16384x200 32) (b n v : ℕ) : ℕ := ∑ r ∈ Finset.range n, rowHits X (b + r) v

theorem cnt_zero (X : IVec S16384x200 32) (b v : ℕ) : cnt X b 0 v = 0 := rfl

theorem cnt_succ (X : IVec S16384x200 32) (b n v : ℕ) : cnt X b (n + 1) v = cnt X b n v + rowHits X (b + n) v :=
  Finset.sum_range_succ _ _

theorem cnt_add (X : IVec S16384x200 32) (b n k v : ℕ) : cnt X b (n + k) v = cnt X b n v + cnt X (b + n) k v := by
  unfold cnt
  rw [Finset.sum_range_add]
  simp only [add_assoc]

end Cert.Proof.Hist

end
-- ==== Proof.Setup.lean ====
/-
  The program as the launch theorem sees it, the resource algebra of the proof, and the buffers it speaks of.
-/
module

public import proofs.«01_k».proof.Proof.Program
public import proofs.«01_k».proof.Proof.Count
public import proofs.«01_k».proof.Proof.Gen.KernelIdeal.Launch
public import Idealize.ShloMosaic.Lib.SparseCore.Quiescent
public import Idealize.ShloMosaic.Lib.StableHlo.Run
public import Idealize.ShloMosaic.Lib.Pipeline.Kit
public import Idealize.ShloMosaic.Lib.Tactic

@[expose] public section

noncomputable section

namespace Cert.Proof.Hist

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch's semaphores are pairwise what the launch theorem asks of them. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds library, the pipeline's, and the transfers' counters -/

abbrev UH : Type := URounds (GSem nD τ sig) ℕ
abbrev UP : Type := UR sig nD τ
abbrev UU : Type := UH × (UP × Counters)

local notation "𝕄" => MT nD τ sig (HIx 1) (Elt F) ℕ UU ℕ

/-- The handshakes' rounds library, the left factor; the transfers' counters are found by instance in the last. -/
abbrev EH : Emb UH (MT nD τ sig (HIx 1) (Elt F) ℕ UU ℕ) := embL

/-- The pipeline's rounds library, the middle factor. -/
def EP : Emb UP (MT nD τ sig (HIx 1) (Elt F) ℕ UU ℕ) := (Emb.inl : Emb UP (UP × Counters)).trans embR

instance EP_landsIn : (EP (F := F)).LandsIn (upEmb : UEmb _ 𝕄) := by unfold EP; infer_instance

end Cert.Proof.Hist

end
-- ==== Proof.Tile.lean ====
/-
  The histogram kernel on one vector subcore: what each of its steps does to the buffers it holds.
-/
module

public import proofs.«01_k».proof.Proof.Setup

@[expose] public section

noncomputable section

namespace Cert.Proof.Hist

open Cert.KernelIdeal Cert.KernelIdeal.Gen
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

section Tile

variable (d : Dev nD) (i : grid0.Coords)

/-- The vector subcore at grid point `i`. -/
abbrev thr : Thread nD τ := V d ((i 0).castLE hcore0) ((i 1).castLE hsub0)

/-- The weakest precondition of a tile's program. -/
abbrev twp {α : Type} (p : TP (F := F) i α) (Q : α → sProp 𝕄) : sProp 𝕄 :=
  wp frame (wpE (defs₀ (F := F)) 𝒱₀ (thr d i) none) Set.univ p Q

/-- A buffer held whole, reading `B`. -/
def Has {sp : Space} {s : Shape} {e : EltTy} (b : Memref sig .scVector sp s e) (B : Vec F s e) : sProp 𝕄 :=
  iprop(∃ f, (b.view.loc (thr d i) ↦{fullShare} f) ∗ ⌜b.view.read (Elt F) f = B⌝)

/-- Whether column `col` of row `t` of a chunk names bin `v`. -/
def hitAt (B : IVec S32x200 32) (t : Fin 32) (v col : ℕ) : ℕ :=
  if h : col < 200 then (if (B (ix2 t ⟨col, h⟩)).toNat = v then 1 else 0) else 0

theorem trips2 : k0_t2_loop.trips = 32 := by decide
theorem trips1 : k0_t1_loop.trips = 6250 := by decide +kernel

/-- All of a chunk's indices are bins. -/
def ChunkOK (B : IVec S32x200 32) : Prop := ∀ x, (B x).toNat < 100000

/-- The sixteen indices a group loads. -/
def loaded (B : IVec S32x200 32) (t : Fin k0_t2_loop.trips) (g : Fin 13) : IVec S16 32 :=
  shapeCast S16 (fun x => B ((Rect.unit (s := S32x200) (grpOff t g) S1x16.size (grpOff_inb t g)).toLoadRect.idx x) : IVec S1x16 32) shapeCasts_S1x16_S16

theorem colW_lt : ∀ (g : Fin 13) (k : Fin 16), (colW g).toNat + k.val < 200 := by decide

theorem loaded_apply (B : IVec S32x200 32) (t : Fin k0_t2_loop.trips) (g : Fin 13) (k : Fin 16) :
    loaded B t g (ix1 k) = B (ix2 (Fin.cast trips2 t) ⟨(colW g).toNat + k.val, colW_lt g k⟩) := by
  unfold loaded
  refine (shapeCast_1a_a_apply _ _ k).trans (congrArg B ?_)
  funext a
  apply Fin.ext
  rw [LoadRect.idx_apply]
  have h := congrFun (grpOff_eq t g)
  match a with
  | 0 => show grpOff t g 0 + 1 * _ = _; rw [h 0]; show t.val + 1 * 0 = t.val; omega
  | 1 => show grpOff t g 1 + 1 * _ = _; rw [h 1]; show (colW g).toNat + 1 * k.val = (colW g).toNat + k.val; omega

theorem loaded_inBins {B : IVec S32x200 32} (h : ChunkOK B) (t : Fin k0_t2_loop.trips) (g : Fin 13) : InBins (loaded B t g) := by
  intro a x
  obtain rfl : a = 0 := Subsingleton.elim _ _
  exact h _

theorem laneHits_loaded (B : IVec S32x200 32) (t : Fin k0_t2_loop.trips) (g : Fin 13 × IVec S16 1) (v : ℕ) :
    laneHits (loaded B t g.1) g.2 v = groupSum (hitAt B (Fin.cast trips2 t) v) g := by
  unfold laneHits groupSum
  refine Finset.sum_congr rfl fun k _ => ?_
  rw [loaded_apply]
  by_cases hm : g.2 (ix1 k) = 1
  · rw [if_pos hm]; unfold hitAt; rw [dif_pos (colW_lt g.1 k)]
    simp only [hm, true_and]
  · rw [if_neg hm, if_neg fun h => hm h.1]

/-- Read through its whole rectangle, a view reads what it reads. -/
theorem read_whole_rect {sp : Space} {s : Shape} {e : EltTy} (b : Memref sig .scVector sp s e) (f : b.view.ty.Contents (Elt F)) :
    (b.access (Rect.whole s)).read (Elt F) f = b.view.read (Elt F) f := by
  funext x
  show b.view.read (Elt F) f ((Rect.whole s).emb x) = b.view.read (Elt F) f x
  rw [Rect.emb_whole_apply]

/-- Written through its whole rectangle, a view reads the payload. -/
theorem read_write_whole_rect {sp : Space} {s : Shape} {e : EltTy} (b : Memref sig .scVector sp s e) (f : b.view.ty.Contents (Elt F)) (w : Vec F s e) :
    b.view.read (Elt F) ((b.access (Rect.whole s)).write (Elt F) f w Finset.univ) = w := by
  rw [← read_whole_rect]; exact View.read_write_univ (v := b.access (Rect.whole s)) f w

/-- One group adds its masked indices to the histogram. -/
theorem scat_wp (hb : Memref sig .scVector .vmem S100000 .i32) (buf : Memref sig .scVector .vmem S32x200 .i32)
    {B : IVec S32x200 32} (hB : ChunkOK B) (n : ℕ → ℕ) (t : Fin k0_t2_loop.trips) (g : Fin 13 × IVec S16 1) {Q : PUnit → sProp 𝕄} :
    iprop(Has (F := F) d i hb (words n) ∗ Has (F := F) d i buf B)
      ⊢ iprop((Has (F := F) d i hb (words fun v => n v + groupSum (hitAt B (Fin.cast trips2 t) v) g) ∗ Has (F := F) d i buf B -∗ Q ⟨⟩)
          -∗ twp (F := F) d i (scat i hb buf g.2 t g.1) Q) := by
  unfold Has scat
  simp only [Prog.lift, Prog.bind_op, Prog.bind_ret, Prog.pure_eq_ret]
  iintro ⟨⟨%f, Hh, %hf⟩, ⟨%fb, Hb, %hfb⟩⟩ HQ
  iapply (wp_load 𝒱₀ (thr d i) none Set.univ (m := buf) (S := Finset.univ) (Finset.subset_univ _)) $$ Hb; iintro Hb
  have hw : shapeCast S16 (buf.view.readAt (Elt F) (Rect.unit (s := S32x200) (grpOff t g.1) S1x16.size (grpOff_inb t g.1)).toLoadRect fb) shapeCasts_S1x16_S16
      = loaded B t g.1 := by subst hfb; rfl
  rw [hw, wp_assume_of _ _ _ _ (loaded_inBins hB t g.1)]
  unfold SparseCore.vectorStoreIdx
  iapply (wp_load 𝒱₀ (thr d i) none Set.univ (m := hb) (S := Finset.univ) (Finset.subset_univ _)) $$ Hh; iintro Hh
  iapply (wp_store 𝒱₀ (thr d i) none Set.univ (m := hb) (r := Rect.whole _) (Mk := Finset.univ) (S := Finset.univ) (Finset.subset_univ _)) $$ Hh; iintro Hh
  rw [wp_ret]; imodintro
  iapply HQ
  isplitl [Hh]
  · iexists _; isplitl [Hh]; · iexact Hh
    ipureintro
    have hr : hb.view.readAt (Elt F) (LoadRect.whole S100000) f = words n := (read_whole_rect hb f).trans hf
    refine (read_write_whole_rect hb f _).trans ((congrArg (fun q : Vec F S100000 .i32 =>
      storeIdx q ![loaded B t g.1] k0_pay1 g.2 true (loaded_inBins hB t g.1)) hr).trans ((storeIdx_words _ _ _ _).trans ?_))
    simp only [laneHits_loaded]
  · iexists fb; isplitl [Hb]; · iexact Hb
    ipureintro; exact hfb

/-- A run of groups adds what each adds. -/
theorem scats_wp (hb : Memref sig .scVector .vmem S100000 .i32) (buf : Memref sig .scVector .vmem S32x200 .i32)
    {B : IVec S32x200 32} (hB : ChunkOK B) (t : Fin k0_t2_loop.trips) (gs : List (Fin 13 × IVec S16 1)) {Q : PUnit → sProp 𝕄} :
    ∀ n : ℕ → ℕ, iprop(Has (F := F) d i hb (words n) ∗ Has (F := F) d i buf B)
      ⊢ iprop((Has (F := F) d i hb (words fun v => n v + (gs.map (groupSum (hitAt B (Fin.cast trips2 t) v))).sum) ∗ Has (F := F) d i buf B -∗ Q ⟨⟩)
          -∗ twp (F := F) d i (scats i hb buf t gs) Q) := by
  induction gs with
  | nil =>
    intro n
    unfold scats
    simp only [List.map_nil, List.sum_nil, Nat.add_zero]
    iintro H HQ
    rw [twp, wp_ret]; imodintro
    iapply HQ; iexact H
  | cons g gs ih =>
    intro n
    unfold scats
    rw [twp, wp_bind]
    iintro H HQ
    iapply (scat_wp d i hb buf hB n t g) $$ H; iintro H
    iapply (ih _) $$ H; iintro H
    iapply HQ
    simp only [List.map_cons, List.sum_cons, Nat.add_assoc]
    iexact H

/-- The hits of a chunk's first `k` rows on bin `v`. -/
def chunkHits (B : IVec S32x200 32) (k v : ℕ) : ℕ :=
  ∑ r ∈ Finset.range k, if h : r < 32 then ∑ c ∈ Finset.range 200, hitAt B ⟨r, h⟩ v c else 0

/-- One chunk adds its rows' hits. -/
theorem chunk_wp (hb : Memref sig .scVector .vmem S100000 .i32) (buf : Memref sig .scVector .vmem S32x200 .i32)
    {B : IVec S32x200 32} (hB : ChunkOK B) (n : ℕ → ℕ) {Q : PUnit → sProp 𝕄} :
    iprop(Has (F := F) d i hb (words n) ∗ Has (F := F) d i buf B)
      ⊢ iprop((Has (F := F) d i hb (words fun v => n v + chunkHits B 32 v) ∗ Has (F := F) d i buf B -∗ Q ⟨⟩)
          -∗ twp (F := F) d i (chunk i hb buf) Q) := by
  unfold chunk
  iintro H HQ
  iapply (Scf.wp_for frame (wpE (defs₀ (F := F)) 𝒱₀ (thr d i) none) Set.univ _ _ _ k0_t2_ok PUnit.unit (trip i hb buf)
    (fun k _ => iprop(Has (F := F) d i hb (words fun v => n v + chunkHits B k v) ∗ Has (F := F) d i buf B)) ?hstep)
  case hstep =>
    intro k acc
    unfold trip
    iintro H
    iapply (scats_wp d i hb buf hB k groups fun v => n v + chunkHits B k.val v) $$ H; iintro H
    simp only [groups_sum, Nat.add_assoc]
    have hk : k.val < 32 := Nat.lt_of_lt_of_eq k.isLt trips2
    have hstep : ∀ v, chunkHits B (k.val + 1) v = chunkHits B k.val v + ∑ c ∈ Finset.range 200, hitAt B (Fin.cast trips2 k) v c := fun v => by
      unfold chunkHits; rw [Finset.sum_range_succ, dif_pos hk]; rfl
    simp only [hstep]
    iexact H
  isplitl [H]
  · simp only [chunkHits, Finset.range_zero, Finset.sum_empty, Nat.add_zero]
    iexact H
  · iintro %acc H
    iapply HQ
    have ht : Scf.trips k0_t2_loop.lb k0_t2_loop.ub k0_t2_loop.st = 32 := trips2
    rw [ht]
    iexact H

/-- The bins below `16 k` read zero. -/
def ZeroTo (B : Vec F S100000 .i32) (k : ℕ) : Prop := ∀ x, (x 0).val < 16 * k → B x = (0#32 : BitVec 32)

/-- The histogram cleared, whatever it held. -/
theorem clear_wp (hb : Memref sig .scVector .vmem S100000 .i32) {Q : PUnit → sProp 𝕄} :
    (iprop(∃ f, hb.view.loc (thr d i) ↦{fullShare} f) : sProp 𝕄)
      ⊢ iprop((Has (F := F) d i hb (words fun _ => 0) -∗ Q ⟨⟩) -∗ twp (F := F) d i (clear i hb) Q) := by
  unfold clear
  simp only [Prog.lift, Prog.bind_op, Prog.bind_ret, Prog.pure_eq_ret]
  iintro ⟨%f₀, H⟩ HQ
  iapply (Scf.wp_for frame (wpE (defs₀ (F := F)) 𝒱₀ (thr d i) none) Set.univ _ _ _ k0_t1_ok PUnit.unit _
    (fun k _ => iprop(∃ f, (hb.view.loc (thr d i) ↦{fullShare} f) ∗ ⌜ZeroTo (F := F) (hb.view.read (Elt F) f) k⌝)) ?hstep)
  case hstep =>
    intro k acc
    iintro ⟨%f, H, %hf⟩
    iapply (wp_load 𝒱₀ (thr d i) none Set.univ (m := hb) (S := Finset.univ) (Finset.subset_univ _)) $$ H; iintro H
    iapply (wp_store 𝒱₀ (thr d i) none Set.univ (m := hb) (r := Rect.unit (s := S100000) (k0_off2 k) S16.size (k0_off2_inb k)) (Mk := Finset.univ) (S := Finset.univ) (Finset.subset_univ _)) $$ H; iintro H
    rw [wp_ret]; imodintro
    iexists _; isplitl [H]; · iexact H
    ipureintro
    intro x hx
    have hk : k.val < 6250 := Nat.lt_of_lt_of_eq k.isLt trips1
    by_cases hlt : (x 0).val < 16 * k.val
    · refine (View.read_slice_write_of_not_mem _ _ _ _ ?_).trans (hf x hlt)
      rintro hm
      obtain ⟨y, -, hy⟩ := Finset.mem_map.mp hm
      have h0 := congrArg (fun z : S100000.Idx => (z 0).val) hy
      have h1 : ((Rect.unit (s := S100000) (k0_off2 k) S16.size (k0_off2_inb k)).emb y 0).val = 16 * k.val + (y 0).val := by
        show k0_off2 k 0 + 1 * (y 0).val = _
        rw [congrFun (k0_off2_eq k) 0, Nat.one_mul]; rfl
      simp only [h1] at h0
      omega
    · have hy : (x 0).val - 16 * k.val < 16 := by omega
      have hx' : x = (Rect.unit (s := S100000) (k0_off2 k) S16.size (k0_off2_inb k)).emb (ix1 ⟨(x 0).val - 16 * k.val, hy⟩) := by
        funext a
        obtain rfl : a = 0 := Subsingleton.elim _ _
        apply Fin.ext
        show (x 0).val = k0_off2 k 0 + 1 * ((x 0).val - 16 * k.val)
        rw [k0_off2_eq, Nat.one_mul]
        show _ = 16 * k.val + _
        omega
      rw [hx']
      exact (View.read_slice_write_emb _ _ _ (Finset.mem_univ _)).trans rfl
  isplitl [H]
  · iexists f₀; isplitl [H]; · iexact H
    ipureintro; intro x hx; omega
  · iintro %acc ⟨%f, H, %hf⟩
    iapply HQ
    unfold Has
    iexists f; isplitl [H]; · iexact H
    ipureintro
    have ht : Scf.trips k0_t1_loop.lb k0_t1_loop.ub k0_t1_loop.st = 6250 := trips1
    rw [ht] at hf
    funext x
    exact hf x (by have : (x 0).val < 100000 := (x 0).isLt; omega)

/-! ### Chunks fetched and waited for -/

/-- The first row of the index array the tile counts. -/
def base : ℕ := 1024 * (i 1).val + 512 * (i 0).val

theorem base_lt : base i + 512 ≤ 16384 := by
  have h0 : (i 0).val < 2 := (i 0).isLt
  have h1 : (i 1).val < 16 := (i 1).isLt
  unfold base; omega

/-- Chunk `c` of the index array `X`. -/
def chunkX (X : IVec S16384x200 32) (c : Fin 16) : IVec S32x200 32 :=
  fun x => X (ix2 ⟨base i + 32 * c.val + (x 0).val, by have := base_lt i; have h : (x 0).val < 32 := (x 0).isLt; omega⟩ (x 1))

/-- Read through its slice, the index array gives the chunk. -/
theorem read_chunkOf (ar : Memref sig .scVector .hbm S16384x200 .i32) (fX : ar.view.ty.Contents (Elt F)) (c : Fin 16) :
    (chunkOf i ar c).view.read (Elt F) fX = chunkX i (ar.view.read (Elt F) fX) c := by
  funext x
  show ar.view.read (Elt F) fX ((Rect.unit (s := S16384x200) (k0_off1 i (BitVec.ofNat 32 (32 * c.val))) S32x200.size (k0_off1_inb i c)).emb x) = _
  unfold chunkX
  refine congrArg (ar.view.read (Elt F) fX) ?_
  funext a
  apply Fin.ext
  have h := congrFun (k0_off1_eq i c)
  match a with
  | 0 => show k0_off1 i (BitVec.ofNat 32 (32 * c.val)) 0 + 1 * _ = _
         rw [h 0, Nat.one_mul]; rfl
  | 1 => show k0_off1 i (BitVec.ofNat 32 (32 * c.val)) 1 + 1 * _ = _
         rw [h 1, Nat.one_mul]; show 0 + _ = _; rw [Nat.zero_add]

/-- A whole chunk's hits are its rows' of the index array. -/
theorem chunkHits_chunkX (X : IVec S16384x200 32) (c : Fin 16) (v : ℕ) :
    chunkHits (chunkX i X c) 32 v = cnt X (base i + 32 * c.val) 32 v := by
  unfold chunkHits cnt
  refine Finset.sum_congr rfl fun r hr => ?_
  have hr' : r < 32 := Finset.mem_range.mp hr
  have hb : base i + 32 * c.val + r < 16384 := by have := base_lt i; omega
  rw [dif_pos hr', rowHits, dif_pos hb, Finset.sum_range]
  refine Finset.sum_congr rfl fun col _ => ?_
  rw [hitAt, dif_pos col.isLt]
  rfl

section Moves

variable (ar : Memref sig .scVector .hbm S16384x200 .i32) (fX : Buf (Elt F) (ar.view.loc (thr d i)))
variable (O : CellTallies nD τ sig (HIx 1)) (W : Waits sig (HIx 1))

/-- What the tile owes, its own waits beside those it came with. -/
def Ow : sProp 𝕄 := iprop(∃ W', ⌜∀ p ∈ W', p ∈ W ∨ p.2 = none⌝ ∗ owes (thr d i) O W')

/-- The tile's share `q` of the index array. -/
abbrev Src (q : PosShare TreeShare) : sProp 𝕄 := ar.view.loc (thr d i) ↦{q} fX

/-- The index array as its reader sees it. -/
abbrev X : IVec S16384x200 32 := ar.view.read (Elt F) fX

/-- Chunk `c` on its way into `buf`, the rest of the share of the index array kept. -/
def Sent (buf : Memref sig .scVector .vmem S32x200 .i32) (sem : DmaSems sig S_) (q : PosShare TreeShare) (c : Fin 16) : sProp 𝕄 :=
  iprop(Transfers.Flight countersEmb (thr d i) (.dma sem.sem) none buf.view.dmaCredit
      iprop(Has (F := F) d i buf (chunkX i (X d i ar fX) c) ∗ (ar.view.loc (thr d i) ↦[(chunkOf i ar c).view.set]{q} fX))
    ∗ (ar.view.loc (thr d i) ↦[Finset.univ \ (chunkOf i ar c).view.set]{q} fX))

/-- Chunk `c` sent for. -/
theorem fetch_wp (buf : Memref sig .scVector .vmem S32x200 .i32) (hw : buf.IsWhole) (sem : DmaSems sig S_) (q : PosShare TreeShare) (c : Fin 16)
    {Q : PUnit → sProp 𝕄} :
    iprop((∃ f, buf.view.loc (thr d i) ↦{fullShare} f) ∗ Src d i ar fX q ∗ semVal (thr d i, .dma sem.sem) 0)
      ⊢ iprop((Sent d i ar fX buf sem q c -∗ Q ⟨⟩) -∗ twp (F := F) d i (fetch i ar buf hw sem c) Q) := by
  unfold fetch Sent
  simp only [Prog.lift]
  iintro ⟨⟨%f, Hb⟩, Hs, Hv⟩ HQ
  ihave Hs' := (pointsTo_split_subset (Finset.subset_univ (chunkOf i ar c).view.set)).1 $$ Hs
  icases Hs' with ⟨Hs, Hrest⟩
  iapply (Transfers.wp_dmaLocal countersEmb 𝒱₀ (thr d i) none (src := chunkOf i ar c) (dst := buf) (Sd := Finset.univ) (q := q) (fs := fX) (fd := f) none buf.view.dmaCredit rfl
    (View.dmaCredit_pos _ (by decide)) (Finset.subset_univ _)) $$ [Hs Hb Hv]
  · isplitl [Hs]; · iexact Hs
    isplitl [Hb]; · iexact Hb
    iexact Hv
  iintro HF
  rw [wp_ret]; imodintro
  iapply HQ
  isplitl [HF]
  · iapply (Transfers.Flight_mono countersEmb (thr d i) ?hm) $$ HF
    case hm =>
      iintro ⟨Hd, Hs⟩
      isplitl [Hd]
      · unfold Has
        iexists _; isplitl [Hd]; · iexact Hd
        ipureintro
        exact (View.read_write_univ (v := buf.view) f _).trans (read_chunkOf i ar fX c)
      · iexact Hs
  · iexact Hrest

/-- Chunk `c` waited for. -/
theorem await_wp (hO : ∀ g, O g none = 0) (buf : Memref sig .scVector .vmem S32x200 .i32) (hw : buf.IsWhole) (sem : DmaSems sig S_) (q : PosShare TreeShare)
    (c : Fin 16) {Q : PUnit → sProp 𝕄} :
    iprop(levAts (K (F := F)).L (K (F := F)).lev ∗ Sent d i ar fX buf sem q c ∗ Ow (F := F) d i O W)
      ⊢ iprop((Has (F := F) d i buf (chunkX i (X d i ar fX) c) ∗ Src d i ar fX q ∗ semVal (thr d i, .dma sem.sem) 0 ∗ Ow (F := F) d i O W -∗ Q ⟨⟩)
          -∗ twp (F := F) d i (await i ar buf hw sem c) Q) := by
  unfold await Sent Ow
  simp only [Prog.lift]
  iintro ⟨#Hlv, ⟨HF, Hrest⟩, %W', %hW', HO⟩ HQ
  iapply (Transfers.wp_waitLocalO countersEmb 𝒱₀ (thr d i) none none rfl (O := O) (W := W')) $$ [HF HO]
  · isplitl [HF]; · iexact HF
    isplitl [HO]; · iexact HO
    iapply ((K (F := F)).mayWait_none (SemLoc.dma sem.sem) hO); iexact Hlv
  iintro ⟨⟨Hb, Hs⟩, Hv, HO⟩
  rw [wp_ret]; imodintro
  iapply HQ
  isplitl [Hb]; · iexact Hb
  isplitl [Hs Hrest]
  · iapply (pointsTo_split_subset (Finset.subset_univ (chunkOf i ar c).view.set)).2
    isplitl [Hs] <;> iassumption
  isplitl [Hv]; · iexact Hv
  iexists _; isplitr
  rotate_left
  · iexact HO
  · ipureintro
    intro p hp
    rcases Finset.mem_insert.mp hp with rfl | hp
    · exact .inr rfl
    · exact hW' p hp

/-- All of the index array's entries are bins. -/
def AllBins (A : IVec S16384x200 32) : Prop := ∀ x, (A x).toNat < 100000

theorem chunkOK {A : IVec S16384x200 32} (h : AllBins A) (c : Fin 16) : ChunkOK (chunkX i A c) := fun _ => h _

/-- Between stages: the histogram counts the chunks before `c`, chunk `c` lies in `buf`, and chunk `c + 1` is on its way
    into `buf'`. -/
def Mid (hb : Memref sig .scVector .vmem S100000 .i32) (buf : Memref sig .scVector .vmem S32x200 .i32) (sem : DmaSems sig S_) (q : PosShare TreeShare)
    (buf' : Memref sig .scVector .vmem S32x200 .i32) (sem' : DmaSems sig S_) (q' : PosShare TreeShare) (c : Fin 15) : sProp 𝕄 :=
  iprop(Has (F := F) d i hb (words (cnt (X d i ar fX) (base i) (32 * c.val)))
    ∗ (Has (F := F) d i buf (chunkX i (X d i ar fX) c.castSucc) ∗ Src d i ar fX q ∗ semVal (thr d i, .dma sem.sem) 0)
    ∗ Sent d i ar fX buf' sem' q' c.succ ∗ Ow (F := F) d i O W)

/-- A chunk counted. -/
theorem count_wp (hX : AllBins (X d i ar fX)) (hb : Memref sig .scVector .vmem S100000 .i32) (buf : Memref sig .scVector .vmem S32x200 .i32) (c : Fin 16)
    {Q : PUnit → sProp 𝕄} :
    iprop(Has (F := F) d i hb (words (cnt (X d i ar fX) (base i) (32 * c.val))) ∗ Has (F := F) d i buf (chunkX i (X d i ar fX) c))
      ⊢ iprop((Has (F := F) d i hb (words (cnt (X d i ar fX) (base i) (32 * (c.val + 1)))) ∗ Has (F := F) d i buf (chunkX i (X d i ar fX) c) -∗ Q ⟨⟩)
          -∗ twp (F := F) d i (chunk i hb buf) Q) := by
  have h : cnt (X d i ar fX) (base i) (32 * (c.val + 1))
      = fun v => cnt (X d i ar fX) (base i) (32 * c.val) v + chunkHits (chunkX i (X d i ar fX) c) 32 v := by
    funext v
    rw [chunkHits_chunkX, Nat.mul_succ, cnt_add]
  rw [h]
  exact chunk_wp d i hb buf (chunkOK i hX c) _

/-- One stage. -/
theorem stage_wp (hO : ∀ g, O g none = 0) (hX : AllBins (X d i ar fX)) (hb : Memref sig .scVector .vmem S100000 .i32)
    (buf : Memref sig .scVector .vmem S32x200 .i32) (hw : buf.IsWhole) (sem : DmaSems sig S_) (q : PosShare TreeShare)
    (buf' : Memref sig .scVector .vmem S32x200 .i32) (hw' : buf'.IsWhole) (sem' : DmaSems sig S_) (q' : PosShare TreeShare) (c : Fin 14) {Q : PUnit → sProp 𝕄} :
    iprop(levAts (K (F := F)).L (K (F := F)).lev ∗ Mid d i ar fX O W hb buf sem q buf' sem' q' c.castSucc)
      ⊢ iprop((Mid d i ar fX O W hb buf' sem' q' buf sem q c.succ -∗ Q ⟨⟩)
          -∗ twp (F := F) d i (stage i ar hb buf hw sem buf' hw' sem' c) Q) := by
  unfold stage Mid
  rw [twp, wp_bind]
  iintro ⟨#Hlv, Hh, ⟨Hb, Hs, Hv⟩, HF, HO⟩ HQ
  iapply (count_wp d i ar fX hX hb buf c.castSucc.castSucc) $$ [Hh Hb]
  · isplitl [Hh]; · iexact Hh
    iexact Hb
  iintro ⟨Hh, Hb⟩
  rw [wp_bind]
  iapply (fetch_wp d i ar fX buf hw sem q c.succ.succ) $$ [Hb Hs Hv]
  · isplitl [Hb]
    · unfold Has
      icases Hb with ⟨%f, Hb, -⟩
      iexists f; iexact Hb
    isplitl [Hs]; · iexact Hs
    iexact Hv
  iintro HF'
  iapply (await_wp d i ar fX O W hO buf' hw' sem' q' c.succ.castSucc) $$ [HF HO]
  · isplitr; · iexact Hlv
    isplitl [HF]; · iexact HF
    iexact HO
  iintro ⟨Hb, Hs, Hv, HO⟩
  iapply HQ
  isplitl [Hh]; · iexact Hh
  isplitl [Hb Hs Hv]
  · isplitl [Hb]; · iexact Hb
    isplitl [Hs]; · iexact Hs
    iexact Hv
  isplitl [HF']; · iexact HF'
  iexact HO

theorem lt_even (j : Fin 7) : 2 * j.val < 14 := by omega
theorem lt_odd (j : Fin 7) : 2 * j.val + 1 < 14 := by omega

/-- Two stages. -/
theorem pair_wp (hO : ∀ g, O g none = 0) (hX : AllBins (X d i ar fX)) (hb : Memref sig .scVector .vmem S100000 .i32)
    (buf : Memref sig .scVector .vmem S32x200 .i32) (hw : buf.IsWhole) (sem : DmaSems sig S_) (q : PosShare TreeShare)
    (buf' : Memref sig .scVector .vmem S32x200 .i32) (hw' : buf'.IsWhole) (sem' : DmaSems sig S_) (q' : PosShare TreeShare) (j : Fin 7) {Q : PUnit → sProp 𝕄} :
    iprop(levAts (K (F := F)).L (K (F := F)).lev ∗ Mid d i ar fX O W hb buf sem q buf' sem' q' ⟨2 * j.val, by omega⟩)
      ⊢ iprop((Mid d i ar fX O W hb buf sem q buf' sem' q' ⟨2 * j.val + 2, by omega⟩ -∗ Q ⟨⟩)
          -∗ twp (F := F) d i (pair i ar hb buf hw sem buf' hw' sem' j) Q) := by
  unfold pair
  rw [twp, wp_bind]
  iintro ⟨#Hlv, H⟩ HQ
  iapply (stage_wp d i ar fX O W hO hX hb buf hw sem q buf' hw' sem' q' ⟨2 * j.val, lt_even j⟩) $$ [H]
  · isplitr; · iexact Hlv
    iexact H
  iintro H
  iapply (stage_wp d i ar fX O W hO hX hb buf' hw' sem' q' buf hw sem q ⟨2 * j.val + 1, lt_odd j⟩) $$ [H]
  · isplitr; · iexact Hlv
    iexact H
  iexact HQ

/-- The histogram written to the tile's row. -/
theorem flush_wp (hO : ∀ g, O g none = 0) (hb : Memref sig .scVector .vmem S100000 .i32) (hw : hb.IsWhole) (out : Memref sig .scVector .hbm S32x100000 .i32)
    (sem : DmaSems sig S_) (B : Vec F S100000 .i32) {Q : PUnit → sProp 𝕄} :
    iprop(levAts (K (F := F)).L (K (F := F)).lev ∗ Has (F := F) d i hb B ∗ (∃ f, out.view.loc (thr d i) ↦[(rowOfTile i out).view.set]{fullShare} f)
        ∗ semVal (thr d i, .dma sem.sem) 0 ∗ Ow (F := F) d i O W)
      ⊢ iprop((Has (F := F) d i hb B
            ∗ (∃ f, (out.view.loc (thr d i) ↦[(rowOfTile i out).view.set]{fullShare} f) ∗ ⌜(rowOfTile i out).view.read (Elt F) f = B⌝)
            ∗ semVal (thr d i, .dma sem.sem) 0 ∗ Ow (F := F) d i O W -∗ Q ⟨⟩)
          -∗ twp (F := F) d i (flush i hb hw out sem) Q) := by
  unfold flush Ow Has
  simp only [Prog.lift, Prog.bind_op, Prog.bind_ret, Prog.pure_eq_ret]
  iintro ⟨#Hlv, ⟨%f, Hb, %hf⟩, ⟨%fo, Ho⟩, Hv, %W', %hW', HO⟩ HQ
  rw [← hw.set_eq_univ]
  iapply (Transfers.wp_dmaLocal countersEmb 𝒱₀ (thr d i) none (src := hb) (dst := rowOfTile i out) (Sd := (rowOfTile i out).view.set) (q := fullShare) (fs := f) (fd := fo)
    none (rowOfTile i out).view.dmaCredit rfl (View.dmaCredit_pos _ (by decide)) (Finset.Subset.refl _)) $$ [Hb Ho Hv]
  · isplitl [Hb]; · iexact Hb
    isplitl [Ho]; · iexact Ho
    iexact Hv
  iintro HF
  iapply (Transfers.wp_waitLocalO countersEmb 𝒱₀ (thr d i) none none rfl (O := O) (W := W')) $$ [HF HO]
  · isplitl [HF]; · iexact HF
    isplitl [HO]; · iexact HO
    iapply ((K (F := F)).mayWait_none (SemLoc.dma sem.sem) hO); iexact Hlv
  iintro ⟨⟨Ho, Hb⟩, Hv, HO⟩
  rw [wp_ret]; imodintro
  iapply HQ
  isplitl [Hb]
  · iexists f; isplitl [Hb]; · iexact Hb
    ipureintro; exact hf
  isplitl [Ho]
  · iexists _; isplitl [Ho]; · iexact Ho
    ipureintro
    exact (View.read_write_univ (v := (rowOfTile i out).view) fo _).trans hf
  isplitl [Hv]; · iexact Hv
  iexists _; isplitr
  rotate_left
  · iexact HO
  · ipureintro
    intro p hp
    rcases Finset.mem_insert.mp hp with rfl | hp
    · exact .inr rfl
    · exact hW' p hp

theorem Has.held {sp : Space} {s : Shape} {e : EltTy} {b : Memref sig .scVector sp s e} {B : Vec F s e} :
    (Has (F := F) d i b B) ⊢ (iprop(∃ f, b.view.loc (thr d i) ↦{fullShare} f) : sProp 𝕄) := by
  unfold Has
  iintro ⟨%f, H, -⟩
  iexists f; iexact H

/-- The whole kernel on one tile: it leaves in its row of the table how often each bin occurs in its 512 rows. -/
theorem hist_wp (hO : ∀ g, O g none = 0) (hX : AllBins (X d i ar fX)) (out : Memref sig .scVector .hbm S32x100000 .i32)
    (hb : Memref sig .scVector .vmem S100000 .i32) (h4 : hb.IsWhole) (a5 : Memref sig .scVector .vmem S32x200 .i32) (h5 : a5.IsWhole)
    (a6 : Memref sig .scVector .vmem S32x200 .i32) (h6 : a6.IsWhole) (a7 a8 s0 : DmaSems sig S_) (q q' : PosShare TreeShare) {Q : PUnit → sProp 𝕄} :
    iprop(levAts (K (F := F)).L (K (F := F)).lev ∗ (Src d i ar fX q ∗ Src d i ar fX q')
        ∗ (∃ f, out.view.loc (thr d i) ↦[(rowOfTile i out).view.set]{fullShare} f)
        ∗ ((∃ f, hb.view.loc (thr d i) ↦{fullShare} f) ∗ (∃ f, a5.view.loc (thr d i) ↦{fullShare} f) ∗ (∃ f, a6.view.loc (thr d i) ↦{fullShare} f))
        ∗ (semVal (thr d i, .dma a7.sem) 0 ∗ semVal (thr d i, .dma a8.sem) 0 ∗ semVal (thr d i, .dma s0.sem) 0) ∗ Ow (F := F) d i O W)
      ⊢ iprop(((Src d i ar fX q ∗ Src d i ar fX q')
            ∗ (∃ f, (out.view.loc (thr d i) ↦[(rowOfTile i out).view.set]{fullShare} f)
                ∗ ⌜(rowOfTile i out).view.read (Elt F) f = words (cnt (X d i ar fX) (base i) 512)⌝)
            ∗ ((∃ f, hb.view.loc (thr d i) ↦{fullShare} f) ∗ (∃ f, a5.view.loc (thr d i) ↦{fullShare} f) ∗ (∃ f, a6.view.loc (thr d i) ↦{fullShare} f))
            ∗ (semVal (thr d i, .dma a7.sem) 0 ∗ semVal (thr d i, .dma a8.sem) 0 ∗ semVal (thr d i, .dma s0.sem) 0) ∗ Ow (F := F) d i O W -∗ Q ⟨⟩)
          -∗ twp (F := F) d i (hist i ar out hb h4 a5 h5 a6 h6 a7 a8 s0) Q) := by
  unfold hist
  simp only [twp, wp_bind]
  iintro ⟨#Hlv, ⟨Hs, Hs'⟩, Ho, ⟨Hh, H5, H6⟩, ⟨V7, V8, V0⟩, HO⟩ HQ
  iapply (fetch_wp d i ar fX a5 h5 a7 q 0) $$ [H5 Hs V7]
  · isplitl [H5]; · iexact H5
    isplitl [Hs] <;> iassumption
  iintro F5
  iapply (fetch_wp d i ar fX a6 h6 a8 q' 1) $$ [H6 Hs' V8]
  · isplitl [H6]; · iexact H6
    isplitl [Hs'] <;> iassumption
  iintro F6
  iapply (clear_wp d i hb) $$ Hh; iintro Hh
  iapply (await_wp d i ar fX O W hO a5 h5 a7 q 0) $$ [F5 HO]
  · isplitr; · iexact Hlv
    isplitl [F5]; · iexact F5
    iexact HO
  iintro ⟨H5, Hs, V7, HO⟩
  ihave HM : Mid d i ar fX O W hb a5 a7 q a6 a8 q' ⟨2 * (0 : Fin 7).val, by decide⟩ $$ [Hh H5 Hs V7 F6 HO]
  · unfold Mid
    isplitl [Hh]; · iexact Hh
    isplitl [H5 Hs V7]
    · isplitl [H5]; · iexact H5
      isplitl [Hs] <;> iassumption
    isplitl [F6]; · iexact F6
    iexact HO
  iapply (pair_wp d i ar fX O W hO hX hb a5 h5 a7 q a6 h6 a8 q' 0) $$ [HM]
  · isplitr; · iexact Hlv
    iexact HM
  iintro HM
  iapply (pair_wp d i ar fX O W hO hX hb a5 h5 a7 q a6 h6 a8 q' 1) $$ [HM]
  · isplitr; · iexact Hlv
    iexact HM
  iintro HM
  iapply (pair_wp d i ar fX O W hO hX hb a5 h5 a7 q a6 h6 a8 q' 2) $$ [HM]
  · isplitr; · iexact Hlv
    iexact HM
  iintro HM
  iapply (pair_wp d i ar fX O W hO hX hb a5 h5 a7 q a6 h6 a8 q' 3) $$ [HM]
  · isplitr; · iexact Hlv
    iexact HM
  iintro HM
  iapply (pair_wp d i ar fX O W hO hX hb a5 h5 a7 q a6 h6 a8 q' 4) $$ [HM]
  · isplitr; · iexact Hlv
    iexact HM
  iintro HM
  iapply (pair_wp d i ar fX O W hO hX hb a5 h5 a7 q a6 h6 a8 q' 5) $$ [HM]
  · isplitr; · iexact Hlv
    iexact HM
  iintro HM
  iapply (pair_wp d i ar fX O W hO hX hb a5 h5 a7 q a6 h6 a8 q' 6) $$ [HM]
  · isplitr; · iexact Hlv
    iexact HM
  iintro HM
  unfold Mid
  icases HM with ⟨Hh, ⟨H5, Hs, V7⟩, F6, HO⟩
  iapply (count_wp d i ar fX hX hb a5 14) $$ [Hh H5]
  · isplitl [Hh]; · iexact Hh
    iexact H5
  iintro ⟨Hh, H5⟩
  iapply (await_wp d i ar fX O W hO a6 h6 a8 q' 15) $$ [F6 HO]
  · isplitr; · iexact Hlv
    isplitl [F6]; · iexact F6
    iexact HO
  iintro ⟨H6, Hs', V8, HO⟩
  iapply (count_wp d i ar fX hX hb a6 15) $$ [Hh H6]
  · isplitl [Hh]; · iexact Hh
    iexact H6
  iintro ⟨Hh, H6⟩
  iapply (flush_wp d i O W hO hb h4 out s0 (words (cnt (X d i ar fX) (base i) 512))) $$ [Hh Ho V0 HO]
  · isplitr; · iexact Hlv
    isplitl [Hh]; · iexact Hh
    isplitl [Ho]; · iexact Ho
    isplitl [V0] <;> iassumption
  iintro ⟨Hh, Ho, V0, HO⟩
  iapply HQ
  isplitl [Hs Hs']
  · isplitl [Hs] <;> iassumption
  isplitl [Ho]; · iexact Ho
  isplitl [Hh H5 H6]
  · isplitl [Hh]; · iapply (Has.held d i) $$ Hh
    isplitl [H5]; · iapply (Has.held d i) $$ H5
    iapply (Has.held d i) $$ H6
  isplitl [V7 V8 V0]
  · isplitl [V7]; · iexact V7
    isplitl [V8] <;> iassumption
  iexact HO

end Moves

end Tile

end Cert.Proof.Hist

end
-- ==== Proof.Task.lean ====
/-
  One tile's task, and what the call hands each tile and takes back: shares of the index array, the tile's row of the
  table of histograms, brought back holding the tile's counts.
-/
module

public import proofs.«01_k».proof.Proof.Tile

@[expose] public section

noncomputable section

namespace Cert.Proof.Hist

open Cert.KernelIdeal Cert.KernelIdeal.Gen
open Idealize.ShloMosaic
open Idealize.ShloMosaic.TcCoe
open Idealize.ShloMosaic.SparseCore (S V T)
open Idealize.ShloMosaic.SparseCore.Cfg (HIx Pay scopedBufs_V scopedSems0_V ownSems0 ownBufs ownCells mem_ownCells ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## The buffers -/

/-- The index array and the table of histograms, as device `d` holds them. -/
abbrev xLoc (d : Dev nD) : Loc nD τ sig := (SparseCore.T d).loc main_arg0
abbrev pLoc (d : Dev nD) : Loc nD τ sig := (SparseCore.T d).loc main_v0

abbrev aV : Memref sig .scVector .hbm S16384x200 .i32 := Memref.whole main_arg0_scv
abbrev oV : Memref sig .scVector .hbm S32x100000 .i32 := Memref.whole main_v0_scv
abbrev sH : Memref sig .scVector .vmem S100000 .i32 := Memref.whole cc0_scratch0
abbrev sA : Memref sig .scVector .vmem S32x200 .i32 := Memref.whole cc0_scratch1
abbrev sB : Memref sig .scVector .vmem S32x200 .i32 := Memref.whole cc0_scratch2

/-! ## A tile's semaphores and scratch, out of what its subcore holds -/

section Own

variable (d : Dev nD) (i : grid0.Coords)

abbrev cell7 : GSem nD τ sig := (thr d i, .dma cc0_scratch3.sem)
abbrev cell8 : GSem nD τ sig := (thr d i, .dma cc0_scratch4.sem)
abbrev cell0 : GSem nD τ sig := (thr d i, .dma cc0_scoped0.sem)

/-- The three semaphores are among the subcore's own. -/
theorem ownSems0_V :
    (ownSems0 (thr d i) : sProp 𝕄)
      = iprop(semVal (cell7 d i) 0 ∗ semVal (cell8 d i) 0 ∗ semVal (cell0 d i) 0
          ∗ bigSep ((((ownCells (thr d i)).erase (cell7 d i)).erase (cell8 d i)).erase (cell0 d i)) fun g => semVal g 0) := by
  unfold SparseCore.Cfg.ownSems0
  rw [SparseCore.bigSep_erase' ((mem_ownCells (g := cell7 d i)).mpr ⟨rfl, by
      show (SemLoc.dma cc0_scratch3.sem : SemLoc sig).isScoped .scVector = true; decide⟩),
    SparseCore.bigSep_erase' (Finset.mem_erase.mpr ⟨by simp [cell7, cell8]; decide, (mem_ownCells (g := cell8 d i)).mpr ⟨rfl, by
      show (SemLoc.dma cc0_scratch4.sem : SemLoc sig).isScoped .scVector = true; decide⟩⟩),
    SparseCore.bigSep_erase' (Finset.mem_erase.mpr ⟨by simp [cell8, cell0]; decide, Finset.mem_erase.mpr ⟨by simp [cell7, cell0]; decide,
      (mem_ownCells (g := cell0 d i)).mpr ⟨rfl, by show (SemLoc.dma cc0_scoped0.sem : SemLoc sig).isScoped .scVector = true; decide⟩⟩⟩)]

/-- The three scratch buffers are among the subcore's own. -/
theorem ownBufs_V :
    (ownBufs (thr d i) : sProp 𝕄)
      = iprop((∃ f, (thr d i).loc cc0_scratch0 ↦{fullShare} f) ∗ (∃ f, (thr d i).loc cc0_scratch1 ↦{fullShare} f)
          ∗ (∃ f, (thr d i).loc cc0_scratch2 ↦{fullShare} f)
          ∗ bigSep ((((ownRefs (τ := τ) (thr d i).2).erase ((thr d i).2.devRef cc0_scratch0)).erase
              ((thr d i).2.devRef cc0_scratch1)).erase ((thr d i).2.devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := (thr d i).2)
    (b := (thr d i).2.devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := (thr d i).2) (b := (thr d i).2.devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := (thr d i).2) (b := (thr d i).2.devRef cc0_scratch2) rfl⟩⟩)]

end Own

/-! ## What a tile is handed and what it brings back -/

variable (m : (ℓ : Loc nD τ sig) → Buf (Elt F) ℓ)

/-- Every index of the launch memory's index array names a bin. -/
def PreOK : Prop := ∀ d : Dev nD, AllBins (m (xLoc d))

/-- Grid point `(c, s)`. -/
def coordsV (c : Fin 2) (s : Fin 16) : grid0.Coords :=
  fun | 0 => c | 1 => s | ⟨_ + 2, h⟩ => absurd h (Nat.not_lt.2 (Nat.le_add_left _ _))

/-- The share of the index array that SparseCore `c`'s tile `s` reads its chunks of parity `b` through. -/
def share (c : Fin 2) (s : Fin 16) (b : Fin 2) : PosShare TreeShare :=
  Transfers.dealOf (Transfers.dealOf (Transfers.dealOf fullShare Finset.univ c) Finset.univ s) Finset.univ b

/-- The part of the table of histograms that is tile `(c, s)`'s row. -/
abbrev rowSet (c : Fin 2) (s : Fin 16) : Finset S32x100000.Idx := (rowOfTile (coordsV c s) oV).view.set

/-- The counts tile `(c, s)` leaves in its row. -/
def tileWords (d : Dev nD) (c : Fin 2) (s : Fin 16) : Vec F S100000 .i32 :=
  words (cnt (m (xLoc d)) (base (coordsV c s)) 512)

/-- The tile's two shares of the index array. -/
def srcs (d : Dev nD) (c : Fin 2) (s : Fin 16) : sProp 𝕄 :=
  iprop((xLoc d ↦{share c s 0} m (xLoc d)) ∗ (xLoc d ↦{share c s 1} m (xLoc d)))

/-- What a tile is handed. -/
def go (d : Dev nD) (c : Fin 2) (s : Fin 16) : sProp 𝕄 :=
  iprop(srcs m d c s ∗ ∃ f, pLoc d ↦[rowSet c s]{fullShare} f)

/-- What it brings back. -/
def td (d : Dev nD) (c : Fin 2) (s : Fin 16) : sProp 𝕄 :=
  iprop(srcs m d c s ∗ ∃ f, (pLoc d ↦[rowSet c s]{fullShare} f) ∗ ⌜(rowOfTile (coordsV c s) oV).view.read (Elt F) f = tileWords m d c s⌝)

instance srcs_storable (d : Dev nD) (c : Fin 2) (s : Fin 16) : BI.Storable (upEmb : UEmb _ 𝕄) (srcs m d c s) := by unfold srcs; infer_instance
instance go_storable (d : Dev nD) (c : Fin 2) (s : Fin 16) : BI.Storable (upEmb : UEmb _ 𝕄) (go m d c s) := by unfold go; infer_instance
instance td_storable (d : Dev nD) (c : Fin 2) (s : Fin 16) : BI.Storable (upEmb : UEmb _ 𝕄) (td m d c s) := by unfold td; infer_instance

/-- Tile `(c, s)`'s task: from its shares, its row, its scratch and its semaphores, the printed kernel runs to its row
    holding its counts. -/
theorem tile_body (hpre : PreOK m) (d : Dev nD) (c : Fin 2) (s : Fin 16) (O : CellTallies nD τ sig (HIx 1)) (W : Waits sig (HIx 1)) (hO : ∀ g, O g none = 0) :
    iprop(levAts (K (F := F)).L (K (F := F)).lev ∗ BI.emp ∗ go m d c s
        ∗ scopedBufs (thr d (coordsV c s)) ∗ scopedSems0 (thr d (coordsV c s)) ∗ owes (thr d (coordsV c s)) O W)
      ⊢ wp frame (wpE (defs₀ (F := F)) 𝒱₀ (thr d (coordsV c s)) none) Set.univ
          (cc0_hist_kernel (coordsV c s) aV (Memref.isWhole_whole _) oV (Memref.isWhole_whole _) sH (Memref.isWhole_whole _)
            sA (Memref.isWhole_whole _) sB (Memref.isWhole_whole _) cc0_scratch3 cc0_scratch4 cc0_scoped0)
          fun _ => iprop(td m d c s ∗ scopedBufs (thr d (coordsV c s)) ∗ scopedSems0 (thr d (coordsV c s))
            ∗ ∃ W', ⌜∀ p ∈ W', p ∈ W ∨ p.2 = none⌝ ∗ owes (thr d (coordsV c s)) O W') := by
  rw [hist_eq, (K (F := F)).scopedBufs_V facts d _ _, SparseCore.Cfg.scopedSems0_V (Val := Elt F) d _ _]
  rw [show (ownSems0 (V d (((coordsV c s) 0).castLE hcore0) (((coordsV c s) 1).castLE hsub0)) : sProp 𝕄) = _ from ownSems0_V d (coordsV c s),
    show (ownBufs (V d (((coordsV c s) 0).castLE hcore0) (((coordsV c s) 1).castLE hsub0)) : sProp 𝕄) = _ from ownBufs_V d (coordsV c s)]
  unfold go td srcs
  iintro ⟨#Hlv, -, ⟨Hx, Hrow⟩, ⟨Hh, Ha, Hb, Hbufs⟩, ⟨H7, H8, H0, Hsems⟩, HO⟩
  iapply (hist_wp d (coordsV c s) aV (m (xLoc d)) O W hO (hpre d) oV sH (Memref.isWhole_whole _) sA (Memref.isWhole_whole _) sB (Memref.isWhole_whole _)
    cc0_scratch3 cc0_scratch4 cc0_scoped0 (share c s 0) (share c s 1)) $$ [Hx Hrow Hh Ha Hb H7 H8 H0 HO]
  · isplitr; · iexact Hlv
    isplitl [Hx]; · iexact Hx
    isplitl [Hrow]; · iexact Hrow
    isplitl [Hh Ha Hb]
    · isplitl [Hh]; · iexact Hh
      isplitl [Ha]; · iexact Ha
      iexact Hb
    isplitl [H7 H8 H0]
    · isplitl [H7]; · iexact H7
      isplitl [H8]; · iexact H8
      iexact H0
    unfold Ow
    iexists W; isplitr; · ipureintro; exact fun p hp => .inl hp
    iexact HO
  iintro ⟨Hx, Hrow, ⟨Hh, Ha, Hb⟩, ⟨H7, H8, H0⟩, HO⟩
  isplitl [Hx Hrow]
  · isplitl [Hx]; · iexact Hx
    iexact Hrow
  isplitl [Hh Ha Hb Hbufs]
  · isplitl [Hh]; · iexact Hh
    isplitl [Ha]; · iexact Ha
    isplitl [Hb]; · iexact Hb
    iexact Hbufs
  isplitl [H7 H8 H0 Hsems]
  · isplitl [H7]; · iexact H7
    isplitl [H8]; · iexact H8
    isplitl [H0]; · iexact H0
    iexact Hsems
  unfold Ow
  iexact HO

/-! ## What the handshakes carry -/

theorem nCore_zero : (K (F := F)).nCore 0 = 2 := rfl

/-- The call hands SparseCore `c` its tiles' operands and takes back their results. -/
def P : (K (F := F)).Pay (nD := nD) (Val := Elt F) (Name := ℕ) (U := UU) where
  st := fun q d c => match q with | 0 => bigSep Finset.univ fun s : Fin 16 => go m d (Fin.cast nCore_zero c) s
  dn := fun q d c => match q with | 0 => bigSep Finset.univ fun s : Fin 16 => td m d (Fin.cast nCore_zero c) s
  go := fun q d c i => match q with | 0 => go m d (Fin.cast nCore_zero c) (Fin.cast nSub_zero i)
  td := fun q d c i => match q with | 0 => td m d (Fin.cast nCore_zero c) (Fin.cast nSub_zero i)
  x := fun _ _ => BI.emp

instance P_storable : (P (F := F) m).IsStorable where
  st q d c := match q with
    | 0 => (inferInstance : BI.Storable (upEmb : UEmb _ 𝕄) (bigSep Finset.univ fun s : Fin 16 => go m d (Fin.cast nCore_zero c) s))
  dn q d c := match q with
    | 0 => (inferInstance : BI.Storable (upEmb : UEmb _ 𝕄) (bigSep Finset.univ fun s : Fin 16 => td m d (Fin.cast nCore_zero c) s))
  go q d c i := match q with | 0 => (inferInstance : BI.Storable (upEmb : UEmb _ 𝕄) (go m d (Fin.cast nCore_zero c) (Fin.cast nSub_zero i)))
  td q d c i := match q with | 0 => (inferInstance : BI.Storable (upEmb : UEmb _ 𝕄) (td m d (Fin.cast nCore_zero c) (Fin.cast nSub_zero i)))

/-- Each SparseCore's operands are its tiles', and its results theirs. -/
theorem vecSplit : (K (F := F)).VecSplit' (P m) 0 := fun d c => by
  show (bigSep Finset.univ fun s : Fin 16 => go m d c s) ⊢ |={Set.univ}=> iprop((bigSep Finset.univ fun s : Fin 16 => go m d c s)
      ∗ ((bigSep Finset.univ fun s : Fin 16 => td m d c s) -∗ bigSep Finset.univ fun s : Fin 16 => td m d c s))
  iintro H
  imodintro
  isplitl [H]; · iexact H
  iintro H; iexact H

/-! ## The body of the call's label -/

theorem defs₀_vector (c : Fin τ.nSC) (s : Fin τ.nSub) : (defs₀ (F := F) (.scVector c s) 0 ())
    = SparseCore.onTile hcore0 hsub0 (fun c s => cc0_hist_kernel (coordsV c s) aV (Memref.isWhole_whole _) oV (Memref.isWhole_whole _)
        sH (Memref.isWhole_whole _) sA (Memref.isWhole_whole _) sB (Memref.isWhole_whole _) cc0_scratch3 cc0_scratch4 cc0_scoped0) ⟨⟩ c s := rfl

/-- The recorded waits a task leaves, as the launch takes them. -/
theorem obl_post {thr : Thread nD τ} {O : CellTallies nD τ sig (HIx 1)} {W : Waits sig (HIx 1)} {q : Fin 1} {A B C : sProp 𝕄} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right .inl
  iexact HO

set_option maxRecDepth 1024 in
/-- Every tile's task meets the launch's demand. -/
theorem tileObl (hpre : PreOK m) : (K (F := F)).TileObl (D (F := F)) 𝒱 (P m) v₀ 0 := by
  intro d c i O W hO _ _
  simp only [show (P (F := F) m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs (defs₀ (F := F))) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m hpre d c i O W hO).trans (wp_mono frame _ _ fun _ => obl_post)

end Cert.Proof.Hist

end
-- ==== Proof.Deal.lean ====
/-
  The index array and the table of histograms, dealt to the tiles and gathered from them.
-/
module

public import proofs.«01_k».proof.Proof.Task

@[expose] public section

noncomputable section

namespace Cert.Proof.Hist

open Cert.KernelIdeal Cert.KernelIdeal.Gen
open Idealize.ShloMosaic Idealize.ShloMosaic.ValueIdx
open Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-! ## The rows of the table -/

/-- Grid point `i`'s row of the table. -/
theorem tileRow_lt (i : grid0.Coords) : 2 * (i 1).val + (i 0).val < 32 := by
  have h0 : (i 0).val < 2 := (i 0).isLt
  have h1 : (i 1).val < 16 := (i 1).isLt
  omega

/-- Word `x` of tile `i`'s row is the table's word at that row and column `x`. -/
theorem rowOfTile_emb (i : grid0.Coords) (x : S100000.Idx) :
    (rowOfTile i oV).view.emb x = (ix2 ⟨2 * (i 1).val + (i 0).val, tileRow_lt i⟩ (x 0) : S32x100000.Idx) := by
  have hr : (Shape.reshapeEquiv (s := S1x100000) (s' := S100000) squeezes_S1x100000_S100000.numel_eq x) = ix2 0 (x 0) := by
    refine Shape.reshapeEquiv_eq_of_rowMajor _ ?_
    refine (Shape.rowMajor_val_two (d := ![1, 100000]) (ix2 0 (x 0))).trans (Eq.trans ?_ (Shape.rowMajor_val_one (d := ![100000]) x).symm)
    show 0 * 100000 + (x 0).val = (x 0).val
    omega
  show (Rect.unit (s := S32x100000) (k0_off211 i) S1x100000.size (k0_off211_inb i)).emb (Shape.reshapeEquiv _ x) = _
  rw [hr]
  funext a; apply Fin.ext
  show k0_off211 i a + 1 * ((ix2 0 (x 0) : S1x100000.Idx) a).val = _
  rw [k0_off211_eq]
  match a with
  | ⟨0, _⟩ => show 2 * (i 1).val + (i 0).val + 1 * 0 = 2 * (i 1).val + (i 0).val; omega
  | ⟨1, _⟩ => show 0 + 1 * (x 0).val = (x 0).val; omega

/-- A tile's part of the table is the words of its row. -/
theorem mem_rowSet (c : Fin 2) (s : Fin 16) (j : S32x100000.Idx) : j ∈ rowSet c s ↔ (j 0).val = 2 * s.val + c.val := by
  constructor
  · intro h
    obtain ⟨x, -, rfl⟩ := Finset.mem_map.mp h
    rw [rowOfTile_emb]
    rfl
  · intro h
    have e : j = (rowOfTile (coordsV c s) oV).view.emb (ix1 (j 1)) := by
      rw [rowOfTile_emb]
      funext a
      match a with
      | ⟨0, _⟩ => exact Fin.ext h
      | ⟨1, _⟩ => rfl
    rw [e]; exact View.emb_mem_set _ _

theorem rowSet_disjoint (t t' : Fin 2 × Fin 16) (h : t ≠ t') : Disjoint (rowSet t.1 t.2) (rowSet t'.1 t'.2) := by
  rw [Finset.disjoint_left]
  intro j hj hj'
  rw [mem_rowSet] at hj hj'
  have h1 := t.1.isLt; have h2 := t'.1.isLt
  exact h (Prod.ext (Fin.ext (by omega)) (Fin.ext (by omega)))

theorem rowSet_union : (Finset.univ : Finset (Fin 2 × Fin 16)).biUnion (fun t => rowSet t.1 t.2) = Finset.univ := by
  ext j
  simp only [Finset.mem_biUnion, Finset.mem_univ, true_and, iff_true]
  have h : (j 0).val < 32 := (j 0).isLt
  exact ⟨(⟨(j 0).val % 2, by omega⟩, ⟨(j 0).val / 2, by omega⟩), (mem_rowSet _ _ _).mpr (by show _ = 2 * ((j 0).val / 2) + (j 0).val % 2; omega)⟩

/-- The table held whole is its rows held one by one. -/
theorem parts_deal (d : Dev nD) (f : Buf (Elt F) (pLoc d)) :
    (pLoc d ↦{fullShare} f : sProp 𝕄)
      = bigSep Finset.univ fun c : Fin 2 => bigSep Finset.univ fun s : Fin 16 => (pLoc d ↦[rowSet c s]{fullShare} f : sProp 𝕄) := by
  have h := pointsTo_biUnion (nD := nD) (τ := τ) (sig := sig) (Ix := HIx 1) (Val := Elt F) (Name := ℕ) (U := UU) (Lvl := ℕ) (ℓ := pLoc d) (q := fullShare) (f := f)
    (Finset.univ : Finset (Fin 2 × Fin 16)) (fun t => rowSet t.1 t.2) (fun t _ t' _ ht => rowSet_disjoint t t' ht)
  rw [bigSep_univ_prod] at h
  refine Eq.trans ?_ h
  exact congrArg (fun S => (pLoc d ↦[S]{fullShare} f : sProp 𝕄)) rowSet_union.symm

variable (m : (ℓ : Loc nD τ sig) → Buf (Elt F) ℓ)

/-- The index array held whole is the tiles' shares of it. -/
theorem srcs_deal (d : Dev nD) :
    (xLoc d ↦{fullShare} m (xLoc d) : sProp 𝕄)
      = bigSep Finset.univ fun c : Fin 2 => bigSep Finset.univ fun s : Fin 16 => srcs m d c s := by
  rw [Transfers.pointsTo_deal (Finset.univ : Finset (Fin 2)) Finset.univ_nonempty]
  refine bigSep_congr fun c _ => ?_
  rw [Transfers.pointsTo_deal (Finset.univ : Finset (Fin 16)) Finset.univ_nonempty]
  refine bigSep_congr fun s _ => ?_
  rw [Transfers.pointsTo_deal (Finset.univ : Finset (Fin 2)) Finset.univ_nonempty]
  rw [show (Finset.univ : Finset (Fin 2)) = {0, 1} by decide, SparseCore.bigSep_insert' (by decide), bigSep_singleton]
  rfl

/-- The table the tiles leave: row `r` counts the rows `512 r` to `512 r + 511` of the index array. -/
def partsOf (d : Dev nD) : Buf (Elt F) (pLoc d) :=
  fun j : S32x100000.Idx => BitVec.ofNat 32 (cnt (m (xLoc d)) (512 * (j 0).val) 512 (j 1).val)

/-- A row read as a tile's counts holds what that row of the table does. -/
theorem row_parts (d : Dev nD) (c : Fin 2) (s : Fin 16) (f : Buf (Elt F) (pLoc d))
    (h : (rowOfTile (coordsV c s) oV).view.read (Elt F) f = tileWords m d c s) (j : S32x100000.Idx) (hj : j ∈ rowSet c s) :
    f j = partsOf m d j := by
  rw [mem_rowSet] at hj
  have e : (rowOfTile (coordsV c s) oV).view.emb (ix1 (j 1)) = j := by
    rw [rowOfTile_emb]
    funext a
    match a with
    | ⟨0, _⟩ => exact Fin.ext hj.symm
    | ⟨1, _⟩ => rfl
  have hx : f ((rowOfTile (coordsV c s) oV).view.emb (ix1 (j 1))) = tileWords m d c s (ix1 (j 1)) := congrFun h (ix1 (j 1))
  rw [e] at hx
  rw [hx]
  unfold tileWords words partsOf
  show BitVec.ofNat 32 (cnt (m (xLoc d)) (base (coordsV c s)) 512 (j 1).val) = _
  rw [show base (coordsV c s) = 512 * (j 0).val by rw [hj]; show 1024 * s.val + 512 * c.val = _; omega]

theorem go_intro (d : Dev nD) (f : Buf (Elt F) (pLoc d)) (c : Fin 2) (s : Fin 16) :
    (iprop(srcs m d c s ∗ (pLoc d ↦[rowSet c s]{fullShare} f)) : sProp 𝕄) ⊢ go m d c s := by
  unfold go
  iintro ⟨Hs, Hp⟩
  isplitl [Hs]; · iexact Hs
  iexists f; iexact Hp

theorem td_elim (d : Dev nD) (c : Fin 2) (s : Fin 16) :
    td m d c s ⊢ (iprop(srcs m d c s ∗ (pLoc d ↦[rowSet c s]{fullShare} partsOf m d)) : sProp 𝕄) := by
  unfold td
  iintro ⟨Hs, %f, Hp, %hf⟩
  isplitl [Hs]; · iexact Hs
  iapply (Entails.of_eq (pointsTo_congr (row_parts m d c s f hf))); iexact Hp

/-- What the call takes for the two SparseCores: the index array, and the table at anything. -/
theorem st_intro (d : Dev nD) (f : Buf (Elt F) (pLoc d)) :
    iprop((xLoc d ↦{fullShare} m (xLoc d)) ∗ (pLoc d ↦{fullShare} f))
      ⊢ bigSep Finset.univ fun c : Fin ((K (F := F)).nCore 0) => (P m).st 0 d c := by
  show _ ⊢ bigSep Finset.univ fun c : Fin 2 => bigSep Finset.univ fun s : Fin 16 => go m d c s
  rw [srcs_deal, parts_deal, ← bigSep_sep']
  refine bigSep_mono fun c _ => ?_
  rw [← bigSep_sep']
  exact bigSep_mono fun s _ => go_intro m d f c s

/-- What it hands back: the index array, and the table holding every tile's counts. -/
theorem dn_elim (d : Dev nD) :
    (bigSep Finset.univ fun c : Fin ((K (F := F)).nCore 0) => (P m).dn 0 d c)
      ⊢ (iprop((xLoc d ↦{fullShare} m (xLoc d)) ∗ (pLoc d ↦{fullShare} partsOf m d)) : sProp 𝕄) := by
  show (bigSep Finset.univ fun c : Fin 2 => bigSep Finset.univ fun s : Fin 16 => td m d c s) ⊢ _
  rw [srcs_deal, parts_deal, ← bigSep_sep']
  refine bigSep_mono fun c _ => ?_
  rw [← bigSep_sep']
  exact bigSep_mono fun s _ => td_elim m d c s

end Cert.Proof.Hist

end
-- ==== Proof.Region.lean ====
/-
  The TensorCore's kernel, which adds up the tiles' histograms and computes the bits per symbol: its body, and its
  pipeline's region from any contents of the buffers, with the value it leaves.
-/
module

public import proofs.«01_k».proof.Proof.Setup
public import proofs.«01_k».proof.Proof.Gen.KernelIdeal.Skeleton
public import Idealize.ShloMosaic.Lib.VecWindow
public import Idealize.ShloMosaic.Lib.Pipeline.RegionsLoop

@[expose] public section

noncomputable section

namespace Cert.Proof.Hist

open Cert.KernelIdeal Cert.KernelIdeal.Gen
open Idealize.ShloMosaic
open Idealize.ShloMosaic.TcCoe Idealize.ShloMosaic.Tactic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig (HIx 1) (Elt F) ℕ UU ℕ

/-! ## The body -/

/-- The body, its two operands and its result held whole: the operands come back as they were, the result holding the
    kernel's function of them. -/
theorem finalize_wp (c : Dev nD) (M0 : Memref sig .tc .vmem S32x100000 .i32) (h0 : M0.IsWhole)
    (M1 : Memref sig .tc .vmem S1x100000 .f32) (h1 : M1.IsWhole) (M2 : Memref sig .tc .smem S1x1 .f32) (h2 : M2.IsWhole)
    (f0 : Buf (Elt F) (M0.view.loc (c : Thread nD τ))) (f1 : Buf (Elt F) (M1.view.loc (c : Thread nD τ)))
    (f2 : Buf (Elt F) (M2.view.loc (c : Thread nD τ))) (Q : PUnit → sProp 𝕄) :
    iprop((M0.view.loc (c : Thread nD τ) ↦{fullShare} f0) ∗ (M1.view.loc (c : Thread nD τ) ↦{fullShare} f1)
        ∗ (M2.view.loc (c : Thread nD τ) ↦{fullShare} f2)
        ∗ (∀ g, iprop((M0.view.loc (c : Thread nD τ) ↦{fullShare} f0) ∗ (M1.view.loc (c : Thread nD τ) ↦{fullShare} f1)
            ∗ (M2.view.loc (c : Thread nD τ) ↦{fullShare} g)
            ∗ ⌜M2.view.read (Elt F) g = fun _ => k1_pay1 (M0.view.read (Elt F) f0) (M1.view.read (Elt F) f1)⌝) -∗ Q ⟨⟩))
      ⊢ wp frame (wpE (defs₀ (F := F)) 𝒱₀ (c : Thread nD τ) none) Set.univ (cc1__finalize_body M0 h0 M1 h1 M2 h2) Q := by
  rw [cc1__finalize_body_eq_skeleton]
  unfold cc1__finalize_body_skel
  iintro ⟨H0, H1, H2, Hk⟩
  iapply (wp_load 𝒱₀ (c : Thread nD τ) none Set.univ (m := M0) (Finset.subset_univ _)) $$ H0
  iintro H0
  iapply (wp_load 𝒱₀ (c : Thread nD τ) none Set.univ (m := M1) (Finset.subset_univ _)) $$ H1
  iintro H1
  iapply (wp_load 𝒱₀ (c : Thread nD τ) none Set.univ (m := M2) (Finset.subset_univ _)) $$ H2
  iintro H2
  iapply (wp_store 𝒱₀ (c : Thread nD τ) none Set.univ (m := M2) (r := Rect.unit (s := S1x1) ![0, 0] S1x1.size inb_S1x1_S1x1_0_0) (Finset.subset_univ _)) $$ H2
  iintro H2
  rw [View.readAt_full, View.readAt_full]
  dsimp only [Prog.bind, Pure.pure]
  sl_step
  iapply Hk
  isplitl [H0]; · iexact H0
  isplitl [H1]; · iexact H1
  isplitl [H2]; · iexact H2
  ipureintro
  have h := View.read_write_univ (v := M2.access (Rect.unit (s := S1x1) ![0, 0] S1x1.size inb_S1x1_S1x1_0_0)) (Val := Elt F) f2
    (fun _ => k1_pay1 (M0.view.read (Elt F) f0) (M1.view.read (Elt F) f1))
  exact (View.readAt_full M2.view _ inb_S1x1_S1x1_0_0).symm.trans h

/-! ## The proof data, from any contents of the buffers -/

variable (V : (c : Dev nD) → (b : Ref sig .tc) → Buf (Elt F) ((c : Thread nD τ).loc b))

/-- The two operands as the fetches stage them. -/
abbrev stg0 (c : Dev nD) : (cfg1.win 0).block.Idx → Elt F (cfg1.win 0).elt :=
  ((cfg1.win 0).blk t1_0).view.read (Elt F) (V c main_v0)
abbrev stg1 (c : Dev nD) : (cfg1.win 1).block.Idx → Elt F (cfg1.win 1).elt :=
  ((cfg1.win 1).blk t1_0).view.read (Elt F) (V c main_v1)

/-- What the kernel leaves in its result's staging buffer. -/
def out2 (c : Dev nD) : (cfg1.win 2).block.Idx → Elt F (cfg1.win 2).elt := fun _ => k1_pay1 (stg0 V c) (stg1 V c)

/-- The invariant between the region's ends: the scoped buffers the pipeline does not stage. -/
abbrev Φc (c : Dev nD) : sProp 𝕄 := Pipeline.scopedRest (Ix := HIx 1) (Name := ℕ) (U := UU) (Lvl := ℕ) (Val := Elt F) spec1 c

variable (B : Dev nD → Set (SemLoc sig × HIx 1))

/-- The region's proof data: the arrays at the contents it starts from, the operands' staging buffers as fetched, the
    result's at the kernel's value, nothing owed, and the waits recorded before it within `B`. -/
def dat (c : Dev nD) : Dat τ (Elt F) (HIx 1) ℕ UU ℕ cfg1 c where
  A w := V c (Pipeline.arrRef spec1 w)
  after w _ := match w with
    | ⟨0, _⟩ => stg0 V c
    | ⟨1, _⟩ => stg1 V c
    | ⟨2, _⟩ => out2 V c
  Φ _ := Φc c
  q _ := fullShare
  owed _ := 0
  recorded _ := B c

/-- The program's one pipeline. -/
abbrev adm : (p : Fin 1) → (pcfgs (F := F) p).Adm := fun p => (cfgs p).toPCfg_adm

def pdats : (p : Fin 1) → (c : Dev nD) → Dat τ (Elt F) (HIx 1) ℕ UU ℕ (Pipeline.pin (pcfgs (F := F)) adm p) c
  | ⟨0, _⟩ => fun c => dat V B c

theorem before0 (c : Dev nD) (d : (cfg1.win 0).block.Idx → Elt F (cfg1.win 0).elt) : (dat V B c).before 0 t1_0 d = stg0 V c := by
  unfold Dat.before; rw [if_pos (by decide)]; rfl

theorem before1 (c : Dev nD) (d : (cfg1.win 1).block.Idx → Elt F (cfg1.win 1).elt) : (dat V B c).before 1 t1_0 d = stg1 V c := by
  unfold Dat.before; rw [if_pos (by decide)]; rfl

/-- The body meets the pipeline's obligation. -/
theorem body_obligation (c : Dev nD) : BodyObligation (dat V B c) (defs₀ (F := F)) 𝒱₀ (none : HIx 1) Set.univ := fun t => by
  obtain rfl := fin_N1 t
  rw [bigSep_W1, bigSep_W1]
  simp only [owns_whole_eq]
  rw [show (dat V B c).Φ t1_0.castSucc = Φc c from rfl, show (dat V B c).Φ t1_0.succ = Φc c from rfl,
    show (dat V B c).owesAt none t1_0.succ = (dat V B c).owesAt none t1_0.castSucc from rfl]
  iintro ⟨HΦ, Howes, ⟨%d0, %f0, %hf0, H0⟩, ⟨%d1, %f1, %hf1, H1⟩, ⟨%d2, %f2, -, H2⟩⟩
  rw [before0] at hf0
  rw [before1] at hf1
  iapply (finalize_wp c (stage1_0 0) (hstage1_0 0) (stage1_1 0) (hstage1_1 0) (stage1_2 0) (hstage1_2 0) f0 f1 f2 _)
  isplitl [H0]; · iexact H0
  isplitl [H1]; · iexact H1
  isplitl [H2]; · iexact H2
  iintro %g ⟨H0, H1, H2, %hg⟩
  isplitl [HΦ]; · iexact HΦ
  isplitl [Howes]; · iexact Howes
  isplitl [H0]; · iexists f0; isplitr; swap; (· iexact H0); ipureintro; exact hf0
  isplitl [H1]; · iexists f1; isplitr; swap; (· iexact H1); ipureintro; exact hf1
  iexists g; isplitr; swap; (· iexact H2); ipureintro
  subst hf0 hf1
  exact hg

/-! ## The region -/

/-- The result's array after the region: the kernel's value. -/
theorem arrAt_out (c : Dev nD) : (dat V B c).arrAt 2 cfg1.N = fun _ => k1_pay1 (stg0 V c) (stg1 V c) := by
  refine (dat V B c).arrAt_eq_of_cover 2 _ (fun t _ => rfl) fun i => ⟨t1_0, by decide +kernel, ?_⟩
  have hu : ∀ i j : S1x1.Idx, i = j := fun i j => funext fun a => Fin.ext (by
    have hi : (i a).val < 1 := match a with | ⟨0, _⟩ => (i 0).isLt | ⟨1, _⟩ => (i 1).isLt
    have hj : (j a).val < 1 := match a with | ⟨0, _⟩ => (j 0).isLt | ⟨1, _⟩ => (j 1).isLt
    omega)
  have h := View.emb_mem_set ((cfg1.win 2).blk t1_0).view i
  rwa [hu (((cfg1.win 2).blk t1_0).view.emb i) i] at h

variable (Vp : (c : Dev nD) → (b : Ref sig .tc) → Buf (Elt F) ((c : Thread nD τ).loc b))

set_option backward.isDefEq.respectTransparency.types false in
/-- The region over every unscoped buffer at `V`, `R` and the core's recorded waits: the result's array holds the
    kernel's value when it ends. -/
def reg (R : Dev nD → sProp 𝕄) (hVp_out : ∀ c, Vp c main_v2 = fun _ => k1_pay1 (stg0 V c) (stg1 V c))
    (hVp_ne : ∀ c (b : Ref sig .tc), b ≠ main_v2 → Vp c b = V c b) :
    Pipeline.RegionSeg (pcfgs (F := F)) adm (pdats V B) (none : HIx 1) defs₀ 𝒱₀ (K (F := F)).L (K (F := F)).lev 0 where
  win := (launch1).win.to₀
  block_pos := (launch1).block_pos
  stage_whole := (launch1).stage_whole
  K := PEmpty
  osem k := k.elim
  ho := Pipeline.OwnSemFacts.none _
  hbody c := (body_obligation V B c).loose
  hwaits := Pipeline.hwaits_of_owed_zero _ _ _ _ _ _ 0 fun _ _ => rfl
  pre c := iprop(unscopedBufs c (V c) ∗ R c ∗ ∃ W : Waits sig (HIx 1), ⌜∀ p ∈ W, p ∈ B c⌝ ∗ owes (c : Thread nD τ) (0 : CellTallies nD τ sig (HIx 1)) W)
  post c := iprop(unscopedBufs c (Vp c) ∗ R c ∗ ∃ W : Waits sig (HIx 1), ⌜∀ p ∈ W, p ∈ B c ∨ p.2 = none⌝ ∗ owes (c : Thread nD τ) (0 : CellTallies nD τ sig (HIx 1)) W)
  X _ := BI.emp
  Y _ := BI.emp
  Z c := iprop(Pipeline.unscopedRest (Ix := HIx 1) (Name := ℕ) (U := UU) (Lvl := ℕ) spec1 c (V c) ∗ R c)
  hentry c := by
    rw [Pipeline.ownSems0_none]
    have hsplit := Pipeline.arrays_of_unscopedBufs (p := 0) (pcfgs (F := F)) adm (pdats V B) (launch1).win (launch1).arr_whole c
      ((pdats V B 0 c).share_full fun _ => rfl) (V c) fun _ => rfl
    iintro ⟨⟨Hub, HR, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    isplitl [Hrest] <;> iassumption
  hin c := by
    rw [show (pdats V B 0 c).Φ 0 = Φc c from rfl]
    iintro ⟨-, -, Hr⟩; iexact Hr
  hout c := by
    rw [Pipeline.ownSems0_none, show (pdats V B 0 c).Φ (Fin.last _) = Φc c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) (launch1).win (launch1).arr_whole c
      (pdats V B) ((pdats V B 0 c).share_full fun _ => rfl) (V c) (Vp c) ((pdats V B 0 c).arrAt · cfg1.N)
      (fun w => by
        fin_cases w
        · exact ((pdats V B 0 c).arrAt_in 0 rfl _).trans (hVp_ne c main_v0 (by decide)).symm
        · exact ((pdats V B 0 c).arrAt_in 1 rfl _).trans (hVp_ne c main_v1 (by decide)).symm
        · exact (arrAt_out V B c).trans (hVp_out c).symm)
      (fun b hb => hVp_ne c b fun h => hb (h ▸ Finset.mem_image.mpr ⟨2, Finset.mem_univ _, rfl⟩))
    iintro ⟨Ha, HO, -, Hrest, HR⟩
    imodintro
    isplitl [Ha Hrest]
    · iapply hjoin; isplitl [Ha] <;> iassumption
    isplitl [HR]; · iexact HR
    unfold Pipeline.Dat.owesAt Pipeline.owesWithin
    icases HO with ⟨%W, %hW, HO⟩; iexists W; isplitr
    · ipureintro
      intro p hp
      rcases hW hp with h | h
      · exact .inl h
      · obtain ⟨w, s, rfl⟩ := h; exact .inr rfl
    iexact HO

end Cert.Proof.Hist

end
-- ==== Proof.Launch.lean ====
/-
  The whole program's run: the SparseCore's call, the reshape of the estimator, the TensorCore's region, and the
  reshape of its result, with the value the result ends at.
-/
module

public import proofs.«01_k».proof.Proof.Deal
public import proofs.«01_k».proof.Proof.Region

@[expose] public section

noncomputable section

namespace Cert.Proof.Hist

open Cert.KernelIdeal Cert.KernelIdeal.Gen
open Idealize.ShloMosaic
open Idealize.ShloMosaic.TcCoe
open Idealize.ShloMosaic.StableHlo (held)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## The launch's ghost state -/

/-- The handshakes' rounds and the pipeline's. -/
def u₀ : UU := (initOf (K (F := F)).hsCells (K (F := F)).hsToks,
  (initOf (Pipeline.cells (nD := nD) (τ := τ) cfgs cellOf_inj) (Pipeline.launchToks (nD := nD) (τ := τ) cfgs cellOf_inj), 1))

/-- What @main takes beside the handshakes: the pipeline's ghost state on its core. -/
def G (d : Dev nD) : sProp 𝕄 := iprop(Pipeline.cellsGhost cfgs (EP (F := F)) 0 d ∗ Pipeline.toksInit cfgs (EP (F := F)) 0 d)

variable (m : (ℓ : Loc nD τ sig) → Buf (Elt F) ℓ) (ρ : Dev nD → PrngReg)

/-- The middle factor's element, owned through the two halves it lies in. -/
theorem own_EP (a : UP) (b : Counters) : (BI.own ((embR : Emb (UP × Counters) 𝕄) (a, b)) : sProp 𝕄) ⊢ BI.own ((EP (F := F)) a) :=
  (own_pair_emb embR a b).trans sep_elim_left

theorem own_split (h : UH) (a : UP) (b : Counters) :
    (ownU ((h, (a, b)) : UU) : sProp 𝕄) ⊢ iprop(BI.own ((EH (F := F)) h) ∗ BI.own ((EP (F := F)) a)) :=
  (ownU_pair h (a, b)).trans (sep_mono .rfl (own_EP a b))

theorem G_intro :
    (iprop((bigSep Finset.univ fun d : Dev nD => bigSep Finset.univ fun p : Fin 1 => Pipeline.cellsGhost cfgs (EP (F := F)) p d)
        ∗ (bigSep Finset.univ fun d : Dev nD => bigSep Finset.univ fun p : Fin 1 => Pipeline.toksInit cfgs (EP (F := F)) p d)) : sProp 𝕄)
      ⊢ bigSep Finset.univ fun d : Dev nD => G (F := F) d := by
  have h1 : ∀ Φ : Dev nD → Fin 1 → sProp 𝕄, (bigSep Finset.univ fun d => bigSep Finset.univ fun p => Φ d p) = bigSep Finset.univ fun d => Φ d 0 :=
    fun Φ => bigSep_congr fun d _ => by rw [show (Finset.univ : Finset (Fin 1)) = {0} by decide, bigSep_singleton]
  rw [h1 fun d p => Pipeline.cellsGhost cfgs (EP (F := F)) p d, h1 fun d p => Pipeline.toksInit cfgs (EP (F := F)) p d, ← bigSep_sep']
  exact .rfl

theorem x_intro : (iprop(emp) : sProp 𝕄) ⊢ bigSep Finset.univ fun thr : Thread nD τ => bigSep Finset.univ fun q : Fin 1 => (P m).x q thr := by
  have h : ∀ {I : Type} (s : Finset I), (bigSep s fun _ => iprop(emp)) = (iprop(emp) : sProp 𝕄) := fun s => bigSep_emp_const s
  show _ ⊢ bigSep Finset.univ fun _ : Thread nD τ => bigSep Finset.univ fun _ : Fin 1 => (iprop(emp) : sProp 𝕄)
  rw [bigSep_congr fun _ _ => h _, h]

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  iintro Hu
  ihave H := (own_split _ _ _) $$ Hu
  icases H with ⟨HH, HP⟩
  imod (Pipeline.fund_ghost cfgs (EP (F := F)) cellOf_inj) $$ HP with HG
  imodintro
  isplitl [HH]; · iexact HH
  isplitl [HG]
  · iapply G_intro; iexact HG
  iapply (x_intro m); iempintro

/-! ## The buffers' contents along @main -/

abbrev x' : DevRef τ sig := Proc.devRef .tc (main_arg0 : Ref sig .tc)
abbrev e' : DevRef τ sig := Proc.devRef .tc (main_arg1 : Ref sig .tc)
abbrev p' : DevRef τ sig := Proc.devRef .tc (main_v0 : Ref sig .tc)
abbrev r' : DevRef τ sig := Proc.devRef .tc (main_v1 : Ref sig .tc)
abbrev s' : DevRef τ sig := Proc.devRef .tc (main_v2 : Ref sig .tc)
abbrev o' : DevRef τ sig := Proc.devRef .tc (main_v3 : Ref sig .tc)

abbrev opIn : HloOp τ sig (Elt F) := StableHlo.reshape main_arg1 main_v1 rfl shapeCasts_S100000_S1x100000
abbrev opOut : HloOp τ sig (Elt F) := StableHlo.reshape main_v2 main_v3 rfl shapeCasts_S1x1_S_

/-- At the launch; after the call; after the first reshape; after the region; at the end. -/
def V0 (d : Dev nD) : Valuation τ sig (Elt F) := fun b => m (d, b)
def V1 (d : Dev nD) : Valuation τ sig (Elt F) := Function.update (V0 m d) p' (partsOf m d)
def V2 (d : Dev nD) : Valuation τ sig (Elt F) := opIn.result (V1 m d)
def V2r (d : Dev nD) (b : Ref sig .tc) : Buf (Elt F) ((d : Thread nD τ).loc b) := V2 m d b
def bits (d : Dev nD) : F .f32 := k1_pay1 (stg0 (V2r m) d) (stg1 (V2r m) d)
def V3 (d : Dev nD) : Valuation τ sig (Elt F) := Function.update (V2 m d) s' (fun _ => bits m d)
def V4 (d : Dev nD) : Valuation τ sig (Elt F) := opOut.result (V3 m d)

theorem ucRefs_eq : Pipeline.ucRefs τ sig = {x', e', p', r', s', o'} := by
  unfold Pipeline.ucRefs StableHlo.tcRefs
  rw [Finset.filter_map]
  have h : (Finset.univ.filter fun b : Ref sig .tc => ¬ b.isScoped) = {main_arg0, main_arg1, main_v0, main_v1, main_v2, main_v3} := by decide
  exact congrArg (Finset.map _) h

theorem held_six (d : Dev nD) (W : Valuation τ sig (Elt F)) :
    (held (SparseCore.T d) (Pipeline.ucRefs τ sig) W : sProp 𝕄)
      = iprop((xLoc d ↦{fullShare} W x') ∗ ((SparseCore.T d).loc main_arg1 ↦{fullShare} W e') ∗ (pLoc d ↦{fullShare} W p')
        ∗ ((SparseCore.T d).loc main_v1 ↦{fullShare} W r') ∗ ((SparseCore.T d).loc main_v2 ↦{fullShare} W s') ∗ (SparseCore.T d).loc main_v3 ↦{fullShare} W o') := by
  unfold held
  rw [ucRefs_eq, SparseCore.bigSep_insert' (by decide), SparseCore.bigSep_insert' (by decide), SparseCore.bigSep_insert' (by decide),
    SparseCore.bigSep_insert' (by decide), SparseCore.bigSep_insert' (by decide), bigSep_singleton]

theorem unscoped_held (d : Dev nD) (W : Valuation τ sig (Elt F)) :
    (unscopedBufs d (fun b => W b) : sProp 𝕄) = held (SparseCore.T d) (Pipeline.ucRefs τ sig) W :=
  Pipeline.unscopedBufs_held d W

theorem V1_ne (d : Dev nD) (b : DevRef τ sig) (h : b ≠ p') : V1 m d b = m (d, b) := Function.update_of_ne h _ _
theorem V1_p (d : Dev nD) : V1 m d p' = partsOf m d := Function.update_self _ _ _

theorem hIn : (opIn (F := F)).bufs ⊆ Pipeline.ucRefs τ sig := by
  rw [ucRefs_eq]; show ({e', r'} : Finset (DevRef τ sig)) ⊆ _; decide
theorem hOut : (opOut (F := F)).bufs ⊆ Pipeline.ucRefs τ sig := by
  rw [ucRefs_eq]; show ({s', o'} : Finset (DevRef τ sig)) ⊆ _; decide

/-! ## The region, at @main's point -/

/-- The TensorCore's waits that lie below the later calls. -/
def Bnd (d : Dev nD) : Set (SemLoc sig × HIx 1) := {p | (K (F := F)).lev (SparseCore.T d, p.1) p.2 ≤ 8 * 1}

/-- What the TensorCore keeps of the handshakes beside its recorded waits, after the call. -/
def tcRest (d : Dev nD) : sProp 𝕄 :=
  iprop(atPos EH ((K (F := F)).doneCell d) 1 ∅ 0 ∗ reached EH ((K (F := F)).doneCell d) 1
    ∗ (bigSep Finset.univ fun c : Fin τ.nSC => reached EH ((K (F := F)).startCell d c) ((K (F := F)).sRank c 1))
    ∗ bigSep (SparseCore.Cfg.callsFrom 1) fun q : Fin 1 => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))

theorem Otc_one (d : Dev nD) : ((K (F := F)).Otc d 1 : CellTallies nD τ sig (HIx 1)) = 0 := by
  unfold SparseCore.Cfg.Otc
  exact Finset.sum_eq_zero fun q _ => if_neg (by have := q.isLt; omega)

theorem tcSt_one (d : Dev nD) :
    ((K (F := F)).tcSt EH d 1 : sProp 𝕄)
      = iprop((∃ W : Waits sig (HIx 1), ⌜∀ p ∈ W, p ∈ Bnd (F := F) d⌝ ∗ owes (SparseCore.T d) (0 : CellTallies nD τ sig (HIx 1)) W) ∗ tcRest (F := F) d) := by
  unfold SparseCore.Cfg.tcSt tcRest
  rw [Otc_one]
  rfl

/-- The region from the contents after the first reshape to those before the second. -/
def region : Pipeline.RegionSeg (pcfgs (F := F)) adm (pdats (V2r m) (Bnd (F := F))) (none : HIx 1) defs₀ 𝒱₀ (K (F := F)).L (K (F := F)).lev 0 :=
  reg (V2r m) (Bnd (F := F)) (fun d b => V3 m d b) (fun _ => iprop(emp))
    (fun d => Function.update_self _ _ _)
    (fun d b hb => Function.update_of_ne (fun h => hb (Proc.devRef_injective _ h)) _ _)

/-- The region's call in @main: the buffers go from their contents before it to those after it. -/
theorem region_wp [∀ e, Nonempty (Elt F e)] (d : Dev nD) (Q : PUnit → sProp 𝕄) :
    iprop((iprop(boundary (SparseCore.T d) ∗ held (SparseCore.T d) (Pipeline.ucRefs τ sig) (V3 m d) ∗ (K (F := F)).tcSt EH d 1) -∗ Q ⟨⟩)
        ∗ boundary (SparseCore.T d) ∗ held (SparseCore.T d) (Pipeline.ucRefs τ sig) (V2 m d) ∗ (K (F := F)).tcSt EH d 1
        ∗ levAts (K (F := F)).L (K (F := F)).lev ∗ G (F := F) d)
      ⊢ wp frame (wpE ((K (F := F)).defs (D (F := F))) 𝒱 (SparseCore.T d) none) Set.univ
          (Prog.lift (.customCall (SparseCore.inner (Pipeline.entry 0)) ())) Q := by
  have hl : wp frame (wpE (D (F := F)) 𝒱 (SparseCore.T d) none) Set.univ
      (.op (.customCall (Pipeline.entry 0) ()) .ret : Prog (TpuEff nD τ sig (Elt F) (ΛP (F := F)) (SparseCore.T d : Thread nD τ).2) PUnit) Q
      ⊢ wp frame (wpE ((K (F := F)).defs (D (F := F))) 𝒱 (SparseCore.T d) none) Set.univ
          (Prog.lift (.customCall (SparseCore.inner (Pipeline.entry 0)) ())) Q :=
    (K (F := F)).wp_liftProg (D (F := F)) 𝒱 (SparseCore.T d) Set.univ none
      (.op (.customCall (Pipeline.entry 0) ()) .ret) Q
  refine BI.Entails.trans ?_ hl
  refine BI.Entails.trans ?_ (Pipeline.RegionSeg.wp (pcfgs (F := F)) adm (pdats (V2r m) (Bnd (F := F))) (none : HIx 1) cellOf_inj (EP (F := F))
    defs₀ 𝒱₀ (K (F := F)).L (K (F := F)).lev (region m) d none (fun u h => nomatch h) .ret Q)
  show _ ⊢ iprop((iprop(boundary (SparseCore.T d) ∗ unscopedBufs d (fun b => V3 m d b) ∗ iprop(emp)
        ∗ ∃ W : Waits sig (HIx 1), ⌜∀ p ∈ W, p ∈ Bnd (F := F) d ∨ p.2 = none⌝ ∗ owes (SparseCore.T d) (0 : CellTallies nD τ sig (HIx 1)) W) -∗ wp _ _ _ _ _)
      ∗ boundary (SparseCore.T d) ∗ (unscopedBufs d (fun b => V2 m d b) ∗ iprop(emp)
        ∗ ∃ W : Waits sig (HIx 1), ⌜∀ p ∈ W, p ∈ Bnd (F := F) d⌝ ∗ owes (SparseCore.T d) (0 : CellTallies nD τ sig (HIx 1)) W) ∗ _ ∗ _ ∗ _)
  rw [unscoped_held, unscoped_held, tcSt_one]
  unfold G
  iintro ⟨Hk, Hb, Hh, ⟨HO, Hr⟩, Hlv, Hc, Ht⟩
  isplitl [Hk Hr]
  · iintro ⟨Hb, Hh, -, %W, %hW, HO⟩
    rw [wp_ret]; imodintro
    iapply Hk
    isplitl [Hb]; · iexact Hb
    isplitl [Hh]; · iexact Hh
    isplitr [Hr]
    · iexists W; isplitr
      · ipureintro
        intro p hp
        rcases hW p hp with h | h
        · exact h
        · show (K (F := F)).lev (SparseCore.T d, p.1) p.2 ≤ 8 * 1
          rw [h, SparseCore.Cfg.lev_none]; exact Nat.zero_le _
      iexact HO
    iexact Hr
  isplitl [Hb]; · iexact Hb
  isplitl [Hh HO]
  · isplitl [Hh]; · iexact Hh
    isplitr; · iempintro
    iexact HO
  isplitl [Hlv]; · iexact Hlv
  isplitl [Hc]; · iexact Hc
  iexact Ht

/-! ## @main -/

/-- What @main leaves the claim: every buffer at its last contents. -/
abbrev FIN (d : Dev nD) : sProp 𝕄 := held (SparseCore.T d) (Pipeline.ucRefs τ sig) (V4 m d)

theorem held_V1 (d : Dev nD) :
    (iprop((xLoc d ↦{fullShare} m (xLoc d)) ∗ ((SparseCore.T d).loc main_arg1 ↦{fullShare} m ((SparseCore.T d).loc main_arg1)) ∗ (pLoc d ↦{fullShare} partsOf m d)
        ∗ ((SparseCore.T d).loc main_v1 ↦{fullShare} m ((SparseCore.T d).loc main_v1)) ∗ ((SparseCore.T d).loc main_v2 ↦{fullShare} m ((SparseCore.T d).loc main_v2))
        ∗ (SparseCore.T d).loc main_v3 ↦{fullShare} m ((SparseCore.T d).loc main_v3)) : sProp 𝕄)
      ⊢ held (SparseCore.T d) (Pipeline.ucRefs τ sig) (V1 m d) := by
  rw [held_six, V1_p, V1_ne m d x' (by decide), V1_ne m d e' (by decide), V1_ne m d r' (by decide), V1_ne m d s' (by decide), V1_ne m d o' (by decide)]

/-- @main on its TensorCore: the call, the reshape, the region, the reshape. -/
theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = held (SparseCore.T d) (Pipeline.ucRefs τ sig) (V0 m d) from unscoped_held d (V0 m d)]
  simp only [main, wp_bind, wp_pure]
  iintro ⟨#Hctx, Hst, ⟨Hb, Hheld, Hts, -⟩, HG⟩
  ihave Hlv := (SparseCore.Cfg.ctx_levAts κ) $$ Hctx
  ihave Hh := (Entails.of_eq (held_six (F := F) d _)) $$ Hheld
  icases Hh with ⟨Hx, He, Hp, Hr, Hs, Ho⟩
  iapply ((K (F := F)).wp_run (D (F := F)) 𝒱 (EH := EH) (P := P m) κ d 0) $$ [Hst Hx He Hp Hr Hs Ho Hb Hts HG Hlv]
  isplitr; · iexact Hctx
  isplitl [Hst]; · iexact Hst
  isplitl [Hx Hp]
  · iapply (st_intro m d _)
    isplitl [Hx]; · iexact Hx
    iexact Hp
  iintro ⟨Hst, Hdn⟩
  ihave Hdn' := (dn_elim m d) $$ Hdn
  icases Hdn' with ⟨Hx, Hp⟩
  ihave Hheld := (held_V1 m d) $$ [Hx He Hp Hr Hs Ho]
  · isplitl [Hx]; · iexact Hx
    isplitl [He]; · iexact He
    isplitl [Hp]; · iexact Hp
    isplitl [Hr]; · iexact Hr
    isplitl [Hs]; · iexact Hs
    iexact Ho
  iapply (StableHlo.wp_hlo_within 𝒱 (SparseCore.T d) none Set.univ (op := opIn) (S := Pipeline.ucRefs τ sig) hIn (V := V1 m d)) $$ [Hb Hheld]
  · isplitl [Hb]; · iexact Hb
    iexact Hheld
  iintro ⟨Hb, Hheld⟩
  rw [wp_ret]; imodintro
  iapply (region_wp m d)
  isplitl [Hts]
  · iintro ⟨Hb, Hheld, Hst⟩
    iapply (StableHlo.wp_hlo_within 𝒱 (SparseCore.T d) none Set.univ (op := opOut) (S := Pipeline.ucRefs τ sig) hOut (V := V3 m d)) $$ [Hb Hheld]
    · isplitl [Hb]; · iexact Hb
      iexact Hheld
    iintro ⟨Hb, Hheld⟩
    rw [wp_ret]; imodintro; imodintro
    isplitl [Hst]; · iexact Hst
    isplitl [Hheld]; · iexact Hheld
    isplitl [Hb] <;> iassumption
  isplitl [Hb]; · iexact Hb
  isplitl [Hheld]; · iexact Hheld
  isplitl [Hst]; · iexact Hst
  isplitl [Hlv]; · iexact Hlv
  iexact HG

/-! ## What the launch leaves -/

theorem V4_in (d : Dev nD) (b : DevRef τ sig) (hp : b ≠ p') (hr : b ≠ r') (hs : b ≠ s') (ho : b ≠ o') : V4 m d b = m (d, b) := by
  unfold V4
  rw [HloOp.result_of_not_mem (op := opOut) _ (by show b ∉ ({o'} : Finset (DevRef τ sig)); simpa using ho)]
  unfold V3
  rw [Function.update_of_ne hs]
  unfold V2
  rw [HloOp.result_of_not_mem (op := opIn) _ (by show b ∉ ({r'} : Finset (DevRef τ sig)); simpa using hr)]
  exact V1_ne m d b hp

/-- The final memory: the arguments as they began, the result at its last contents. -/
def fq (d : Dev nD) (s : Phys nD τ sig (Elt F)) : Prop :=
  s.mem.mem (xLoc d) = m (xLoc d)
    ∧ s.mem.mem ((SparseCore.T d).loc main_arg1) = m ((SparseCore.T d).loc main_arg1)
    ∧ s.mem.mem ((SparseCore.T d).loc main_v3) = V4 m d o'

theorem hfin (d : Dev nD) (s : Phys nD τ sig (Elt F)) : iprop(FIN m d ∗ SI s) ⊢ (⌜fq m d s⌝ : sProp 𝕄) := by
  have hF := held_six (F := F) d (V4 m d)
  rw [V4_in m d x' (by decide) (by decide) (by decide) (by decide), V4_in m d e' (by decide) (by decide) (by decide) (by decide)] at hF
  have hx : iprop(FIN m d ∗ SI s) ⊢ (⌜s.mem.mem (xLoc d) = m (xLoc d)⌝ : sProp 𝕄) := by
    rw [show FIN m d = _ from hF]
    iintro ⟨⟨H, -, -, -, -, -⟩, HSI⟩
    ihave H := (SI_pointsTo_agree (st := s) (ℓ := (xLoc d)) (I := Finset.univ) (q := fullShare) (f := m (xLoc d))) $$ [HSI H]
    · isplitl [HSI] <;> iassumption
    icases H with %h
    ipureintro
    exact funext fun i => h i (Finset.mem_univ i)
  have he : iprop(FIN m d ∗ SI s) ⊢ (⌜s.mem.mem ((SparseCore.T d).loc main_arg1) = m ((SparseCore.T d).loc main_arg1)⌝ : sProp 𝕄) := by
    rw [show FIN m d = _ from hF]
    iintro ⟨⟨-, H, -, -, -, -⟩, HSI⟩
    ihave H := (SI_pointsTo_agree (st := s) (ℓ := ((SparseCore.T d).loc main_arg1)) (I := Finset.univ) (q := fullShare) (f := m ((SparseCore.T d).loc main_arg1))) $$ [HSI H]
    · isplitl [HSI] <;> iassumption
    icases H with %h
    ipureintro
    exact funext fun i => h i (Finset.mem_univ i)
  have ho : iprop(FIN m d ∗ SI s) ⊢ (⌜s.mem.mem ((SparseCore.T d).loc main_v3) = V4 m d o'⌝ : sProp 𝕄) := by
    rw [show FIN m d = _ from hF]
    iintro ⟨⟨-, -, -, -, -, H⟩, HSI⟩
    ihave H := (SI_pointsTo_agree (st := s) (ℓ := ((SparseCore.T d).loc main_v3)) (I := Finset.univ) (q := fullShare) (f := V4 m d o')) $$ [HSI H]
    · isplitl [HSI] <;> iassumption
    icases H with %h
    ipureintro
    exact funext fun i => h i (Finset.mem_univ i)
  exact fun a h => ⟨hx a h, he a h, ho a h⟩

/-- The claim's final states. -/
def QC : PUnit × MemSt nD τ sig (Elt F) → Prop := fun r =>
  (∀ d : Dev nD, r.2.mem (xLoc d) = m (xLoc d) ∧ r.2.mem ((SparseCore.T d).loc main_arg1) = m ((SparseCore.T d).loc main_arg1)
    ∧ r.2.mem ((SparseCore.T d).loc main_v3) = V4 m d o') ∧ r.2.sem = fun _ => 0

/-- Every execution from a memory whose indices name symbols ends at those states. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hpre)
    (fun q _ => match q with | 0 => SparseCore.Cfg.VecSplit.of_plain (vecSplit m))
    m ρ main (G (F := F)) (FIN m) (u₀ (F := F)) (sep_elim_left.trans (hu₀ m)) (hmain m ρ) (fq m) (hfin m) (QC m) (fun _ h hz => ⟨h, hz⟩)

end Cert.Proof.Hist

end
-- ==== Proof.Pre.lean ====
/-
  The claims' precondition, read element by element: every index names a symbol of the codebook.
-/
module

public import proofs.«01_k».proof.Proof.Launch
public import proofs.«01_k».proof.Defs
public import proofs.«01_k».proof.Proof.Gen.Pre_in_range
public import Idealize.ShloMosaic.Lib.ReduceAll
public import Idealize.ShloMosaic.Lib.WordCmp

@[expose] public section

noncomputable section

namespace Cert.Proof.Hist

open Cert.KernelIdeal Cert.KernelIdeal.Gen
open Idealize.ShloMosaic

variable {F : FTy → Type} [FloatOps F]

instance : Subsingleton Cert.Pre_in_range.S_.Idx := ⟨fun _ _ => funext fun a => a.elim0⟩

/-- Where the precondition's function is all ones, every index lies below 100000. -/
theorem bins_of_pre (A : IVec S16384x200 32) (e : FVec F S100000 .f32)
    (h : Cert.Pre_in_range.fn (F := F) A e = fun _ => 1#1) : AllBins A := by
  intro x
  have j : Cert.Pre_in_range.S_.Idx := fun a => a.elim0
  have hj := congrFun h j
  unfold Cert.Pre_in_range.fn at hj
  have h1 := Host.reduce_andi_all _ _ _ _ j hj x
  replace h1 : IntOp.andi (IntOp.cmpi .sge (A x) 0#32) (IntOp.cmpi .slt (A x) (BitVec.ofNat 32 100000)) = 1#1 := h1
  rw [WordCmp.andi_sge_zero_slt_ofNat (w := 32) (k := 100000) (by decide) (A x)] at h1
  by_contra hn
  rw [decide_eq_false hn] at h1
  exact absurd h1 (by decide)

theorem preOK_kernel (m : (ℓ : Loc Cert.Kernel.nD Cert.Kernel.τ Cert.Kernel.sig) → Buf (Elt Bits) ℓ) (h : Cert.Pre_Kernel m) :
    PreOK (F := Bits) m := fun d => bins_of_pre _ _ (h d)

theorem preOK_kernelIdeal (m : (ℓ : Loc nD τ sig) → Buf (Elt Ideal) ℓ) (h : Cert.Pre_KernelIdeal m) :
    PreOK (F := Ideal) m := fun d => bins_of_pre _ _ (h d)

end Cert.Proof.Hist

end
-- ==== Proof.Same.lean ====
module
public import proofs.«01_k».proof.Kernel
public import proofs.«01_k».proof.KernelIdeal
public import proofs.«01_k».proof.Proof.Gen.Kernel
public import proofs.«01_k».proof.Proof.Gen.KernelIdeal
@[expose] public section

/-! # One program, two texts

The program as compiled and the program of the idealized run are printed in two namespaces.  No
operation was exchanged between the two, so the texts are the same program: the theorems here say so
one definition at a time, and a run proved of the second is a run of the first. -/

noncomputable section
namespace Cert.Proof.Same
open Idealize.ShloMosaic Idealize.SL.Sem
variable {F : FTy → Type} [FloatOps F]

set_option maxHeartbeats 4000000 in
/-- The body of the finalizing call is the same program in both texts. -/
theorem finalize_eq : @Cert.Kernel.cc1__finalize_body F _ Cert.Kernel.Gen.facts
    = @Cert.KernelIdeal.cc1__finalize_body F _ Cert.KernelIdeal.Gen.facts := rfl

set_option maxHeartbeats 4000000 in
/-- The body of the histogram call is the same program in both texts. -/
theorem hist_eq : @Cert.Kernel.cc0_hist_kernel F _ Cert.Kernel.Gen.facts
    = @Cert.KernelIdeal.cc0_hist_kernel F _ Cert.KernelIdeal.Gen.facts := rfl

set_option maxHeartbeats 4000000 in
/-- The table of the kernels' bodies is the same in both texts. -/
theorem bodies_eq : Cert.Kernel.defs₀ (F := F) = Cert.KernelIdeal.defs₀ (F := F) := by
  funext p ℓ a
  unfold Cert.Kernel.defs₀ Cert.KernelIdeal.defs₀
  rw [finalize_eq, hist_eq]
  rcases p with _ | _ | _ <;> rcases ℓ with ⟨_ | _ | n, h⟩
  all_goals first | rfl | exact absurd h (by show ¬ _ < 2; omega)

set_option maxHeartbeats 4000000 in
/-- The pipelines' settings are the same in both texts. -/
theorem pcfgs_eq : Cert.Kernel.pcfgs (F := F) = Cert.KernelIdeal.pcfgs (F := F) := rfl

set_option maxHeartbeats 4000000 in
/-- The SparseCore call's settings are the same in both texts. -/
theorem sc_eq : Cert.Kernel.sc (F := F) = Cert.KernelIdeal.sc (F := F) := rfl

set_option maxHeartbeats 4000000 in
/-- The whole table of definitions is the same in both texts. -/
theorem defs_eq : Cert.Kernel.defs (F := F) = Cert.KernelIdeal.defs (F := F) := by
  unfold Cert.Kernel.defs Cert.KernelIdeal.defs
  rw [bodies_eq]
  rfl

set_option maxHeartbeats 4000000 in
/-- Every thread runs the same program in both texts. -/
theorem threads_eq : Cert.Kernel.threads (F := F) = Cert.KernelIdeal.threads (F := F) := rfl

/-- A run proved of the idealized text is a run of the compiled text. -/
theorem run_kernel (m ρ) (Q : _ → Prop)
    (h : θ_run (Cert.KernelIdeal.defs (F := F)) (Cert.KernelIdeal.threads (F := F)) ⟨m, fun _ => 0, ρ⟩ Q) :
    θ_run (Cert.Kernel.defs (F := F)) (Cert.Kernel.threads (F := F)) ⟨m, fun _ => 0, ρ⟩ Q := by
  rw [defs_eq, threads_eq]
  exact h

end Cert.Proof.Same
end
-- ==== Proof.Entropy.lean ====
/-
  The mathematics of the value: how often a bin occurs among the indices, and the rate the program computes of those
  numbers over the extended reals.

  A sum over all indices of a function of the bin each names is the sum over the bins of the function times the bin's
  number of occurrences (`sum_occ`); the thirty-two tiles' counts of a bin add up to that number (`tiles_occ`).
-/
module

public import proofs.«01_k».proof.Proof.Count
public import proofs.«01_k».proof.Proof.Tile
public import Idealize.ShloMosaic.Lib.ValueIdx
public import Idealize.ShloMosaic.PureOps.Ideal.Laws

@[expose] public section

noncomputable section

namespace Cert.Proof.Hist

open Cert.KernelIdeal Cert.KernelIdeal.Gen
open Idealize.ShloMosaic Idealize.ShloMosaic.ValueIdx

/-! ## Occurrences -/

/-- How many of the indices name bin `v`. -/
def occ (X : IVec S16384x200 32) (v : ℕ) : ℕ := ∑ x : S16384x200.Idx, if (X x).toNat = v then 1 else 0

/-- A bin occurs no more often than there are indices. -/
theorem occ_le (X : IVec S16384x200 32) (v : ℕ) : occ X v ≤ 3276800 := by
  unfold occ
  rw [sum_idx2]
  refine (Finset.sum_le_sum fun a _ => Finset.sum_le_sum fun b _ => (show _ ≤ 1 by split <;> omega)).trans ?_
  simp

/-- The rows' hits add up to the occurrences. -/
theorem cnt_all (X : IVec S16384x200 32) (v : ℕ) : cnt X 0 16384 v = occ X v := by
  unfold cnt occ
  rw [sum_idx2, Finset.sum_range]
  refine Finset.sum_congr rfl fun a _ => ?_
  unfold rowHits
  rw [dif_pos (by rw [zero_add]; exact a.isLt)]
  refine Finset.sum_congr rfl fun b _ => ?_
  simp only [zero_add]

theorem cnt_tiles (X : IVec S16384x200 32) (v n : ℕ) : ∑ a ∈ Finset.range n, cnt X (512 * a) 512 v = cnt X 0 (512 * n) v := by
  induction n with
  | zero => rw [Finset.sum_range_zero, Nat.mul_zero, cnt_zero]
  | succ n ih => rw [Finset.sum_range_succ, ih, Nat.mul_succ, cnt_add, zero_add]

/-- The thirty-two tiles' counts of a bin add up to its occurrences. -/
theorem tiles_occ (X : IVec S16384x200 32) (v : ℕ) : ∑ a : Fin 32, cnt X (512 * a.val) 512 v = occ X v := by
  rw [← cnt_all, ← cnt_tiles X v 32, Finset.sum_range]

/-- A sum over the indices of a function of the bin each names, over the bins. -/
theorem sum_occ (X : IVec S16384x200 32) (hX : AllBins X) (f : ℕ → EReal) :
    ∑ x : S16384x200.Idx, f (X x).toNat = ∑ v : Fin 100000, ((occ X v.val : ℝ) : EReal) * f v.val := by
  have h1 : ∀ x, f (X x).toNat = ∑ v : Fin 100000, if (X x).toNat = v.val then f v.val else 0 := fun x => by
    rw [Finset.sum_eq_single (⟨(X x).toNat, hX x⟩ : Fin 100000)]
    · rw [if_pos rfl]
    · intro v _ hv
      exact if_neg fun h => hv (Fin.ext h.symm)
    · exact fun h => absurd (Finset.mem_univ _) h
  rw [Finset.sum_congr rfl fun x _ => h1 x, Finset.sum_comm]
  refine Finset.sum_congr rfl fun v _ => ?_
  unfold occ
  rw [← Finset.sum_filter, Finset.sum_const, ← Finset.sum_filter, Finset.sum_const, smul_eq_mul, mul_one, EReal.nsmul_eq_mul]
  rfl

/-! ## The rate -/

/-- The smoothed count of bin `v`: the running count, the occurrences, and the smoothing constant. -/
def smooth (e : FVec Ideal S100000 .f32) (n : ℕ → ℕ) (v : Fin 100000) : EReal :=
  e (ix1 v) + ((n v.val : ℝ) : EReal) + Ideal.ofBits .f32 0x322BCC77#32

/-- The logarithm of bin `v`'s probability, the probability kept away from zero. -/
def logp (e : FVec Ideal S100000 .f32) (n : ℕ → ℕ) (v : Fin 100000) : EReal :=
  Ideal.log (max (Ideal.div (smooth e n v) (∑ u : Fin 100000, smooth e n u)) (Ideal.ofBits .f32 0x2EDBE6FF#32))

/-- The mean number of bits: the bins' bits weighted by their occurrences, over the number of indices. -/
def rate (e : FVec Ideal S100000 .f32) (n : ℕ → ℕ) : EReal :=
  Ideal.div (∑ v : Fin 100000, ((n v.val : ℝ) : EReal) * (logp e n v * Ideal.ofBits .f32 0xBFB8AA3B#32)) (Ideal.ofBits .f32 0x4A480000#32)

/-- The two programs' factors of the logarithm differ in the sign alone. -/
theorem factor_neg : Ideal.ofBits .f32 0xBFB8AA3B#32 = -Ideal.ofBits .f32 0x3FB8AA3B#32 := by
  simp [Ideal.ofBits, Ideal.ieee]

end Cert.Proof.Hist

end
-- ==== Proof.Finalize.lean ====
/-
  The finalizing call's value over the extended reals: the rate of the bins' numbers, where the table's thirty-two rows
  add up to them.
-/
module

public import proofs.«01_k».proof.Proof.Entropy
public import proofs.«01_k».proof.Proof.Launch
public import Idealize.ShloMosaic.Lib.WordSum
public import Idealize.ShloMosaic.Lib.WordCmp
public import Idealize.ShloMosaic.Lib.Pipeline.Value

@[expose] public section

noncomputable section

namespace Cert.Proof.Hist

open Cert.KernelIdeal Cert.KernelIdeal.Gen
open Idealize.ShloMosaic Idealize.ShloMosaic.ValueIdx

/-- The sum of a row: the reduction of both axes, read back as a scalar, is the sum of the row's elements. -/
theorem row_total (x : FVec Ideal S1x100000 .f32) :
    extractAt ![0, 0, 0] (shapeCast S1x1x1 (multiReduction .add [1, 2] S1 (shapeCast S1x1x100000 x shapeCasts_S1x100000_S1x1x100000)
      0x00000000#32 reduces_S1x1x100000_S1 (.inl rfl) rfl) shapeCasts_S1_S1x1x1) inpos_S1x1x1_p0_0_0
      = ∑ v : Fin 100000, x (ix2 0 v) := by
  refine (Ideal.multiReduction_add_total (shapeCast S1x1x100000 x shapeCasts_S1x100000_S1x1x100000) 0x00000000#32 reduces_S1x1x100000_S1
    (fun b => match b with | ⟨0, _⟩ => rfl) (.inl rfl) rfl _).trans ?_
  refine (Equiv.sum_comp (Shape.reshapeEquiv shapeCasts_S1x100000_S1x1x100000) x).trans ?_
  rw [sum_idx2, Fin.sum_univ_one]

/-- An index of the table drops to the column it lies in. -/
theorem drop_col (a : Fin 32) (b v : Fin 100000) : reduces_S32x100000_S100000.drop (ix2 a b) = ix1 v ↔ b = v := by
  constructor
  · intro h
    exact Fin.ext ((Shape.Reduces.drop_val reduces_S32x100000_S100000 (ix2 a b) 0).symm.trans (congrArg Fin.val (congrFun h 0)))
  · rintro rfl
    funext c
    match c with
    | ⟨0, _⟩ => exact Fin.ext (Shape.Reduces.drop_val reduces_S32x100000_S100000 (ix2 a b) 0)

/-- The elements that reduce to a column's sum are the column's. -/
theorem col_sum (f : S32x100000.Idx → ℕ) (v : Fin 100000) :
    ∑ i ∈ Finset.univ.filter (fun i => reduces_S32x100000_S100000.drop i = ix1 v), f i = ∑ a : Fin 32, f (ix2 a v) := by
  rw [Finset.sum_filter, sum_idx2]
  refine Finset.sum_congr rfl fun a _ => ?_
  rw [Finset.sum_eq_single v]
  · exact if_pos ((drop_col a v v).mpr rfl)
  · intro b _ hb
    exact if_neg fun h => hb ((drop_col a b v).mp h)
  · exact fun h => absurd (Finset.mem_univ _) h

/-- The sum of the table's rows, as words: bin `v` holds the word of `n v` where its column adds up to `n v`. -/
theorem col_total (A : IVec S32x100000 32) (n : ℕ → ℕ) (hn : ∀ v, n v ≤ 3276800)
    (hA : ∀ v : Fin 100000, ∑ a : Fin 32, (A (ix2 a v)).toNat = n v.val) (v : Fin 100000) :
    multiReductionI .add [0] S100000 A 0#32 reduces_S32x100000_S100000 rfl (ix1 v) = BitVec.ofNat 32 (n v.val) := by
  have hs := (col_sum (fun i => (A i).toNat) v).trans (hA v)
  have hb : n v.val < 2 ^ 32 := (hn v.val).trans_lt (by norm_num)
  refine BitVec.eq_of_toNat_eq ?_
  refine (WordSum.toNat_multiReductionI_add A reduces_S32x100000_S100000 rfl (ix1 v) (by rw [hs]; exact hb)).trans ?_
  rw [hs, BitVec.toNat_ofNat, Nat.mod_eq_of_lt hb]

/-- A number of occurrences as a word, read back as a real, is the number. -/
theorem real_word (k : ℕ) (hk : k ≤ 3276800) : (FloatOps.sitofp (F := Ideal) .f32 (BitVec.ofNat 32 k) : EReal) = ((k : ℝ) : EReal) := by
  show (((BitVec.ofNat 32 k).toInt : ℝ) : EReal) = _
  rw [WordCmp.toInt_ofNat_of_lt (w := 32) (a := k) (by norm_num; omega), Int.cast_natCast]

/-- The bins' numbers as the call reads them off the table. -/
theorem hist_apply (A : IVec S32x100000 32) (n : ℕ → ℕ) (hn : ∀ v, n v ≤ 3276800)
    (hA : ∀ v : Fin 100000, ∑ a : Fin 32, (A (ix2 a v)).toNat = n v.val) (v : Fin 100000) :
    (sitofp .f32 (shapeCast S1x100000 (multiReductionI .add [0] S100000 (shapeCast S32x100000 A shapeCasts_S32x100000_S32x100000) 0#32
      reduces_S32x100000_S100000 rfl) shapeCasts_S100000_S1x100000) : FVec Ideal S1x100000 .f32) (ix2 0 v) = ((n v.val : ℝ) : EReal) := by
  rw [shapeCast_self, sitofp_apply, shapeCast_apply _ _ _ (ix1 v) (by
    rw [Shape.rowMajor_val_one, Shape.rowMajor_val_two]
    show v.val = 0 * 100000 + v.val
    omega), col_total A n hn hA]
  exact real_word _ (hn _)

/-- A logarithm at an index. -/
theorem log_apply {s : Shape} (x : FVec Ideal s .f32) (i : s.Idx) : (log x : FVec Ideal s .f32) i = Ideal.log (x i) := rfl

/-- The call's value is the rate of the bins' numbers. -/
theorem pay1_rate (A : IVec S32x100000 32) (r : FVec Ideal S1x100000 .f32) (e : FVec Ideal S100000 .f32) (n : ℕ → ℕ) (hn : ∀ v, n v ≤ 3276800)
    (hA : ∀ v : Fin 100000, ∑ a : Fin 32, (A (ix2 a v)).toNat = n v.val) (hr : ∀ v : Fin 100000, r (ix2 0 v) = e (ix1 v)) :
    k1_pay1 (F := Ideal) A r = rate e n := by
  unfold k1_pay1
  dsimp only
  rw [row_total, row_total, shapeCast_self r]
  simp only [mulf_apply, divf_apply, addf_apply, maximumf_apply, log_apply, hist_apply A n hn hA, hr]
  unfold rate logp smooth
  have hb : ∀ (x : Ideal .f32) (i : S1x100000.Idx), broadcast S1x100000 x i = x := fun _ _ => rfl
  have hw : ∀ w : BitVec 32, (FloatOps.ofBits .f32 w : Ideal .f32) = Ideal.ofBits .f32 w := fun _ => rfl
  have hd : ∀ x y : Ideal .f32, Scalar.divf x y = Ideal.div x y := fun _ _ => rfl
  simp only [hb, hw, hd]

/-! ## The call's operands, and the program's result -/

variable (m : (ℓ : Loc nD τ sig) → Buf (Elt Ideal) ℓ)

/-- The first reshape writes its own result only. -/
theorem V2_ne (d : Dev nD) (b : DevRef τ sig) (h : b ≠ r') : V2 m d b = V1 m d b := by
  unfold V2
  exact HloOp.result_of_not_mem (op := opIn) _ (by show b ∉ ({r'} : Finset (DevRef τ sig)); simpa using h)

/-- The table the call reads is the tiles' counts. -/
theorem stg0_eq (d : Dev nD) : stg0 (V2r m) d = partsOf m d := by
  have h : V2 m d p' = partsOf m d := (V2_ne m d p' (by decide)).trans (V1_p m d)
  have hemb : ∀ i : S32x100000.Idx, ((cfg1.win 0).blk t1_0).view.emb i = i := fun i => funext fun a => Fin.ext (by
    show 0 * _ + 1 * (i a).val = _
    omega)
  funext i
  exact (congrArg (V2r m d main_v0) (hemb i)).trans (congrFun h i)

/-- The row the call reads is the entropy parameters. -/
theorem stg1_eq (d : Dev nD) (v : Fin 100000) : stg1 (V2r m) d (ix2 0 v) = m ((SparseCore.T d).loc main_arg1) (ix1 v) := by
  have h : V2 m d r' = fun i => shapeCast S1x100000 (V1 m d e') shapeCasts_S100000_S1x100000 i := by
    unfold V2
    exact StableHlo.reshape_result main_arg1 main_v1 rfl shapeCasts_S100000_S1x100000 _ _ (V1 m d)
  have hemb : ∀ i : S1x100000.Idx, ((cfg1.win 1).blk t1_0).view.emb i = i := fun i => funext fun a => Fin.ext (by
    show 0 * _ + 1 * (i a).val = _
    omega)
  refine (congrArg (V2r m d main_v1) (hemb (ix2 0 v))).trans ((congrFun h (ix2 0 v)).trans ?_)
  refine (shapeCast_apply (s := S100000) (V1 m d e') shapeCasts_S100000_S1x100000 (ix2 0 v) (ix1 v) (by
    rw [Shape.rowMajor_val_one, Shape.rowMajor_val_two]
    show v.val = 0 * 100000 + v.val
    omega)).trans ?_
  exact congrFun (V1_ne m d e' (by decide)) (ix1 v)

/-- The program's result is the call's word. -/
theorem V4_out (d : Dev nD) : V4 m d o' = fun _ => bits m d := by
  have h : V4 m d o' = fun i => shapeCast S_ (V3 m d s') shapeCasts_S1x1_S_ i := by
    unfold V4
    exact StableHlo.reshape_result main_v2 main_v3 rfl shapeCasts_S1x1_S_ _ _ (V3 m d)
  rw [h]
  funext i
  have h3 : V3 m d s' = fun _ => bits m d := Function.update_self _ _ _
  rw [h3]
  rfl

/-- Under the bound on the indices, the program's result is the rate of the indices' numbers. -/
theorem V4_rate (hpre : PreOK m) (d : Dev nD) :
    V4 m d o' = fun _ => rate (m ((SparseCore.T d).loc main_arg1)) (occ (m (xLoc d))) := by
  rw [V4_out]
  funext _
  unfold bits
  have hp : ∀ v : Fin 100000, ∑ a : Fin 32, (partsOf m d (ix2 a v)).toNat = occ (m (xLoc d)) v.val := fun v => by
    rw [← tiles_occ]
    refine Finset.sum_congr rfl fun a _ => ?_
    have hle : cnt (m (xLoc d)) (512 * a.val) 512 v.val ≤ occ (m (xLoc d)) v.val := by
      rw [← tiles_occ]
      exact Finset.single_le_sum (f := fun a : Fin 32 => cnt (m (xLoc d)) (512 * a.val) 512 v.val) (fun _ _ => Nat.zero_le _) (Finset.mem_univ a)
    have := occ_le (m (xLoc d)) v.val
    show (BitVec.ofNat 32 (cnt (m (xLoc d)) (512 * a.val) 512 v.val)).toNat = _
    rw [BitVec.toNat_ofNat]
    exact Nat.mod_eq_of_lt (by omega)
  refine pay1_rate _ _ _ _ (fun v => occ_le _ v) (fun v => ?_) (fun v => stg1_eq m d v)
  rw [stg0_eq]
  exact hp v

end Cert.Proof.Hist

end
-- ==== Proof.Reference.lean ====
/-
  The reference's result over the extended reals: the same rate of the indices' numbers, where every index lies below
  100000. There the reference's clipping and wrapping of an index change nothing, its scatter counts the indices that
  name each bin, and its gather reads the bin each index names.
-/
module

public import proofs.«01_k».proof.Proof.Finalize
public import proofs.«01_k».proof.Proof.Gen.ReferenceIdeal
public import proofs.«01_k».proof.Proof.Gen.ReferenceIdeal.Run
public import Idealize.ShloMosaic.Lib.Routing.OpsPair
public import Idealize.ShloMosaic.Lib.Routing.OpsSet
public import Idealize.ShloMosaic.Lib.ReduceAll
public import Idealize.ShloMosaic.Lib.WordArith
public import Idealize.ShloMosaic.Lib.WordCmp
public import Idealize.ShloMosaic.Lib.ValueIdxRank1

@[expose] public section

noncomputable section

namespace Cert.Proof.Ref

open Cert.ReferenceIdeal Cert.ReferenceIdeal.Gen
open Idealize.ShloMosaic Idealize.ShloMosaic.ValueIdx Idealize.ShloMosaic.TcCoe
open Cert.Proof.Hist (occ occ_le sum_occ smooth logp rate factor_neg real_word AllBins)

/-! ## The reference's stages -/

/-- The indices in one row. -/
def flat (X : IVec S16384x200 32) : IVec S3276800 32 := shapeCast S3276800 X shapeCasts_S16384x200_S3276800

/-- The indices, the negative ones raised to zero. -/
def clipped (Z : IVec S3276800 32) : IVec S3276800 32 :=
  maxsi (broadcastInDim S3276800 ![] bcast_S_S3276800 (id (constantI S_ 32 0#32))) Z

/-- The indices, the negative ones counted from the table's end. -/
def wrapped (Z : IVec S3276800 32) : IVec S3276800 32 :=
  select (cmpi .slt Z (broadcastInDim S3276800 ![] bcast_S_S3276800 (constantI S_ 32 0#32)))
    (addi Z (broadcastInDim S3276800 ![] bcast_S_S3276800 (constantI S_ 32 100000#32))) Z

/-- The indices as a column. -/
def col (Z : IVec S3276800 32) : IVec S3276800x1 32 := broadcastInDim S3276800x1 ![0] bcast_S3276800_S3276800x1_0 Z

/-- The histogram: one added for every index at the bin it names. -/
def counts (J : IVec S3276800x1 32) : IVec S100000 32 :=
  Host.scatter scatter_S100000_S3276800x1_S3276800_n_0_0_1 IntOp.addi (broadcastInDim S100000 ![] bcast_S_S100000 (constantI S_ 32 0#32)) J
    (broadcastInDim S3276800 ![] bcast_S_S3276800 (constantI S_ 32 1#32))

/-- Whether each index names an entry of the table. -/
def mask (J : IVec S3276800x1 32) : IVec S3276800 1 :=
  Host.reduce IntOp.andi
    (andi (cmpi .sge J (broadcastInDim S3276800x1 ![] bcast_S_S3276800x1 (constantI S_ 32 0#32)))
      (cmpi .sle J (broadcastInDim S3276800x1 ![0, 1] bcast_S1x1_S3276800x1_0_1 (broadcastInDim S1x1 ![1] bcast_S1_S1x1_1 (constantI S1 32 99999#32)))))
    (constantI S_ 1 1#1) reducesTo_S3276800x1_S3276800_d1 h_S_

section
variable {F : FTy → Type} [FloatOps F]

/-- The smoothed counts. -/
def weight (e : FVec F S100000 .f32) (k : IVec S100000 32) : FVec F S100000 .f32 :=
  addf (addf e (sitofp .f32 k)) (broadcastInDim S100000 ![] bcast_S_S100000 (constant S_ .f32 0x322BCC77#32))

/-- The weights over their sum. -/
def probs (w : FVec F S100000 .f32) : FVec F S100000 .f32 :=
  Host.divf w (broadcastInDim S100000 ![] bcast_S_S100000 (Host.reduceAdd w (constant S_ .f32 0x00000000#32) reducesTo_S100000_S_d0 h_S_))

/-- The table's entry at each index; where an index names none, no number. -/
def picked (p : FVec F S100000 .f32) (J : IVec S3276800x1 32) : FVec F S3276800 .f32 :=
  select (mask J) (Host.gather gather_S100000_S3276800x1_S3276800_n_0_n_n_0_1_1 p J)
    (broadcastInDim S3276800 ![] bcast_S_S3276800 (constant S_ .f32 0x7FC00000#32))

/-- The mean of the bits of the probabilities, each kept away from zero. -/
def mean (t : FVec F S3276800 .f32) : FVec F S_ .f32 :=
  Host.divf (Host.reduceAdd (Host.negf (mulf (Host.log (maximumf t (broadcastInDim S3276800 ![] bcast_S_S3276800 (constant S_ .f32 0x2EDBE6FF#32))))
    (broadcastInDim S3276800 ![] bcast_S_S3276800 (constant S_ .f32 0x3FB8AA3B#32)))) (constant S_ .f32 0x00000000#32) reducesTo_S3276800_S_d0 h_S_)
    (constant S_ .f32 0x4A480000#32)

set_option maxRecDepth 8192 in
/-- The reference's result, stage by stage. -/
theorem res_eq (m : (ℓ : Loc nD τ sig) → Buf (Elt F) ℓ) (c : Dev nD) :
    Value.res_out0 m c = mean (picked (probs (weight (m ((c.tc : Thread nD τ).loc main_arg1)) (counts (col (wrapped (clipped (flat (m ((c.tc : Thread nD τ).loc main_arg0)))))))))
      (col (wrapped (flat (m ((c.tc : Thread nD τ).loc main_arg0)))))) := rfl

end

/-! ## The indices -/

/-- Raising the negative indices to zero changes none that lies below 100000. -/
theorem clipped_eq (Z : IVec S3276800 32) (hZ : ∀ i, (Z i).toNat < 100000) : clipped Z = Z := by
  funext i
  have h := hZ i
  show IntOp.maxsi 0#32 (Z i) = Z i
  refine BitVec.eq_of_toNat_eq ?_
  rw [WordArith.toNat_maxsi_zero, WordCmp.toInt_eq_toNat_of_lt_half (w := 32) (by norm_num; omega), Int.toNat_natCast]

/-- Counting the negative indices from the end changes none that lies below 100000. -/
theorem wrapped_eq (Z : IVec S3276800 32) (hZ : ∀ i, (Z i).toNat < 100000) : wrapped Z = Z := by
  funext i
  have h := hZ i
  show Scalar.select (IntOp.cmpi .slt (Z i) 0#32) _ (Z i) = Z i
  rw [WordCmp.cmpi_slt_zero, decide_eq_false (by norm_num; omega)]
  rfl

/-- The column's entry is the row's. -/
theorem col_apply (Z : IVec S3276800 32) (q : S3276800x1.Idx) : col Z q = Z (ix1 (q 0)) := by
  refine congrArg Z (funext fun a => Fin.ext ?_)
  match a with
  | ⟨0, _⟩ =>
    exact congrArg Fin.val (dif_neg (show ¬ (3276800 : ℕ) = 1 by decide))

/-- Every index names an entry of the table. -/
theorem mask_one (Z : IVec S3276800 32) (hZ : ∀ i, (Z i).toNat < 100000) (i : S3276800.Idx) : mask (col Z) i = 1#1 := by
  refine Host.reduce_andi_one _ _ _ _ i rfl fun q => ?_
  show IntOp.andi (IntOp.cmpi .sge (col Z q) 0#32) (IntOp.cmpi .sle (col Z q) 99999#32) = 1#1
  rw [col_apply]
  have h := hZ (ix1 (q 0))
  rw [WordCmp.cmpi_sge_zero, WordCmp.cmpi_sle_of_lt (by norm_num; omega) (by decide), decide_eq_true (by norm_num; omega),
    decide_eq_true (by show _ ≤ 99999; omega)]
  rfl

/-! ## The histogram -/

/-- Update `i` lands at bin `v` exactly when its index word, read signed, is `v`. -/
theorem lands (J : IVec S3276800x1 32) (i : Fin 3276800) (v : Fin 100000) :
    scatter_S100000_S3276800x1_S3276800_n_0_0_1.resultIdx? (ix1 i) J = some (ix1 v) ↔ (J (ix2 i 0)).toInt = (v.val : ℤ) := by
  have hw : scatter_S100000_S3276800x1_S3276800_n_0_0_1.window (ix1 i) 0 = 0 := by
    unfold ScatterDims.window
    exact dif_neg fun h => (of_decide_eq_true (List.mem_filter.1 h).2) (List.mem_singleton.2 rfl)
  have hs : scatter_S100000_S3276800x1_S3276800_n_0_0_1.start (ix1 i) J 0 = (J (ix2 i 0)).toInt := by
    unfold ScatterDims.start
    rw [dif_pos (show (0 : Fin 1) ∈ scatter_S100000_S3276800x1_S3276800_n_0_0_1.scatterDimsToOperandDims from List.mem_singleton.2 rfl)]
    refine congrArg (fun q => (J q).toInt) (funext fun b => Fin.ext ?_)
    match b with
    | ⟨0, _⟩ => rfl
    | ⟨1, _⟩ => rfl
  rw [Routing.resultIdx?_ix1, hw, hs]
  simp

/-- The histogram's bin holds the number of the indices that name it. -/
theorem counts_apply (X : IVec S16384x200 32) (hX : AllBins X) (v : Fin 100000) :
    counts (col (flat X)) (ix1 v) = BitVec.ofNat 32 (occ X v.val) := by
  unfold counts
  rw [Routing.scatter_at]
  have hstep : ∀ (a : BitVec 32) (n : Fin S3276800.numel),
      (if scatter_S100000_S3276800x1_S3276800_n_0_0_1.resultIdx? (S3276800.rowMajor.symm n) (col (flat X)) = some (ix1 v)
        then IntOp.addi a ((broadcastInDim S3276800 ![] bcast_S_S3276800 (constantI S_ 32 1#32)) (S3276800.rowMajor.symm n)) else a)
      = IntOp.addi a (BitVec.ofNat 32 (if (flat X (S3276800.rowMajor.symm n)).toNat = v.val then 1 else 0)) := fun a n => by
    generalize S3276800.rowMajor.symm n = i
    obtain ⟨k, rfl⟩ : ∃ k : Fin 3276800, i = ix1 k := ⟨i 0, eq_ix1 i⟩
    have hk : (flat X (ix1 k)).toNat < 100000 := hX _
    have hc : (col (flat X) (ix2 k 0)).toInt = ((flat X (ix1 k)).toNat : ℤ) := by
      rw [col_apply]
      exact WordCmp.toInt_eq_toNat_of_lt_half (w := 32) (by norm_num; exact hk.trans (by norm_num))
    by_cases h : (flat X (ix1 k)).toNat = v.val
    · rw [if_pos ((lands _ k v).mpr (by rw [hc, h])), if_pos h]
      rfl
    · rw [if_neg fun h' => h (Int.natCast_inj.mp (hc.symm.trans ((lands _ k v).mp h'))), if_neg h]
      exact (BitVec.add_zero a).symm
  refine (congrArg (fun g => (List.finRange S3276800.numel).foldl g _) (funext fun a => funext fun n => hstep a n)).trans ?_
  refine (Routing.foldl_addi_ofNat _ _ (fun n => if (flat X (S3276800.rowMajor.symm n)).toNat = v.val then 1 else 0) (fun _ _ => rfl) _ 0 rfl).trans ?_
  rw [Nat.zero_add, ← Fin.sum_univ_def]
  refine congrArg (BitVec.ofNat 32) ?_
  refine (Equiv.sum_comp S3276800.rowMajor.symm fun i => if (flat X i).toNat = v.val then 1 else 0).trans ?_
  exact Equiv.sum_comp (Shape.reshapeEquiv shapeCasts_S16384x200_S3276800) fun x => if (X x).toNat = v.val then 1 else 0

/-! ## The probabilities -/

/-- The smoothed count of a bin is that of the indices' number of it. -/
theorem weight_apply (e : FVec Ideal S100000 .f32) (X : IVec S16384x200 32) (hX : AllBins X) (v : Fin 100000) :
    weight e (counts (col (flat X))) (ix1 v) = smooth e (occ X) v := by
  have h : (FloatOps.sitofp (F := Ideal) .f32 (counts (col (flat X)) (ix1 v)) : EReal) = ((occ X v.val : ℝ) : EReal) := by
    rw [counts_apply X hX]
    exact real_word _ (occ_le _ _)
  show e (ix1 v) + (FloatOps.sitofp (F := Ideal) .f32 (counts (col (flat X)) (ix1 v)) : EReal) + Ideal.ofBits .f32 0x322BCC77#32 = _
  rw [h]
  rfl

/-- A scalar broadcast holds the scalar everywhere. -/
theorem splat_apply {α : Type} (t : Shape) (h : S_.BroadcastsInDim t ![]) (x : S_.Idx → α) (i : t.Idx) (j : S_.Idx) :
    broadcastInDim t ![] h x i = x j := congrArg x (funext fun a => a.elim0)

/-- The host's quotient, element by element. -/
theorem quot_apply {s : Shape} (x y : FVec Ideal s .f32) (i : s.Idx) : Host.divf x y i = Ideal.div (x i) (y i) := rfl

/-- A bin's probability is its weight over the sum of the weights. -/
theorem probs_apply (w : FVec Ideal S100000 .f32) (v : Fin 100000) : probs w (ix1 v) = Ideal.div (w (ix1 v)) (∑ u : Fin 100000, w (ix1 u)) := by
  have h : ∀ j : S_.Idx, (Host.reduceAdd w (constant S_ .f32 0x00000000#32) reducesTo_S100000_S_d0 h_S_) j = ∑ u : Fin 100000, w (ix1 u) := fun j => by
    refine (Ideal.hostReduceAdd_total reducesTo_S100000_S_d0 (fun b => b.elim0) w _ j).trans ?_
    refine (congrArg₂ (· + ·) Ideal.ofBits_zero_f32 (Equiv.sum_comp (idxEquiv1 (n := 100000)).symm w).symm).trans ?_
    exact zero_add _
  unfold probs
  rw [quot_apply, splat_apply _ _ _ _ (fun a => a.elim0), h]

/-- The entry picked for an index is the one it names. -/
theorem picked_apply (p : FVec Ideal S100000 .f32) (Z : IVec S3276800 32) (hZ : ∀ i, (Z i).toNat < 100000) (i : S3276800.Idx) :
    picked p (col Z) i = p (ix1 ⟨(Z i).toNat, hZ i⟩) := by
  have h1 : picked p (col Z) i = Host.gather gather_S100000_S3276800x1_S3276800_n_0_n_n_0_1_1 p (col Z) i := by
    unfold picked
    rw [WordCmp.select_at, mask_one Z hZ i]
    exact if_pos rfl
  rw [h1]
  obtain ⟨k, rfl⟩ : ∃ k : Fin 3276800, i = ix1 k := ⟨i 0, eq_ix1 i⟩
  refine Routing.gather_take1 gather_S100000_S3276800x1_S3276800_n_0_n_n_0_1_1 rfl rfl rfl rfl p (col Z) k ⟨(Z (ix1 k)).toNat, hZ _⟩ ?_ (by norm_num)
  rw [col_apply]
  exact ((BitVec.ofNat_toNat 32 (Z (ix1 k))).trans (BitVec.setWidth_eq _)).symm

/-! ## The mean -/

/-- The mean is the sum of the bits over the number of indices. -/
theorem mean_eq (t : FVec Ideal S3276800 .f32) (j : S_.Idx) :
    mean t j = Ideal.div (∑ i : S3276800.Idx, -(Ideal.log (max (t i) (Ideal.ofBits .f32 0x2EDBE6FF#32)) * Ideal.ofBits .f32 0x3FB8AA3B#32))
      (Ideal.ofBits .f32 0x4A480000#32) := by
  refine congrArg (fun s => Ideal.div s (Ideal.ofBits .f32 0x4A480000#32)) ?_
  refine (Ideal.hostReduceAdd_total reducesTo_S3276800_S_d0 (fun b => b.elim0) _ _ j).trans ?_
  refine (congrArg (· + _) Ideal.ofBits_zero_f32).trans ?_
  exact zero_add _

/-- Where every index lies below 100000, the stages' result is the rate of the indices' numbers. -/
theorem stages_rate (e : FVec Ideal S100000 .f32) (X : IVec S16384x200 32) (hX : AllBins X) :
    mean (picked (probs (weight e (counts (col (wrapped (clipped (flat X))))))) (col (wrapped (flat X)))) = fun _ => rate e (occ X) := by
  have hZ : ∀ i, (flat X i).toNat < 100000 := fun i => hX _
  rw [clipped_eq _ hZ, wrapped_eq _ hZ]
  funext j
  rw [mean_eq]
  have hp : ∀ v : Fin 100000, probs (weight e (counts (col (flat X)))) (ix1 v) = Ideal.div (smooth e (occ X) v) (∑ u, smooth e (occ X) u) := fun v => by
    rw [probs_apply, weight_apply e X hX, Finset.sum_congr rfl fun u _ => weight_apply e X hX u]
  unfold rate
  refine congrArg (fun s => Ideal.div s (Ideal.ofBits .f32 0x4A480000#32)) ?_
  have hterm : ∀ i : S3276800.Idx,
      -(Ideal.log (max (picked (probs (weight e (counts (col (flat X))))) (col (flat X)) i) (Ideal.ofBits .f32 0x2EDBE6FF#32)) * Ideal.ofBits .f32 0x3FB8AA3B#32)
      = (fun k : ℕ => if h : k < 100000 then logp e (occ X) ⟨k, h⟩ * Ideal.ofBits .f32 0xBFB8AA3B#32 else 0) (flat X i).toNat := fun i => by
    rw [picked_apply _ _ hZ, hp]
    dsimp only
    rw [dif_pos (hZ i), factor_neg, mul_neg]
    rfl
  rw [Finset.sum_congr rfl fun i _ => hterm i]
  refine (Equiv.sum_comp (Shape.reshapeEquiv shapeCasts_S16384x200_S3276800) fun x =>
    (fun k : ℕ => if h : k < 100000 then logp e (occ X) ⟨k, h⟩ * Ideal.ofBits .f32 0xBFB8AA3B#32 else 0) (X x).toNat).trans ?_
  refine (sum_occ X hX fun k : ℕ => if h : k < 100000 then logp e (occ X) ⟨k, h⟩ * Ideal.ofBits .f32 0xBFB8AA3B#32 else 0).trans ?_
  exact Finset.sum_congr rfl fun v _ => congrArg _ (dif_pos v.isLt)

/-- The reference's result is the rate of the indices' numbers. -/
theorem res_rate (m : (ℓ : Loc nD τ sig) → Buf (Elt Ideal) ℓ) (c : Dev nD) (hX : AllBins (m ((c.tc : Thread nD τ).loc main_arg0))) :
    Value.res_out0 m c = fun _ => rate (m ((c.tc : Thread nD τ).loc main_arg1)) (occ (m ((c.tc : Thread nD τ).loc main_arg0))) :=
  (res_eq m c).trans (stages_rate _ _ hX)

end Cert.Proof.Ref

end
-- ==== Proof.lean ====
/-
  The certificate: the frames of the kernel and of the reference, and the equality of their results over the extended reals.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_in_range
public import proofs.«01_k».proof.Proof.Pre
public import proofs.«01_k».proof.Proof.Same
public import proofs.«01_k».proof.Proof.Finalize
public import proofs.«01_k».proof.Proof.Reference
public import Idealize.ShloMosaic.Adequacy
public import Idealize.ShloMosaic.Init

@[expose] public section

noncomputable section

namespace Cert.Proof

open Idealize.ShloMosaic Idealize.SL.Sem

/-- The kernel as printed ends with its arguments unchanged and every semaphore at zero. -/
theorem frame_kernel : Cert.quiescent_Kernel := fun m ρ hp =>
  (θ_run Cert.Kernel.defs _ _).mono (fun _ h => ⟨fun c => ⟨(h.1 c).1, (h.1 c).2.1⟩, h.2⟩)
    (Same.run_kernel m ρ _ (Hist.run_main (F := Bits) m ρ (Hist.preOK_kernel m hp)))

/-- The idealized kernel likewise. -/
theorem frame_kernelIdeal : Cert.quiescent_KernelIdeal := fun m ρ hp =>
  (θ_run Cert.KernelIdeal.defs _ _).mono (fun _ h => ⟨fun c => ⟨(h.1 c).1, (h.1 c).2.1⟩, h.2⟩)
    (Hist.run_main (F := Ideal) m ρ (Hist.preOK_kernelIdeal m hp))

/-- The reference ends with its arguments unchanged; it declares no semaphore. -/
theorem frame_reference : Cert.quiescent_ReferenceIdeal := fun m ρ _ =>
  (θ_run Cert.ReferenceIdeal.defs _ _).mono
    (fun r h => ⟨fun c => ⟨(h c).2.1, (h c).2.2⟩, Idealize.ShloMosaic.sem_eq_zero_of_no_sems (by decide) r.2⟩)
    (Cert.ReferenceIdeal.Value.run (F := Ideal) m ρ)

/-- The idealized kernel and the reference end with the same result: the rate of the indices' numbers. -/
theorem algebraic : Cert.algebraic_KernelIdeal_ReferenceIdeal := fun m g m' g' hp hm => by
  have hpre := Hist.preOK_kernelIdeal m hp
  refine ⟨fun c => fun _ => Hist.rate (m ((c.tc : Thread Cert.KernelIdeal.nD Cert.KernelIdeal.τ).loc Cert.KernelIdeal.main_arg1))
    (Hist.occ (m ((c.tc : Thread Cert.KernelIdeal.nD Cert.KernelIdeal.τ).loc Cert.KernelIdeal.main_arg0))), ?_, ?_⟩
  · refine (θ_run Cert.KernelIdeal.defs _ _).mono (fun _ h c => ⟨?_, (h.1 c).1, (h.1 c).2.1⟩) (Hist.run_main (F := Ideal) m g hpre)
    exact (h.1 c).2.2.trans (Hist.V4_rate m hpre c)
  · refine (θ_run Cert.ReferenceIdeal.defs _ _).mono (fun _ h c => ⟨?_, (h c).2.1, (h c).2.2⟩) (Cert.ReferenceIdeal.Value.run (F := Ideal) m' g')
    have hX : Hist.AllBins (m' ((c.tc : Thread Cert.ReferenceIdeal.nD Cert.ReferenceIdeal.τ).loc Cert.ReferenceIdeal.main_arg0)) := by
      rw [(hm c).1]
      exact hpre c
    refine (h c).1.trans ((Ref.res_rate m' c hX).trans ?_)
    rw [(hm c).1, (hm c).2]
    rfl

/-- `Cert.Claim`. -/
theorem claim : Cert.Claim :=
  ⟨Cert.Kernel.Gen.facts, Cert.KernelIdeal.Gen.facts, Cert.ReferenceIdeal.Gen.facts, Cert.Pre_in_range.Gen.facts,
    frame_kernel, frame_kernelIdeal, frame_reference, trivial, algebraic⟩

end Cert.Proof

end
